-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S3x5632x2048 : Shape := ⟨3, ![3, 5632, 2048]⟩
abbrev S3x5632x16 : Shape := ⟨3, ![3, 5632, 16]⟩
abbrev S_ : Shape := ⟨0, ![]⟩

class Facts : Prop where
  bcast_S_S3x5632x16 : S_.BroadcastsInDim S3x5632x16 (![] : Fin 0 → Fin S3x5632x16.rank)

variable [Facts]

def fn {F : FTy → Type} [FloatOps F] (main_arg0 : FVec F S3x5632x2048 .fp8e4m3) (main_arg1 : FVec F S3x5632x16 .f32) (main_arg2 : FVec F S3x5632x2048 .bf16) (main_arg3 : FVec F S3x5632x2048 .f32) : IVec S3x5632x16 1 :=
  let main_v0 : FVec F S3x5632x16 .f32 := Host.absf main_arg1
  let main_cst : FVec F S_ .f32 := constant S_ .f32 0x7F800000#32
  let main_v1 : FVec F S3x5632x16 .f32 := broadcastInDim S3x5632x16 ![] bcast_S_S3x5632x16 main_cst
  let main_v2 : IVec S3x5632x16 1 := cmpf .olt main_v0 main_v1
  main_v2
-- ==== Kernel.lean ====
abbrev S3x5632x2048 : Shape := ⟨3, ![3, 5632, 2048]⟩
abbrev S3x5632x16 : Shape := ⟨3, ![3, 5632, 16]⟩
abbrev S16896x2048 : Shape := ⟨2, ![16896, 2048]⟩
abbrev S3x16x5632 : Shape := ⟨3, ![3, 16, 5632]⟩
abbrev S3x44x2048 : Shape := ⟨3, ![3, 44, 2048]⟩
abbrev S512x2048 : Shape := ⟨2, ![512, 2048]⟩
abbrev S1x16x512 : Shape := ⟨3, ![1, 16, 512]⟩
abbrev S1x44x2048 : Shape := ⟨3, ![1, 44, 2048]⟩
abbrev S128x2048 : Shape := ⟨2, ![128, 2048]⟩
abbrev S4x16x128 : Shape := ⟨3, ![4, 16, 128]⟩
abbrev S128x128 : Shape := ⟨2, ![128, 128]⟩
abbrev S80x128 : Shape := ⟨2, ![80, 128]⟩
abbrev S1x16x128 : Shape := ⟨3, ![1, 16, 128]⟩
abbrev S16x128 : Shape := ⟨2, ![16, 128]⟩
abbrev S128x256 : Shape := ⟨2, ![128, 256]⟩
abbrev S256 : Shape := ⟨1, ![256]⟩
abbrev S1x256 : Shape := ⟨2, ![1, 256]⟩
abbrev S1x128 : Shape := ⟨2, ![1, 128]⟩
abbrev S1x1x128 : Shape := ⟨3, ![1, 1, 128]⟩
abbrev S128 : Shape := ⟨1, ![128]⟩
abbrev S128x1 : Shape := ⟨2, ![128, 1]⟩

abbrev nBuf : Space → Nat
  | .hbm => 13
  | .vmem => 23
  | .smem => 0
  | _ => 0

abbrev bufTy : (tb : Table) → Fin (tcTables nBuf tb) → BufTy
  | .hbm, ⟨0, _⟩ => ⟨S3x5632x2048, .fp8e4m3⟩
  | .hbm, ⟨1, _⟩ => ⟨S3x5632x16, .f32⟩
  | .hbm, ⟨2, _⟩ => ⟨S3x5632x2048, .bf16⟩
  | .hbm, ⟨3, _⟩ => ⟨S3x5632x2048, .f32⟩
  | .hbm, ⟨4, _⟩ => ⟨S16896x2048, .fp8e4m3⟩
  | .hbm, ⟨5, _⟩ => ⟨S3x16x5632, .f32⟩
  | .hbm, ⟨6, _⟩ => ⟨S16896x2048, .bf16⟩
  | .hbm, ⟨7, _⟩ => ⟨S16896x2048, .f32⟩
  | .hbm, ⟨8, _⟩ => ⟨S16896x2048, .bf16⟩
  | .hbm, ⟨9, _⟩ => ⟨S16896x2048, .fp8e4m3⟩
  | .hbm, ⟨10, _⟩ => ⟨S3x16x5632, .f32⟩
  | .hbm, ⟨11, _⟩ => ⟨S16896x2048, .fp8e4m3⟩
  | .hbm, ⟨12, _⟩ => ⟨S3x44x2048, .f32⟩
  | .local _ .vmem, ⟨0, _⟩ => ⟨S512x2048, .fp8e4m3⟩
  | .local _ .vmem, ⟨1, _⟩ => ⟨S512x2048, .fp8e4m3⟩
  | .local _ .vmem, ⟨2, _⟩ => ⟨S1x16x512, .f32⟩
  | .local _ .vmem, ⟨3, _⟩ => ⟨S1x16x512, .f32⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .fp8e4m3⟩
  | .local _ .vmem, ⟨11, _⟩ => ⟨S512x2048, .fp8e4m3⟩
  | .local _ .vmem, ⟨12, _⟩ => ⟨S1x16x512, .f32⟩
  | .local _ .vmem, ⟨13, _⟩ => ⟨S1x16x512, .f32⟩
  | .local _ .vmem, ⟨14, _⟩ => ⟨S512x2048, .fp8e4m3⟩
  | .local _ .vmem, ⟨15, _⟩ => ⟨S512x2048, .fp8e4m3⟩
  | .local _ .vmem, ⟨16, _⟩ => ⟨S1x44x2048, .f32⟩
  | .local _ .vmem, ⟨17, _⟩ => ⟨S1x44x2048, .f32⟩
  | .local _ .vmem, ⟨18, _⟩ => ⟨S512x2048, .f32⟩
  | .local _ .vmem, ⟨19, _⟩ => ⟨S128x2048, .bf16⟩
  | .local _ .vmem, ⟨20, _⟩ => ⟨S4x16x128, .f32⟩
  | .local _ .vmem, ⟨21, _⟩ => ⟨S4x16x128, .f32⟩
  | .local _ .vmem, ⟨22, _⟩ => ⟨S4x16x128, .f32⟩
  | _, _ => ⟨S3x5632x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 11], ![false, false]⟩

def k0_off1 (i : grid0.Coords) (c0_i32_362 : BitVec 32) : Fin 3 → Nat :=
  let c0_366 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v867 : Index := Scalar.indexCast v864
  let c0_367 : Index := 0#32
  ![0, v867.toNat, 0]
def k0_off2 (i : grid0.Coords) (c0_i32_362 : BitVec 32) : Fin 3 → Nat :=
  let c0_374 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v875 : Index := Scalar.indexCast v864
  let c128_375 : Index := 128#32
  ![0, v875.toNat, 128]
def k0_off3 (i : grid0.Coords) (c0_i32_362 : BitVec 32) : Fin 3 → Nat :=
  let c0_400 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v909 : Index := Scalar.indexCast v864
  let c256_401 : Index := 256#32
  ![0, v909.toNat, 256]
def k0_off4 (i : grid0.Coords) (c0_i32_362 : BitVec 32) : Fin 3 → Nat :=
  let c0_408 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v917 : Index := Scalar.indexCast v864
  let c384 : Index := 384#32
  ![0, v917.toNat, 384]
def k0_off5 (i : grid0.Coords) (c0_i32_362 : BitVec 32) : Fin 3 → Nat :=
  let c0_433 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v951 : Index := Scalar.indexCast v864
  let c512_434 : Index := 512#32
  ![0, v951.toNat, 512]
def k0_off6 (i : grid0.Coords) (c0_i32_362 : BitVec 32) : Fin 3 → Nat :=
  let c0_441 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v959 : Index := Scalar.indexCast v864
  let c640 : Index := 640#32
  ![0, v959.toNat, 640]
def k0_off7 (i : grid0.Coords) (c0_i32_362 : BitVec 32) : Fin 3 → Nat :=
  let c0_466 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v993 : Index := Scalar.indexCast v864
  let c768_467 : Index := 768#32
  ![0, v993.toNat, 768]
def k0_off8 (i : grid0.Coords) (c0_i32_362 : BitVec 32) : Fin 3 → Nat :=
  let c0_474 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v1001 : Index := Scalar.indexCast v864
  let c896 : Index := 896#32
  ![0, v1001.toNat, 896]
def k0_off9 (i : grid0.Coords) (c0_i32_362 : BitVec 32) : Fin 3 → Nat :=
  let c0_499 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v1035 : Index := Scalar.indexCast v864
  let c1024_500 : Index := 1024#32
  ![0, v1035.toNat, 1024]
def k0_off10 (i : grid0.Coords) (c0_i32_362 : BitVec 32) : Fin 3 → Nat :=
  let c0_507 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v1043 : Index := Scalar.indexCast v864
  let c1152 : Index := 1152#32
  ![0, v1043.toNat, 1152]
def k0_off11 (i : grid0.Coords) (c0_i32_362 : BitVec 32) : Fin 3 → Nat :=
  let c0_532 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v1077 : Index := Scalar.indexCast v864
  let c1280_533 : Index := 1280#32
  ![0, v1077.toNat, 1280]
def k0_off12 (i : grid0.Coords) (c0_i32_362 : BitVec 32) : Fin 3 → Nat :=
  let c0_540 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v1085 : Index := Scalar.indexCast v864
  let c1408 : Index := 1408#32
  ![0, v1085.toNat, 1408]
def k0_off13 (i : grid0.Coords) (c0_i32_362 : BitVec 32) : Fin 3 → Nat :=
  let c0_565 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v1119 : Index := Scalar.indexCast v864
  let c1536_566 : Index := 1536#32
  ![0, v1119.toNat, 1536]
def k0_off14 (i : grid0.Coords) (c0_i32_362 : BitVec 32) : Fin 3 → Nat :=
  let c0_573 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v1127 : Index := Scalar.indexCast v864
  let c1664 : Index := 1664#32
  ![0, v1127.toNat, 1664]
def k0_off15 (i : grid0.Coords) (c0_i32_362 : BitVec 32) : Fin 3 → Nat :=
  let c0_598 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v1161 : Index := Scalar.indexCast v864
  let c1792_599 : Index := 1792#32
  ![0, v1161.toNat, 1792]
def k0_off16 (i : grid0.Coords) (c0_i32_362 : BitVec 32) : Fin 3 → Nat :=
  let c0_606 : Index := 0#32
  let arg1 : BitVec 32 := BitVec.ofNat 32 (i 1).val
  let c4_i32_361 : BitVec 32 := 4#32
  let v863 : BitVec 32 := Scalar.muli arg1 c4_i32_361
  let v864 : BitVec 32 := Scalar.addi v863 c0_i32_362
  let v1169 : Index := Scalar.indexCast v864
  let c1920 : Index := 1920#32
  ![0, v1169.toNat, 1920]
def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x44x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S3x5632x2048 : Shape := ⟨3, ![3, 5632, 2048]⟩
abbrev S3x5632x16 : Shape := ⟨3, ![3, 5632, 16]⟩
abbrev S16896x2048 : Shape := ⟨2, ![16896, 2048]⟩
abbrev S3x5632x16x128 : Shape := ⟨4, ![3, 5632, 16, 128]⟩
abbrev S3x5632x16x1 : Shape := ⟨4, ![3, 5632, 16, 1]⟩
abbrev S3x5632x16x1x246 : Shape := ⟨5, ![3, 5632, 16, 1, 246]⟩
abbrev S3x5632x16x1x1 : Shape := ⟨5, ![3, 5632, 16, 1, 1]⟩
abbrev S3x44x128x2048 : Shape := ⟨4, ![3, 44, 128, 2048]⟩
abbrev S3x44x2048 : Shape := ⟨3, ![3, 44, 2048]⟩
abbrev S3x44x1x2048 : Shape := ⟨4, ![3, 44, 1, 2048]⟩
abbrev S3x44x1x2048x246 : Shape := ⟨5, ![3, 44, 1, 2048, 246]⟩
abbrev S3x44x1x2048x1 : Shape := ⟨5, ![3, 44, 1, 2048, 1]⟩

abbrev nBuf : Space → Nat
  | .hbm => 7
  | .vmem => 7
  | .smem => 0
  | _ => 0

abbrev bufTy : (tb : Table) → Fin (tcTables nBuf tb) → BufTy
  | .hbm, ⟨0, _⟩ => ⟨S3x5632x2048, .fp8e4m3⟩
  | .hbm, ⟨1, _⟩ => ⟨S3x5632x16, .f32⟩
  | .hbm, ⟨2, _⟩ => ⟨S3x5632x2048, .bf16⟩
  | .hbm, ⟨3, _⟩ => ⟨S3x5632x2048, .f32⟩
  | .hbm, ⟨4, _⟩ => ⟨S16896x2048, .bf16⟩
  | .hbm, ⟨5, _⟩ => ⟨S16896x2048, .fp8e4m3⟩
  | .hbm, ⟨6, _⟩ => ⟨S16896x2048, .fp8e4m3⟩
  | .local _ .vmem, ⟨0, _⟩ => ⟨S3x5632x2048, .fp8e4m3⟩
  | .local _ .vmem, ⟨1, _⟩ => ⟨S3x5632x16, .f32⟩
  | .local _ .vmem, ⟨2, _⟩ => ⟨S3x5632x2048, .bf16⟩
  | .local _ .vmem, ⟨3, _⟩ => ⟨S3x5632x2048, .f32⟩
  | .local _ .vmem, ⟨4, _⟩ => ⟨S16896x2048, .bf16⟩
  | .local _ .vmem, ⟨5, _⟩ => ⟨S16896x2048, .fp8e4m3⟩
  | .local _ .vmem, ⟨6, _⟩ => ⟨S16896x2048, .fp8e4m3⟩
  | _, _ => ⟨S3x5632x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x5632x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x5632x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x5632x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16896x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16896x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16896x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.FRuns.lean ====
/- What the two runs of the kernel share: the frame kit, the branch condition, the staging and scratch memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 11 % 3 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 33 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x44x2048 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x2048 .f32 := Memref.whole cc0_scratch0
abbrev scM0_1 : Memref sig .tc .vmem S128x2048 .bf16 := Memref.whole cc0_scratch1
abbrev scM0_2 : Memref sig .tc .vmem S4x16x128 .f32 := Memref.whole cc0_scratch2
abbrev scM0_3 : Memref sig .tc .vmem S4x16x128 .f32 := Memref.whole cc0_scratch3
abbrev scM0_4 : Memref sig .tc .vmem S4x16x128 .f32 := Memref.whole cc0_scratch4
/-- The scratch `arg12` the kernel carries between points, as a view: what it holds is stated through it. -/
abbrev VS0_1 : View sig .tc .vmem S128x2048 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Run

end
-- ==== Proof.FRunA.lean ====
/- The run of the whole body at the first grid point, where the 0/1 matrix is written. -/
module

public import proofs.«01_k».proof.Proof.FRuns

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5800000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8) at anything, handed back at some contents nothing names. -/
noncomputable def kernelRun0_A (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec F S512x2048 .fp8e4m3) (x1 : Vec F S1x16x512 .f32) (x2 : Vec F S512x2048 .bf16) (x3 : Vec F S512x2048 .f32) :
    { LS1 : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS1) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_split_update i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_split_update_eq_skeleton]; unfold cc0_split_update_skel
    simp only [k0_part95_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Run

end
-- ==== Proof.FRunB.lean ====
/- The run of the whole body at the later grid points. -/
module

public import proofs.«01_k».proof.Proof.FRunA

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5788000 in
/-- What the body's stores leave in each output's staging memref, as pieces (last first) IN CASE B (`scf.if` 0 not taken: points 1, 2, … 32: 32 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8) at anything, handed back at some contents nothing names. -/
noncomputable def kernelRun0_B (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : ¬cond0_0 i)
    (x0 : Vec F S512x2048 .fp8e4m3) (x1 : Vec F S1x16x512 .f32) (x2 : Vec F S512x2048 .bf16) (x3 : Vec F S512x2048 .f32) (xs1 : Vec F S128x2048 .bf16) :
    { LS1 : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_split_update i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], fun E K => ?run⟩
  case run =>
    simp only [cc0_split_update_eq_skeleton]; unfold cc0_split_update_skel
    simp only [k0_part95_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%fs1, %hfs1, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg12.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _; isplitr; · ipureintro; exact harg12.read_unread _
      iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Run

end
-- ==== Proof.FFrame.lean ====
/- The frame of the kernel: what the scratch matrix holds point by point, the run with the outputs left unnamed, and the claim. -/
module

public import proofs.«01_k».proof.Proof.FRunB
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: 1 piece of `S128x2048` tiling it (Lib/Ring.lean `Piece.tiledL`). -/
theorem scover0_A_1 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec F S512x2048 .fp8e4m3) (x1 : Vec F S1x16x512 .f32) (x2 : Vec F S512x2048 .bf16) (x3 : Vec F S512x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).1 S128x2048.size (by sl_kernel_rfl) y

/-- What case A leaves in scratch `arg12`: its pieces read back over junk. -/
def sout0_A_1 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec F S512x2048 .fp8e4m3) (x1 : Vec F S1x16x512 .f32) (x2 : Vec F S512x2048 .bf16) (x3 : Vec F S512x2048 .f32) : Vec F S128x2048 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).1)

/-- Case B stores nothing into scratch `arg12`: it holds what the point before left. -/
def sout0_B_1 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : ¬cond0_0 i)
    (x0 : Vec F S512x2048 .fp8e4m3) (x1 : Vec F S1x16x512 .f32) (x2 : Vec F S512x2048 .bf16) (x3 : Vec F S512x2048 .f32) (xs1 : Vec F S128x2048 .bf16) : Vec F S128x2048 .bf16 := xs1

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x2048 .bf16
  | 0, hn => sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 33 = 0 then
      sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a point of case A: that case's contents. -/
theorem outsAt0_A (c : Dev nD) (t : Fin cfg0.N) (h0 : t.val % 33 = 0) :
    outsAt0 m c t.val t.isLt = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 33 = 0) :
    outsAt0 m c t.val t.isLt = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn)) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn)) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega))) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows this certificate FORGETS (4, 5, 6, 7, 8): nothing reads what the kernel leaves in them, so nothing
    of it is named (Lib/Pipeline/Dat.lean `Dat.toRForget`). -/
def forgets0 : Fin 9 → Bool := fun w => w.val == 4 || w.val == 5 || w.val == 6 || w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases hz : t.val = 0
    · rw [PhiS_castSucc m c t, PhiS_zero m c _ _ hz, PhiA0_eq]
      rw [outsAt0_A m c t h0]
      unfold sout0_A_1
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, HS0, ⟨%es1, HS1⟩, HS2, HS3, HS4⟩
      isplitl [HS0 HS1 HS2 HS3 HS4 Hg]
      · isplitl [HS0 HS1 HS2 HS3 HS4]
        · isplitl [HS0]
          · iexact HS0
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _)
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · exfalso; have hN : t.val < 33 := lt_of_lt_of_eq t.isLt (show cfg0.N = 33 from N_0); omega
  · by_cases hz : t.val = 0
    · exfalso; have hN : t.val < 33 := lt_of_lt_of_eq t.isLt (show cfg0.N = 33 from N_0); omega
    · rw [PhiS_castSucc m c t, PhiS_pos m c _ _ hz]
      rw [outsAt0_B m c t h0]
      unfold sout0_B_1
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexists _; iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame claim of the kernel, for any reading of its floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Run

end
-- ==== Proof.KRuns.lean ====
/- What the two runs of the ideal kernel share: the frame kit, the branch condition, the staging and scratch memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 11 % 3 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 33 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x44x2048 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x2048 .f32 := Memref.whole cc0_scratch0
abbrev scM0_1 : Memref sig .tc .vmem S128x2048 .bf16 := Memref.whole cc0_scratch1
abbrev scM0_2 : Memref sig .tc .vmem S4x16x128 .f32 := Memref.whole cc0_scratch2
abbrev scM0_3 : Memref sig .tc .vmem S4x16x128 .f32 := Memref.whole cc0_scratch3
abbrev scM0_4 : Memref sig .tc .vmem S4x16x128 .f32 := Memref.whole cc0_scratch4
/-- The scratch `arg12` the kernel carries between points, as a view: what it holds is stated through it. -/
abbrev VS0_1 : View sig .tc .vmem S128x2048 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Run

end
-- ==== Proof.KRunA.lean ====
/- The whole-body run of the ideal kernel in case A, with the column codes' pieces named. -/
module

public import proofs.«01_k».proof.Proof.KRuns

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5800000 in
/-- The run of the body in case A: the pieces it leaves in the staging memrefs of the residual, of the row codes and of the column codes, and in the carried scratch, with the proof. The other outputs are handed back at some contents. -/
noncomputable def kernelRun0_A (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec F S512x2048 .fp8e4m3) (x1 : Vec F S1x16x512 .f32) (x2 : Vec F S512x2048 .bf16) (x3 : Vec F S512x2048 .f32) :
    Σ' (L4 : List (View.Piece (Elt F) S512x2048 .bf16)), Σ' (L5 : List (View.Piece (Elt F) S512x2048 .fp8e4m3)), Σ' (L7 : List (View.Piece (Elt F) S512x2048 .fp8e4m3)), { LS1 : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS1) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_split_update i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_split_update_eq_skeleton]; unfold cc0_split_update_skel
    simp only [k0_part95_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _, _; isplitr; swap; · iexact H6
      ipureintro; rfl
    isplitl [H7]; · iexists _; iexact H7
    isplitl [H8]
    · iexists _, _; isplitr; swap; · iexact H8
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Run

end
-- ==== Proof.KRunB.lean ====
/- The whole-body run of the ideal kernel in case B, with the column codes' pieces named. -/
module

public import proofs.«01_k».proof.Proof.KRunA

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5788000 in
/-- The run of the body in case B: the pieces it leaves in the staging memrefs of the residual, of the row codes and of the column codes, and in the carried scratch, with the proof. The other outputs are handed back at some contents. -/
noncomputable def kernelRun0_B (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : ¬cond0_0 i)
    (x0 : Vec F S512x2048 .fp8e4m3) (x1 : Vec F S1x16x512 .f32) (x2 : Vec F S512x2048 .bf16) (x3 : Vec F S512x2048 .f32) (xs1 : Vec F S128x2048 .bf16) :
    Σ' (L4 : List (View.Piece (Elt F) S512x2048 .bf16)), Σ' (L5 : List (View.Piece (Elt F) S512x2048 .fp8e4m3)), Σ' (L7 : List (View.Piece (Elt F) S512x2048 .fp8e4m3)), { LS1 : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d) ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_split_update i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], fun E K => ?run⟩
  case run =>
    simp only [cc0_split_update_eq_skeleton]; unfold cc0_split_update_skel
    simp only [k0_part95_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%fs1, %hfs1, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg12.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _, _; isplitr; swap; · iexact H6
      ipureintro; rfl
    isplitl [H7]; · iexists _; iexact H7
    isplitl [H8]
    · iexists _, _; isplitr; swap; · iexact H8
      ipureintro; rfl
    isplitl [HS0]
    · iexists _, _; isplitr; swap; · iexact HS0
      ipureintro; rfl
    isplitl [HS1]
    · iexists _; isplitr; · ipureintro; exact harg12.read_unread _
      iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Run

end
-- ==== Proof.KQuant.lean ====
module

public import proofs.«01_k».proof.KernelIdeal
public import Idealize.ShloMosaic.Lib.ValueIdx
public import Idealize.ShloMosaic.Lib.IdealHost

/-! The scalar arithmetic of the quantiser at the ideal values: the greedy search over exponent bits finds the
    same power of two as counting the powers of two that do not exceed the argument. -/

@[expose] public section

noncomputable section

open scoped BigOperators

namespace Cert.Quant

open Idealize.ShloMosaic

/-- The value of the pattern whose exponent field is `B` and whose other bits are clear. -/
def pw (B : ℕ) : EReal := Ideal.ofBits .f32 (BitVec.ofNat 32 (B * 8388608))

/-- One step of the greedy search: try the exponent `b + d`. -/
def step (x : EReal) (d b : ℕ) : ℕ := by
  classical exact if pw (b + d) ≤ x then b + d else b

/-- The exponent the search ends with. -/
def expo (x : EReal) : ℕ :=
  step x 1 (step x 2 (step x 4 (step x 8 (step x 16 (step x 32 (step x 64 (step x 128 0)))))))

/-- What the search keeps: the exponent is admissible and the next multiple of `d` is not. -/
def Inv (x : EReal) (d b : ℕ) : Prop := pw b ≤ x ∧ b + d ≤ 256 ∧ (b + d < 256 → ¬ pw (b + d) ≤ x)

/-- The search on words, as the kernel runs it. -/
def bstep (x : EReal) (d : BitVec 32) (b : BitVec 32) : BitVec 32 :=
  Scalar.select (Ideal.cmp .oge x (Ideal.ofBits .f32 (b + d))) (b + d) b

/-- The kernel's exponent word of `x`. -/
def kbits (x : EReal) : BitVec 32 :=
  bstep x 8388608#32 (bstep x 16777216#32 (bstep x 33554432#32 (bstep x 67108864#32 (bstep x 134217728#32 (bstep x 268435456#32 (bstep x 536870912#32 (bstep x 1073741824#32 0#32)))))))

/-- The kernel's exponent word after the two special cases. -/
def kbits2 (x : EReal) : BitVec 32 :=
  Scalar.select (IntOp.ori (IntOp.cmpi .eq (Scalar.select (Ideal.cmp .olt x (Ideal.ofBits .f32 0x7B800000#32)) (kbits x) 2139095040#32) 0#32)
    (IntOp.cmpi .eq (Scalar.select (Ideal.cmp .olt x (Ideal.ofBits .f32 0x7B800000#32)) (kbits x) 2139095040#32) 2139095040#32))
    1056964608#32 (Scalar.select (Ideal.cmp .olt x (Ideal.ofBits .f32 0x7B800000#32)) (kbits x) 2139095040#32)

/-- The kernel's inverse scale of a maximum. -/
def kinv (a : EReal) : EReal := Ideal.ofBits .f32 (2122317824#32 - kbits2 (a * Ideal.ofBits .f32 0x3B124925#32))

/-- The kernel's scale of a maximum. -/
def kscl (a : EReal) : EReal := Ideal.ofBits .f32 (kbits2 (a * Ideal.ofBits .f32 0x3B124925#32) + 8388608#32)

/-- The reference's exponent of `x`. -/
def rexp (x : EReal) : EReal :=
  Scalar.select (IntOp.ori (Ideal.cmp .olt x (Ideal.ofBits .f32 0x00800000#32)) (Ideal.cmp .oge x (Ideal.ofBits .f32 0x7B800000#32)))
    0 ((∑ k : Fin 246, Scalar.select (Ideal.cmp .ole (Ideal.exp2 (((k.val : ℝ) : EReal) - ((126 : ℝ) : EReal))) x) (1 : EReal) 0) - ((126 : ℝ) : EReal))

/-- The reference's inverse scale of `x`. -/
def rinv (x : EReal) : EReal :=
  Ideal.exp2 (0 - Scalar.select (IntOp.ori (Ideal.cmp .olt x (Ideal.ofBits .f32 0x00800000#32)) (Ideal.cmp .oge x (Ideal.ofBits .f32 0x7B800000#32)))
    0 ((∑ k : Fin 246, Scalar.select (Ideal.cmp .ole (Ideal.exp2 (((k.val : ℝ) : EReal) - ((126 : ℝ) : EReal))) x) (1 : EReal) 0) - ((126 : ℝ) : EReal)))

end Cert.Quant
-- ==== Proof.KMath.lean ====
module

public import proofs.«01_k».proof.Proof.KQuant
public import proofs.«01_k».proof.Proof.Gen.KernelIdeal.Skeleton
public import Idealize.ShloMosaic.Lib.MatmulPlain
public import Idealize.ShloMosaic.Lib.ValueLayout
public import Idealize.ShloMosaic.Lib.Pipeline.Value

/-! The block computations of the ideal kernel as functions of indices: the dequantised weights, the column maxima,
    the inverse scales and the codes. -/

@[expose] public section

noncomputable section

open scoped BigOperators

namespace Cert.KernelIdeal.Run

open Idealize.ShloMosaic Idealize.ShloMosaic.ValueIdx Cert.KernelIdeal Cert.KernelIdeal.Gen Cert.Quant

/-- The column group of a column. -/
def grp (c : Fin 2048) : Fin 16 := ⟨c.val / 128, by omega⟩

/-- The weight at an index of a block. -/
def wI (x0 : Vec Ideal S512x2048 .fp8e4m3) (x1 : Vec Ideal S1x16x512 .f32) (x2 : Vec Ideal S512x2048 .bf16) (x3 : Vec Ideal S512x2048 .f32)
    (i : S512x2048.Idx) : EReal :=
  x0 i * x1 (ix3 (0 : Fin 1) (grp (i 1)) (i 0)) + x2 i + x3 i

/-- The spread matrix: group `r % 16` of the first 48 rows is one on its own 128 columns. -/
def spreadI (k : Fin 128) (c : Fin 2048) : EReal := if k.val % 16 = c.val / 128 ∧ k.val < 48 then 1 else 0

theorem lhs_apply (v7 : Vec Ideal S1x16x128 .f32) (hf : ∀ i, v7 i ≠ ⊤ ∧ v7 i ≠ ⊥) (a : Fin 128) (k : Fin 128) :
    (k0_pay2 (F := Ideal) v7) (ix2 a k) = if h : k.val < 16 then v7 (ix3 (0 : Fin 1) ⟨k.val, h⟩ a) else (0 : EReal) := by
  have hz : ∀ i, (v7 i - v7 i : EReal) = 0 := fun i => EReal.sub_self (hf i).1 (hf i).2
  unfold k0_pay2
  rw [truncf_apply, transpose_ix2_apply]
  by_cases h : k.val < 16
  · rw [dif_pos h]
    refine (concatenate_apply_piece (0 : Fin S128x128.rank) _ _ _ 0 (by simp) S16x128 _ rfl rfl 0 (by rfl) (ix2 (⟨k.val, h⟩ : Fin 16) a) ?_ ?_).trans ?_
    · intro b hb; match b with
      | ⟨0, _⟩ => exact absurd rfl hb
      | ⟨1, _⟩ => rfl
    · exact Nat.zero_add _
    · exact shapeCast_1ab_ab_apply v7 _ _ _
  · rw [dif_neg h]
    by_cases h2 : k.val < 32
    · refine (concatenate_apply_piece (0 : Fin S128x128.rank) _ _ _ 1 (by simp) S16x128 _ rfl rfl 16 (by rfl) (ix2 (⟨k.val - 16, by omega⟩ : Fin 16) a) ?_ ?_).trans ?_
      · intro b hb; match b with
        | ⟨0, _⟩ => exact absurd rfl hb
        | ⟨1, _⟩ => rfl
      · show 16 + (k.val - 16) = k.val; omega
      · show (shapeCast S16x128 v7 _ _ - shapeCast S16x128 v7 _ _ : EReal) = 0
        exact hz _
    · by_cases h3 : k.val < 48
      · refine (concatenate_apply_piece (0 : Fin S128x128.rank) _ _ _ 2 (by simp) S16x128 _ rfl rfl 32 (by rfl) (ix2 (⟨k.val - 32, by omega⟩ : Fin 16) a) ?_ ?_).trans ?_
        · intro b hb; match b with
          | ⟨0, _⟩ => exact absurd rfl hb
          | ⟨1, _⟩ => rfl
        · show 32 + (k.val - 32) = k.val; omega
        · show ((shapeCast S16x128 v7 _ _ - shapeCast S16x128 v7 _ _) - (shapeCast S16x128 v7 _ _ - shapeCast S16x128 v7 _ _) : EReal) = 0
          rw [show (shapeCast S16x128 v7 shapeCasts_S1x16x128_S16x128 (ix2 (⟨k.val - 32, by omega⟩ : Fin 16) a) - shapeCast S16x128 v7 shapeCasts_S1x16x128_S16x128 (ix2 (⟨k.val - 32, by omega⟩ : Fin 16) a) : EReal) = 0 from hz _]
          simp
      · refine (concatenate_apply_piece (0 : Fin S128x128.rank) _ _ _ 3 (by simp) S80x128 _ rfl rfl 48 (by rfl) (ix2 (⟨k.val - 48, by omega⟩ : Fin 80) a) ?_ ?_).trans ?_
        · intro b hb; match b with
          | ⟨0, _⟩ => exact absurd rfl hb
          | ⟨1, _⟩ => rfl
        · show 48 + (k.val - 48) = k.val; omega
        · exact Ideal.ofBits_zero_f32

theorem W_apply (v7 : Vec Ideal S1x16x128 .f32) (q : Vec Ideal S128x256 .fp8e4m3) (sp r : Vec Ideal S128x256 .bf16) (d : Vec Ideal S128x256 .f32)
    (hf : ∀ i, v7 i ≠ ⊤ ∧ v7 i ≠ ⊥) (a : Fin 128) (c : Fin 256) (C : Fin 2048) (hsp : ∀ k, sp (ix2 k c) = spreadI k C) :
    k0_pay4 (F := Ideal) v7 q sp r d (ix2 a c) = (q (ix2 a c) * v7 (ix3 (0 : Fin 1) (grp C) a) + r (ix2 a c) + d (ix2 a c) : EReal) := by
  unfold k0_pay4
  simp only [shapeCast_self]
  show (q (ix2 a c) * (FloatOps.matmul (DotDims.plain 128 128 256) none (k0_pay2 (F := Ideal) v7) sp (constant (F := Ideal) S128x256 .f32 0x00000000#32) (ix2 a c)) + r (ix2 a c) + d (ix2 a c) : EReal) = _
  rw [Ideal.matmul_plain_apply]
  have h0 : (constant (F := Ideal) S128x256 .f32 0x00000000#32 (ix2 a c) : EReal) = 0 := Ideal.ofBits_zero_f32
  rw [h0]
  have hs : (∑ k : Fin 128, k0_pay2 (F := Ideal) v7 (ix2 a k) * sp (ix2 k c) : EReal) = v7 (ix3 (0 : Fin 1) (grp C) a) := by
    have hC : C.val / 128 < 16 := by omega
    rw [Finset.sum_eq_single (⟨C.val / 128, by omega⟩ : Fin 128)]
    · rw [lhs_apply v7 hf, hsp, dif_pos hC]
      unfold spreadI
      rw [if_pos ⟨by show C.val / 128 % 16 = C.val / 128; omega, by show C.val / 128 < 48; omega⟩, mul_one]
      rfl
    · intro k _ hk
      rw [lhs_apply v7 hf, hsp]
      by_cases hk16 : k.val < 16
      · unfold spreadI
        rw [if_neg, mul_zero]
        rintro ⟨h1, _⟩
        exact hk (Fin.ext (by show k.val = C.val / 128; omega))
      · rw [dif_neg hk16, zero_mul]
    · intro h; exact absurd (Finset.mem_univ _) h
  rw [hs, zero_add]

/-- The column maximum of the magnitudes of a block `w` at (row group, column group, lane). -/
def gm (w : S512x2048.Idx → EReal) (i : S4x16x128.Idx) : EReal :=
  (Finset.univ : Finset (Fin 128)).fold max (Ideal.ofBits .f32 0xFF800000#32) fun k =>
    max (w (ix2 (⟨128 * (i 0).val + k.val, by have : (i 0).val < 4 := (i 0).isLt; omega⟩ : Fin 512) (⟨128 * (i 1).val + (i 2).val, by have : (i 1).val < 16 := (i 1).isLt; have : (i 2).val < 128 := (i 2).isLt; omega⟩ : Fin 2048)))
      (-(w (ix2 (⟨128 * (i 0).val + k.val, by have : (i 0).val < 4 := (i 0).isLt; omega⟩ : Fin 512) (⟨128 * (i 1).val + (i 2).val, by have : (i 1).val < 16 := (i 1).isLt; have : (i 2).val < 128 := (i 2).isLt; omega⟩ : Fin 2048))))

/-- The inverse scales of a block. -/
def gi (w : S512x2048.Idx → EReal) (i : S4x16x128.Idx) : EReal := kinv (gm w i)

/-- The column codes of a block. -/
def qc (w : S512x2048.Idx → EReal) (i : S512x2048.Idx) : EReal :=
  min (Ideal.ofBits .f32 0x43E00000#32) (max (Ideal.ofBits .f32 0xC3E00000#32)
    (w i * gi w (ix3 (⟨(i 0).val / 128, by have : (i 0).val < 512 := (i 0).isLt; omega⟩ : Fin 4) (grp (i 1)) (⟨(i 1).val % 128, by omega⟩ : Fin 128))))

section Pieces

variable (x0 : Vec Ideal S512x2048 .fp8e4m3) (x1 : Vec Ideal S1x16x512 .f32) (x2 : Vec Ideal S512x2048 .bf16) (x3 : Vec Ideal S512x2048 .f32)
  (hx : ∀ i, x1 i ≠ ⊤ ∧ x1 i ≠ ⊥)
  (v7 : Vec Ideal S1x16x128 .f32) (q : Vec Ideal S128x256 .fp8e4m3) (sp r : Vec Ideal S128x256 .bf16) (d : Vec Ideal S128x256 .f32)
  (o0 o1 : ℕ) (inb : ∀ a, (![o0, o1] : Fin 2 → ℕ) a + S128x256.size a ≤ S512x2048.size a)
  (inb3 : ∀ a, (![0, 0, o0] : Fin 3 → ℕ) a + S1x16x128.size a ≤ S1x16x512.size a)
  (h7 : ∀ i, v7 i = x1 ((Rect.unit (s := S1x16x512) ![0, 0, o0] S1x16x128.size inb3).emb i))
  (hq : ∀ i, q i = x0 ((Rect.unit (s := S512x2048) ![o0, o1] S128x256.size inb).emb i))
  (hsp : ∀ (k : Fin 128) (c : Fin 256) (C : Fin 2048), C.val = o1 + c.val → sp (ix2 k c) = spreadI k C)
  (hr : ∀ i, r i = x2 ((Rect.unit (s := S512x2048) ![o0, o1] S128x256.size inb).emb i))
  (hd : ∀ i, d i = x3 ((Rect.unit (s := S512x2048) ![o0, o1] S128x256.size inb).emb i))

include hx h7 hq hsp hr hd in
theorem W_emb (x : S128x256.Idx) : k0_pay4 (F := Ideal) v7 q sp r d x = wI x0 x1 x2 x3 ((Rect.unit (s := S512x2048) ![o0, o1] S128x256.size inb).emb x) := by
  obtain ⟨a, c, rfl⟩ : ∃ (a : Fin 128) (c : Fin 256), x = ix2 a c := ⟨x 0, x 1, eq_ix2 x⟩
  have hi1 : o1 + 256 ≤ 2048 := inb 1
  rw [W_apply v7 q sp r d (fun i => by rw [h7]; exact hx _) a c ⟨o1 + c.val, by omega⟩ (fun k => hsp k c _ rfl), h7, hq, hr, hd]
  unfold wI
  congr 4
  funext b
  match b with
  | ⟨0, _⟩ => rfl
  | ⟨1, _⟩ => exact Fin.ext (by show 0 + 1 * (_ / 128) = (o1 + 1 * c.val) / 128; rw [Nat.one_mul, Nat.one_mul, Nat.zero_add])
  | ⟨2, _⟩ => rfl

include hx h7 hq hsp hr hd in
theorem W_piece (x : S128x256.Idx) : k0_pay5 (F := Ideal) v7 q sp r d x = wI x0 x1 x2 x3 ((Rect.unit (s := S512x2048) ![o0, o1] S128x256.size inb).emb x) := by
  unfold k0_pay5
  simp only [shapeCast_self]
  exact W_emb x0 x1 x2 x3 hx v7 q sp r d o0 o1 inb inb3 h7 hq hsp hr hd x

theorem pay7_apply (W : FVec Ideal S128x256 .f32) (l : Fin 256) :
    k0_pay7 (F := Ideal) W (ix2 (0 : Fin 1) l) = (Finset.univ : Finset (Fin 128)).fold max (Ideal.ofBits .f32 0xFF800000#32) fun k => (W (ix2 k l) : EReal) := by
  unfold k0_pay7
  rw [shapeCast_a_1a_apply]
  refine (Ideal.multiReduction_maximumf_single (a := (0 : Fin S128x256.rank)) W _ reduces_S128x256_S256 _ _ (ix1 l)).trans ?_
  refine congrArg (fun f => (Finset.univ : Finset (Fin 128)).fold max (Ideal.ofBits .f32 0xFF800000#32) f) (funext fun k => ?_)
  refine congrArg W (funext fun b => ?_)
  match b with
  | ⟨0, _⟩ => exact Fin.ext rfl
  | ⟨1, _⟩ => exact Fin.ext rfl

include hx h7 hq hsp hr hd in
theorem C_piece0 (j g : ℕ) (hj : o0 = 128 * j) (hg : o1 = 128 * g) (inbc : ∀ a, (![j, g, 0] : Fin 3 → ℕ) a + S1x1x128.size a ≤ S4x16x128.size a)
    (x : S1x1x128.Idx) : k0_pay8 (F := Ideal) (k0_pay6 (F := Ideal) v7 q sp r d) x
      = gm (wI x0 x1 x2 x3) ((Rect.unit (s := S4x16x128) ![j, g, 0] S1x1x128.size inbc).emb x) := by
  obtain ⟨u, v, l, rfl⟩ : ∃ (u : Fin 1) (v : Fin 1) (l : Fin 128), x = ix3 u v l := ⟨x 0, x 1, x 2, eq_ix3 x⟩
  unfold k0_pay8
  rw [shapeCast_ab_1ab_apply, slice2_axis1_eq]
  have hv : v = 0 := by omega
  subst hv
  rw [pay7_apply]
  unfold gm
  refine congrArg (fun f => (Finset.univ : Finset (Fin 128)).fold max (Ideal.ofBits .f32 0xFF800000#32) f) (funext fun k => ?_)
  unfold k0_pay6
  show (max (k0_pay4 (F := Ideal) v7 q sp r d _) (-(k0_pay4 (F := Ideal) v7 q sp r d _)) : EReal) = _
  rw [W_emb x0 x1 x2 x3 hx v7 q sp r d o0 o1 inb inb3 h7 hq hsp hr hd]
  have e : (Rect.unit (s := S512x2048) ![o0, o1] S128x256.size inb).emb (ix2 k ⟨0 + l.val, by omega⟩) = ix2 (⟨128 * ((Rect.unit (s := S4x16x128) ![j, g, 0] S1x1x128.size inbc).emb (ix3 u (0 : Fin 1) l) 0).val + k.val, by
      have := ((Rect.unit (s := S4x16x128) ![j, g, 0] S1x1x128.size inbc).emb (ix3 u (0 : Fin 1) l) 0).isLt
      change _ < 4 at this; omega⟩ : Fin 512) (⟨128 * ((Rect.unit (s := S4x16x128) ![j, g, 0] S1x1x128.size inbc).emb (ix3 u (0 : Fin 1) l) 1).val + ((Rect.unit (s := S4x16x128) ![j, g, 0] S1x1x128.size inbc).emb (ix3 u (0 : Fin 1) l) 2).val, by
      have := ((Rect.unit (s := S4x16x128) ![j, g, 0] S1x1x128.size inbc).emb (ix3 u (0 : Fin 1) l) 1).isLt
      change _ < 16 at this
      have h2 := ((Rect.unit (s := S4x16x128) ![j, g, 0] S1x1x128.size inbc).emb (ix3 u (0 : Fin 1) l) 2).isLt
      change _ < 128 at h2; omega⟩ : Fin 2048) := by
    funext b
    match b with
    | ⟨0, _⟩ => exact Fin.ext (by show o0 + 1 * k.val = 128 * (j + 1 * u.val) + k.val; omega)
    | ⟨1, _⟩ => exact Fin.ext (by show o1 + 1 * (0 + l.val) = 128 * (g + 1 * 0) + (0 + 1 * l.val); omega)
  rw [e]

include hx h7 hq hsp hr hd in
theorem C_piece1 (j g : ℕ) (hj : o0 = 128 * j) (hg : o1 + 128 = 128 * g) (inbc : ∀ a, (![j, g, 0] : Fin 3 → ℕ) a + S1x1x128.size a ≤ S4x16x128.size a)
    (x : S1x1x128.Idx) : k0_pay9 (F := Ideal) (k0_pay6 (F := Ideal) v7 q sp r d) x
      = gm (wI x0 x1 x2 x3) ((Rect.unit (s := S4x16x128) ![j, g, 0] S1x1x128.size inbc).emb x) := by
  obtain ⟨u, v, l, rfl⟩ : ∃ (u : Fin 1) (v : Fin 1) (l : Fin 128), x = ix3 u v l := ⟨x 0, x 1, x 2, eq_ix3 x⟩
  unfold k0_pay9
  rw [shapeCast_ab_1ab_apply, slice2_axis1_eq]
  have hv : v = 0 := by omega
  subst hv
  rw [pay7_apply]
  unfold gm
  refine congrArg (fun f => (Finset.univ : Finset (Fin 128)).fold max (Ideal.ofBits .f32 0xFF800000#32) f) (funext fun k => ?_)
  unfold k0_pay6
  show (max (k0_pay4 (F := Ideal) v7 q sp r d _) (-(k0_pay4 (F := Ideal) v7 q sp r d _)) : EReal) = _
  rw [W_emb x0 x1 x2 x3 hx v7 q sp r d o0 o1 inb inb3 h7 hq hsp hr hd]
  have e : (Rect.unit (s := S512x2048) ![o0, o1] S128x256.size inb).emb (ix2 k ⟨128 + l.val, by omega⟩) = ix2 (⟨128 * ((Rect.unit (s := S4x16x128) ![j, g, 0] S1x1x128.size inbc).emb (ix3 u (0 : Fin 1) l) 0).val + k.val, by
      have := ((Rect.unit (s := S4x16x128) ![j, g, 0] S1x1x128.size inbc).emb (ix3 u (0 : Fin 1) l) 0).isLt
      change _ < 4 at this; omega⟩ : Fin 512) (⟨128 * ((Rect.unit (s := S4x16x128) ![j, g, 0] S1x1x128.size inbc).emb (ix3 u (0 : Fin 1) l) 1).val + ((Rect.unit (s := S4x16x128) ![j, g, 0] S1x1x128.size inbc).emb (ix3 u (0 : Fin 1) l) 2).val, by
      have := ((Rect.unit (s := S4x16x128) ![j, g, 0] S1x1x128.size inbc).emb (ix3 u (0 : Fin 1) l) 1).isLt
      change _ < 16 at this
      have h2 := ((Rect.unit (s := S4x16x128) ![j, g, 0] S1x1x128.size inbc).emb (ix3 u (0 : Fin 1) l) 2).isLt
      change _ < 128 at h2; omega⟩ : Fin 2048) := by
    funext b
    match b with
    | ⟨0, _⟩ => exact Fin.ext (by show o0 + 1 * k.val = 128 * (j + 1 * u.val) + k.val; omega)
    | ⟨1, _⟩ => exact Fin.ext (by show o1 + 1 * (128 + l.val) = 128 * (g + 1 * 0) + (0 + 1 * l.val); omega)
  rw [e]

end Pieces

/-- One step of the kernel's binary search, on a vector. -/
def vstep {s : Shape} (x : FVec Ideal s .f32) (w : BitVec 32) (b : IVec s 32) : IVec s 32 :=
  select (cmpf .oge x (bitcastToFloat .f32 (addi b (broadcast s w) : IVec s 32))) (addi b (broadcast s w)) b

theorem vstep_fold {s : Shape} (x : FVec Ideal s .f32) (w : BitVec 32) (b : IVec s 32) :
    select (cmpf .oge x (bitcastToFloat .f32 (addi b (broadcast s w) : IVec s 32))) (addi b (broadcast s w)) b = vstep x w b := rfl

theorem vstep_apply {s : Shape} (x : FVec Ideal s .f32) (w : BitVec 32) (b : IVec s 32) (i : s.Idx) :
    vstep x w b i = bstep (x i) w (b i) := rfl

/-- The special cases of the exponent word and the inverse scale, on a vector. -/
theorem vspecial {s : Shape} (x : FVec Ideal s .f32) (b : IVec s 32) (c0 c1 c2 c3 : BitVec 32) (z : BitVec 32) (i : s.Idx) :
    bitcastToFloat (F := Ideal) .f32 (subi (broadcast s c3 : IVec s 32) (select (ori (cmpi .eq (select (cmpf .olt x (broadcast s (Scalar.ofBits .f32 z))) b (broadcast s c1)) (broadcast s c0))
      (cmpi .eq (select (cmpf .olt x (broadcast s (Scalar.ofBits .f32 z))) b (broadcast s c1)) (broadcast s c1)))
      (broadcast s c2) (select (cmpf .olt x (broadcast s (Scalar.ofBits .f32 z))) b (broadcast s c1))) : IVec s 32) i
    = Ideal.ofBits .f32 (c3 - Scalar.select (IntOp.ori (IntOp.cmpi .eq (Scalar.select (Ideal.cmp .olt (x i) (Ideal.ofBits .f32 z)) (b i) c1) c0)
      (IntOp.cmpi .eq (Scalar.select (Ideal.cmp .olt (x i) (Ideal.ofBits .f32 z)) (b i) c1) c1)) c2
      (Scalar.select (Ideal.cmp .olt (x i) (Ideal.ofBits .f32 z)) (b i) c1)) := rfl

/-- The inverse scales as the kernel computes them from a row block's maxima. -/
theorem I_apply (v : Vec Ideal S1x16x128 .f32) (x : S1x16x128.Idx) :
    k0_pay77 (F := Ideal) (k0_pay75 (F := Ideal) (k0_pay70 (F := Ideal) v) (k0_pay71 (F := Ideal) v) (k0_pay72 (F := Ideal) v)) x = kinv (v x) := by
  obtain ⟨u, g, l, rfl⟩ : ∃ (u : Fin 1) (g : Fin 16) (l : Fin 128), x = ix3 u g l := ⟨x 0, x 1, x 2, eq_ix3 x⟩
  have hu : u = 0 := by omega
  subst hu
  have h70 : k0_pay70 (F := Ideal) v (ix2 g l) = (v (ix3 (0 : Fin 1) g l) * Ideal.ofBits .f32 0x3B124925#32 : EReal) := by
    unfold k0_pay70
    rw [mulf_apply, shapeCast_1ab_ab_apply]; rfl
  unfold k0_pay77
  rw [shapeCast_ab_1ab_apply]
  unfold kinv
  rw [← h70]
  unfold k0_pay75 k0_pay73 k0_pay72 k0_pay71
  generalize k0_pay70 (F := Ideal) v = y
  obtain ⟨i, hi⟩ : ∃ i : S16x128.Idx, i = ix2 g l := ⟨_, rfl⟩
  rw [← hi]
  simp only [vstep_fold]
  rw [vspecial]
  unfold kbits2 kbits
  rw [vstep_apply, vstep_apply, vstep_apply, vstep_apply, vstep_apply, vstep_apply, vstep_apply, vstep_apply, broadcast_apply]

theorem Q_piece (w : S512x2048.Idx → EReal) (o0 o1 j g : ℕ) (hj : o0 = 128 * j) (hg : o1 = 128 * g)
    (inb : ∀ a, (![o0, o1] : Fin 2 → ℕ) a + S128x256.size a ≤ S512x2048.size a)
    (inb0 : ∀ a, (![j, g, 0] : Fin 3 → ℕ) a + S1x1x128.size a ≤ S4x16x128.size a)
    (inb1 : ∀ a, (![j, g + 1, 0] : Fin 3 → ℕ) a + S1x1x128.size a ≤ S4x16x128.size a)
    (A B : Vec Ideal S1x1x128 .f32) (W : Vec Ideal S128x256 .f32)
    (hA : ∀ i, A i = gi w ((Rect.unit (s := S4x16x128) ![j, g, 0] S1x1x128.size inb0).emb i))
    (hB : ∀ i, B i = gi w ((Rect.unit (s := S4x16x128) ![j, g + 1, 0] S1x1x128.size inb1).emb i))
    (hW : ∀ i, W i = w ((Rect.unit (s := S512x2048) ![o0, o1] S128x256.size inb).emb i)) (x : S128x256.Idx) :
    k0_pay167 (F := Ideal) (k0_pay161 (F := Ideal) A) (k0_pay163 (F := Ideal) B) W x = qc w ((Rect.unit (s := S512x2048) ![o0, o1] S128x256.size inb).emb x) := by
  obtain ⟨a, c, rfl⟩ : ∃ (a : Fin 128) (c : Fin 256), x = ix2 a c := ⟨x 0, x 1, eq_ix2 x⟩
  unfold k0_pay167
  rw [truncf_apply, minimumf_apply, maximumf_apply, mulf_apply, broadcastTo_1b_ab_apply, hW]
  unfold qc
  refine congrArg (fun z : EReal => min (Ideal.ofBits .f32 0x43E00000#32) (max (Ideal.ofBits .f32 0xC3E00000#32) (w ((Rect.unit (s := S512x2048) ![o0, o1] S128x256.size inb).emb (ix2 a c)) * z))) ?_
  by_cases hc : c.val < 128
  · refine (concatenate_pair_apply_left (s₁ := S1x128) (s₂ := S1x128) (1 : Fin S1x256.rank) _ _ _ _ rfl (ix2 (0 : Fin 1) (⟨c.val, hc⟩ : Fin 128)) ?_).trans ?_
    · intro b; match b with
      | ⟨0, _⟩ => rfl
      | ⟨1, _⟩ => rfl
    · unfold k0_pay161
      rw [shapeCast_1ab_ab_apply, hA]
      refine congrArg (gi w) (funext fun b => ?_)
      match b with
      | ⟨0, _⟩ => exact Fin.ext (by show j + 1 * 0 = (o0 + 1 * a.val) / 128; omega)
      | ⟨1, _⟩ => exact Fin.ext (by show g + 1 * 0 = (o1 + 1 * c.val) / 128; omega)
      | ⟨2, _⟩ => exact Fin.ext (by show 0 + 1 * c.val = (o1 + 1 * c.val) % 128; omega)
  · refine (concatenate_pair_apply_right (s₁ := S1x128) (s₂ := S1x128) (1 : Fin S1x256.rank) _ _ _ _ rfl rfl (ix2 (0 : Fin 1) (⟨c.val - 128, by omega⟩ : Fin 128)) ?_ ?_).trans ?_
    · intro b hb; match b with
      | ⟨0, _⟩ => rfl
      | ⟨1, _⟩ => exact absurd rfl hb
    · show c.val - 128 + 128 = c.val; omega
    · unfold k0_pay163
      rw [shapeCast_1ab_ab_apply, hB]
      refine congrArg (gi w) (funext fun b => ?_)
      match b with
      | ⟨0, _⟩ => exact Fin.ext (by show j + 1 * 0 = (o0 + 1 * a.val) / 128; omega)
      | ⟨1, _⟩ => exact Fin.ext (by show g + 1 + 1 * 0 = (o1 + 1 * c.val) / 128; omega)
      | ⟨2, _⟩ => exact Fin.ext (by show 0 + 1 * (c.val - 128) = (o1 + 1 * c.val) % 128; omega)

theorem shr_word (c : ℕ) (hc : c < 2048) : IntOp.shrsi .vector (BitVec.ofNat 32 c) 7#32 = BitVec.ofNat 32 (c / 128) := by
  unfold IntOp.shrsi
  rw [if_pos (by decide)]
  show (BitVec.ofNat 32 c).sshiftRight 7 = _
  rw [BitVec.sshiftRight_eq_of_msb_false (by rw [BitVec.msb_eq_false_iff_two_mul_lt, BitVec.toNat_ofNat]; omega)]
  apply BitVec.eq_of_toNat_eq
  rw [BitVec.toNat_ushiftRight, BitVec.toNat_ofNat, BitVec.toNat_ofNat, Nat.shiftRight_eq_div_pow]
  omega

theorem and_word (k : ℕ) (hk : k < 128) : IntOp.andi (BitVec.ofNat 32 k) 15#32 = BitVec.ofNat 32 (k % 16) := by
  apply BitVec.eq_of_toNat_eq
  show ((BitVec.ofNat 32 k) &&& 15#32).toNat = _
  rw [BitVec.toNat_and, BitVec.toNat_ofNat, BitVec.toNat_ofNat, BitVec.toNat_ofNat]
  have h1 : k % 2 ^ 32 = k := by omega
  have h2 : 15 % 2 ^ 32 = 2 ^ 4 - 1 := by decide
  rw [h1, h2, Nat.and_two_pow_sub_one_eq_mod]
  omega

theorem eq_word (a b : ℕ) (ha : a < 128) (hb : b < 128) : IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    rw [BitVec.toNat_ofNat, BitVec.toNat_ofNat] at this
    omega
  · rintro rfl; rfl

theorem lt_word (a b : ℕ) (ha : a < 128) (hb : b < 128) : IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt_eq_ult_of_msb_eq (by rw [(BitVec.msb_eq_false_iff_two_mul_lt (x := BitVec.ofNat 32 a)).mpr (by rw [BitVec.toNat_ofNat]; omega), (BitVec.msb_eq_false_iff_two_mul_lt (x := BitVec.ofNat 32 b)).mpr (by rw [BitVec.toNat_ofNat]; omega)])]
  show decide ((BitVec.ofNat 32 a).toNat < (BitVec.ofNat 32 b).toNat) = _
  rw [BitVec.toNat_ofNat, BitVec.toNat_ofNat]
  congr 1
  rw [Nat.mod_eq_of_lt (by omega), Nat.mod_eq_of_lt (by omega)]

/-- The spread matrix the first grid point stores. -/
theorem spread_apply (k : Fin 128) (c : Fin 2048) : k0_pay1 (F := Ideal) (ix2 k c) = spreadI k c := by
  unfold k0_pay1
  rw [shapeCast_self, truncf_apply, select_apply]
  have h0 : iota .tc S128x2048 32 [0] iota_S128x2048_d0_w32 (ix2 k c) = BitVec.ofNat 32 k.val := iota_single_apply _ _ _ _ _ _
  have h1 : iota .tc S128x2048 32 [1] iota_S128x2048_d1_w32 (ix2 k c) = BitVec.ofNat 32 c.val := iota_single_apply _ _ _ _ _ _
  have e1 : andi (cmpi .eq (andi (iota .tc S128x2048 32 [0] iota_S128x2048_d0_w32) (broadcast S128x2048 15#32)) (shrsi (iota .tc S128x2048 32 [1] iota_S128x2048_d1_w32) (broadcast S128x2048 7#32)))
      (cmpi .slt (iota .tc S128x2048 32 [0] iota_S128x2048_d0_w32) (broadcast S128x2048 48#32)) (ix2 k c)
      = IntOp.andi (IntOp.cmpi .eq (IntOp.andi (BitVec.ofNat 32 k.val) 15#32) (IntOp.shrsi .vector (BitVec.ofNat 32 c.val) 7#32)) (IntOp.cmpi .slt (BitVec.ofNat 32 k.val) 48#32) := by
    rw [← h0, ← h1]; rfl
  rw [e1]
  rw [shr_word _ c.isLt, and_word _ k.isLt, eq_word _ _ (by omega) (by omega), show (48#32) = BitVec.ofNat 32 48 from rfl, lt_word _ _ k.isLt (by omega)]
  unfold spreadI
  by_cases p : k.val % 16 = c.val / 128 <;> by_cases q : k.val < 48 <;> simp [p, q, IntOp.andi, Scalar.select, broadcast_apply, Ideal.ofBits_one_f32, Ideal.ofBits_zero_f32]

end Cert.KernelIdeal.Run
-- ==== Proof.KFrame.lean ====
module

public import proofs.«01_k».proof.Proof.KRunA
public import proofs.«01_k».proof.Proof.KRunB
public import proofs.«01_k».proof.Proof.KMath
public import Idealize.ShloMosaic.Lib.Claim

/-! The frame run of the ideal kernel, with what it leaves in the transposed low-precision output named. -/

@[expose] public section

set_option maxRecDepth 16384

noncomputable section

namespace Cert.KernelIdeal.Run

open Cert.KernelIdeal Cert.KernelIdeal.Gen Cert.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The spread matrix as an array. -/
def spreadV : Vec Ideal S128x2048 .bf16 := fun i => spreadI (i 0) (i 1)

theorem pay1_eq : k0_pay1 (F := Ideal) = spreadV := funext fun i => by
  obtain ⟨k, c, rfl⟩ : ∃ (k : Fin 128) (c : Fin 2048), i = ix2 k c := ⟨i 0, i 1, eq_ix2 i⟩
  exact spread_apply k c

abbrev VO0_7 : View sig .tc .vmem S512x2048 .fp8e4m3 := (ms0_7 ⟨0, by rw [show cfg0.N = 33 from N_0]; omega⟩).view

theorem scover0_A_1 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec Ideal S512x2048 .fp8e4m3) (x1 : Vec Ideal S1x16x512 .f32) (x2 : Vec Ideal S512x2048 .bf16) (x3 : Vec Ideal S512x2048 .f32) (y : S128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.2.2.1 S128x2048.size (by sl_kernel_rfl) y

theorem cover0_A_7 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec Ideal S512x2048 .fp8e4m3) (x1 : Vec Ideal S1x16x512 .f32) (x2 : Vec Ideal S512x2048 .bf16) (x3 : Vec Ideal S512x2048 .f32) (y : S512x2048.Idx) :
    ∃ pc ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.2.1, y ∈ pc.1.set :=
  View.cover_of_tiledL (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.2.1 S128x256.size (by sl_kernel_rfl) y

/-- What case A leaves in the transposed low-precision output. -/
def out0_A_7 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec Ideal S512x2048 .fp8e4m3) (x1 : Vec Ideal S1x16x512 .f32) (x2 : Vec Ideal S512x2048 .bf16) (x3 : Vec Ideal S512x2048 .f32) : Vec Ideal S512x2048 .fp8e4m3 :=
  View.canon (Val := Elt Ideal) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.2.1

theorem cover0_B_7 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : ¬ cond0_0 i)
    (x0 : Vec Ideal S512x2048 .fp8e4m3) (x1 : Vec Ideal S1x16x512 .f32) (x2 : Vec Ideal S512x2048 .bf16) (x3 : Vec Ideal S512x2048 .f32) (xs1 : Vec Ideal S128x2048 .bf16) (y : S512x2048.Idx) :
    ∃ pc ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).2.2.1, y ∈ pc.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).2.2.1 S128x256.size (by sl_kernel_rfl) y

/-- What case B leaves in the transposed low-precision output. -/
def out0_B_7 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : ¬ cond0_0 i)
    (x0 : Vec Ideal S512x2048 .fp8e4m3) (x1 : Vec Ideal S1x16x512 .f32) (x2 : Vec Ideal S512x2048 .bf16) (x3 : Vec Ideal S512x2048 .f32) (xs1 : Vec Ideal S128x2048 .bf16) : Vec Ideal S512x2048 .fp8e4m3 :=
  View.canon (Val := Elt Ideal) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).2.2.1

theorem cover0_A_4 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec Ideal S512x2048 .fp8e4m3) (x1 : Vec Ideal S1x16x512 .f32) (x2 : Vec Ideal S512x2048 .bf16) (x3 : Vec Ideal S512x2048 .f32) (y : S512x2048.Idx) :
    ∃ pc ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).1, y ∈ pc.1.set :=
  View.cover_of_tiledL (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).1 S128x256.size (by sl_kernel_rfl) y

/-- What case A leaves in the residuals. -/
def out0_A_4 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec Ideal S512x2048 .fp8e4m3) (x1 : Vec Ideal S1x16x512 .f32) (x2 : Vec Ideal S512x2048 .bf16) (x3 : Vec Ideal S512x2048 .f32) : Vec Ideal S512x2048 .bf16 :=
  View.canon (Val := Elt Ideal) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).1

theorem cover0_B_4 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : ¬ cond0_0 i)
    (x0 : Vec Ideal S512x2048 .fp8e4m3) (x1 : Vec Ideal S1x16x512 .f32) (x2 : Vec Ideal S512x2048 .bf16) (x3 : Vec Ideal S512x2048 .f32) (xs1 : Vec Ideal S128x2048 .bf16) (y : S512x2048.Idx) :
    ∃ pc ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).1, y ∈ pc.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).1 S128x256.size (by sl_kernel_rfl) y

/-- What case B leaves in the residuals. -/
def out0_B_4 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : ¬ cond0_0 i)
    (x0 : Vec Ideal S512x2048 .fp8e4m3) (x1 : Vec Ideal S1x16x512 .f32) (x2 : Vec Ideal S512x2048 .bf16) (x3 : Vec Ideal S512x2048 .f32) (xs1 : Vec Ideal S128x2048 .bf16) : Vec Ideal S512x2048 .bf16 :=
  View.canon (Val := Elt Ideal) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).1

theorem cover0_A_5 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec Ideal S512x2048 .fp8e4m3) (x1 : Vec Ideal S1x16x512 .f32) (x2 : Vec Ideal S512x2048 .bf16) (x3 : Vec Ideal S512x2048 .f32) (y : S512x2048.Idx) :
    ∃ pc ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.1, y ∈ pc.1.set :=
  View.cover_of_tiledL (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.1 S128x256.size (by sl_kernel_rfl) y

/-- What case A leaves in the row codes. -/
def out0_A_5 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec Ideal S512x2048 .fp8e4m3) (x1 : Vec Ideal S1x16x512 .f32) (x2 : Vec Ideal S512x2048 .bf16) (x3 : Vec Ideal S512x2048 .f32) : Vec Ideal S512x2048 .fp8e4m3 :=
  View.canon (Val := Elt Ideal) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.1

theorem cover0_B_5 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : ¬ cond0_0 i)
    (x0 : Vec Ideal S512x2048 .fp8e4m3) (x1 : Vec Ideal S1x16x512 .f32) (x2 : Vec Ideal S512x2048 .bf16) (x3 : Vec Ideal S512x2048 .f32) (xs1 : Vec Ideal S128x2048 .bf16) (y : S512x2048.Idx) :
    ∃ pc ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).2.1, y ∈ pc.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).2.1 S128x256.size (by sl_kernel_rfl) y

/-- What case B leaves in the row codes. -/
def out0_B_5 (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : ¬ cond0_0 i)
    (x0 : Vec Ideal S512x2048 .fp8e4m3) (x1 : Vec Ideal S1x16x512 .f32) (x2 : Vec Ideal S512x2048 .bf16) (x3 : Vec Ideal S512x2048 .f32) (xs1 : Vec Ideal S128x2048 .bf16) : Vec Ideal S512x2048 .fp8e4m3 :=
  View.canon (Val := Elt Ideal) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).2.1

theorem spread_A (c : Dev nD) (i : grid0.Coords) (arg2 : Memref sig .tc .vmem S512x2048 .fp8e4m3) (harg2 : arg2.IsWhole) (arg3 : Memref sig .tc .vmem S1x16x512 .f32) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (arg11 : Memref sig .tc .vmem S512x2048 .f32) (harg11 : arg11.IsWhole) (arg12 : Memref sig .tc .vmem S128x2048 .bf16) (harg12 : arg12.IsWhole) (arg13 : Memref sig .tc .vmem S4x16x128 .f32) (harg13 : arg13.IsWhole) (arg14 : Memref sig .tc .vmem S4x16x128 .f32) (harg14 : arg14.IsWhole) (arg15 : Memref sig .tc .vmem S4x16x128 .f32) (harg15 : arg15.IsWhole) (hc0 : cond0_0 i)
    (x0 : Vec Ideal S512x2048 .fp8e4m3) (x1 : Vec Ideal S1x16x512 .f32) (x2 : Vec Ideal S512x2048 .bf16) (x3 : Vec Ideal S512x2048 .f32) (v : View sig .tc .vmem S128x2048 .bf16) (f : v.ty.Contents (Elt Ideal)) :
    v.read (Elt Ideal) (v.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.2.2.1) = spreadV := by
  rw [View.read_writes_eq_canon v f _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3)]
  rw [← pay1_eq]
  funext y
  refine View.canon_apply_of_pieces (k0_pay1 (F := Ideal)) _ (fun p hp x => ?_) y (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 y)
  obtain rfl : p = _ := List.mem_singleton.mp hp
  show k0_pay1 (F := Ideal) x = k0_pay1 (F := Ideal) _
  congr 1
  funext a
  match a with
  | ⟨0, _⟩ => exact Fin.ext (by show (x 0).val = 0 + 1 * (x 0).val; omega)
  | ⟨1, _⟩ => exact Fin.ext (by show (x 1).val = 0 + 1 * (x 1).val; omega)

/-- What the transposed low-precision output holds after the body at a point. -/
def o7 (c : Dev nD) (t : Fin cfg0.N) : Vec Ideal S512x2048 .fp8e4m3 :=
  if h0 : t.val % 33 = 0 then out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t)
  else out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) spreadV

theorem o7_A (c : Dev nD) (t : Fin cfg0.N) (h0 : t.val % 33 = 0) : o7 m c t = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) := dif_pos h0
theorem o7_B (c : Dev nD) (t : Fin cfg0.N) (h0 : ¬ t.val % 33 = 0) : o7 m c t = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) spreadV := dif_neg h0

/-- What the residuals holds after the body at a point. -/
def o4 (c : Dev nD) (t : Fin cfg0.N) : Vec Ideal S512x2048 .bf16 :=
  if h0 : t.val % 33 = 0 then out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t)
  else out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) spreadV

theorem o4_A (c : Dev nD) (t : Fin cfg0.N) (h0 : t.val % 33 = 0) : o4 m c t = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) := dif_pos h0
theorem o4_B (c : Dev nD) (t : Fin cfg0.N) (h0 : ¬ t.val % 33 = 0) : o4 m c t = out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) spreadV := dif_neg h0

/-- What the row codes holds after the body at a point. -/
def o5 (c : Dev nD) (t : Fin cfg0.N) : Vec Ideal S512x2048 .fp8e4m3 :=
  if h0 : t.val % 33 = 0 then out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t)
  else out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) spreadV

theorem o5_A (c : Dev nD) (t : Fin cfg0.N) (h0 : t.val % 33 = 0) : o5 m c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) := dif_pos h0
theorem o5_B (c : Dev nD) (t : Fin cfg0.N) (h0 : ¬ t.val % 33 = 0) : o5 m c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) spreadV := dif_neg h0

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare spreadV ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS c n h = Pipeline.ΦA spec0 c := by
  subst hz; rfl

/-- After point `n` (before point `n + 1`): the carried scratch at that point's contents. -/
theorem PhiS_succ (c : Dev nD) (n : ℕ) (hn : n < cfg0.N) :
    PhiS c (n + 1) hn = iprop(iprop((∃ d, owns (c : Thread nD τ) scM0_0 fullShare d) ∗ owns (c : Thread nD τ) scM0_1 fullShare spreadV ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS c n h = iprop(iprop((∃ d, owns (c : Thread nD τ) scM0_0 fullShare d) ∗ owns (c : Thread nD τ) scM0_1 fullShare spreadV ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows this certificate FORGETS (6, 8): nothing reads what the kernel leaves in them, so nothing
    of it is named (Lib/Pipeline/Dat.lean `Dat.toRForget`). -/
def forgets0 : Fin 9 → Bool := fun w => w.val == 6 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => o4 m c t
    | ⟨5, _⟩ => o5 m c t
    | ⟨6, h⟩ => Pipeline.Dat.unnamed (cfg := cfg0) ⟨6, h⟩ t
    | ⟨7, _⟩ => o7 m c t
    | ⟨8, h⟩ => Pipeline.Dat.unnamed (cfg := cfg0) ⟨8, h⟩ t
  Φ t := PhiS c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS c t.val (Nat.le_of_lt t.isLt) := by
  dsimp only [dats]; exact Pipeline.Dat.Φ_castSucc (PhiS c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_7 (c : Dev nD) (t : Fin cfg0.N) : (dats m 0 c).after 7 t = o7 m c t := by dsimp only [dats]
theorem after0_4 (c : Dev nD) (t : Fin cfg0.N) : (dats m 0 c).after 4 t = o4 m c t := by dsimp only [dats]
theorem after0_5 (c : Dev nD) (t : Fin cfg0.N) : (dats m 0 c).after 5 t = o5 m c t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ owns (c : Thread nD τ) (ms0_7 t) fullShare ((dats m 0 c).after 7 t)
    ∗ (∃ d, owns (c : Thread nD τ) (ms0_8 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_7]
  rw [show (dats m 0 c).Φ t.succ = PhiS c (t.val + 1) t.isLt from rfl, PhiS_succ]
  have hN : t.val < 33 := lt_of_lt_of_eq t.isLt (show cfg0.N = 33 from N_0)
  by_cases h0 : t.val % 33 = 0
  · by_cases hz : t.val = 0
    · rw [PhiS_castSucc m c t, PhiS_zero c _ _ hz, PhiA0_eq]
      rw [o4_A m c t h0, o5_A m c t h0, o7_A m c t h0]
      unfold out0_A_4 out0_A_5 out0_A_7
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, ⟨%e4, H4⟩, ⟨%e5, H5⟩, H6, ⟨%e7, H7⟩, H8, HS0, ⟨%es1, HS1⟩, HS2, HS3, HS4⟩
      isplitl [HS0 HS1 HS2 HS3 HS4 Hg]
      · isplitl [HS0 HS1 HS2 HS3 HS4]
        · isplitl [HS0]
          · iexact HS0
          isplitl [HS1]
          · unfold owns; iexists _; isplitr
            swap; · iexact HS1
            ipureintro; exact spread_A c _ _ _ _ _ _ _ _ _ _ _ _ _ _ _ _ _ _ _ _ _ _ _ _ _ _ _ _ _ _ _ _ _ _ _ _
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (cover0_A_4 c _ _ _ _ _ _ _ _ _ _ _ _ _ _ _ _ _ _ _ _ _ _ _ _ _ _ _ _ _ _ _ _ _ _)
      isplitl [H5]
      · unfold owns; iexists _; isplitr
        swap; · iexact H5
        ipureintro; exact View.read_writes_eq_canon _ _ _ (cover0_A_5 c _ _ _ _ _ _ _ _ _ _ _ _ _ _ _ _ _ _ _ _ _ _ _ _ _ _ _ _ _ _ _ _ _ _)
      isplitl [H6]; · iexact H6
      isplitl [H7]
      · unfold owns; iexists _; isplitr
        swap; · iexact H7
        ipureintro; exact View.read_writes_eq_canon _ _ _ (cover0_A_7 c _ _ _ _ _ _ _ _ _ _ _ _ _ _ _ _ _ _ _ _ _ _ _ _ _ _ _ _ _ _ _ _ _ _)
      iexact H8
    · exfalso; have hN : t.val < 33 := lt_of_lt_of_eq t.isLt (show cfg0.N = 33 from N_0); omega
  · by_cases hz : t.val = 0
    · exfalso; have hN : t.val < 33 := lt_of_lt_of_eq t.isLt (show cfg0.N = 33 from N_0); omega
    · rw [PhiS_castSucc m c t, PhiS_pos c _ _ hz]
      rw [o4_B m c t h0, o5_B m c t h0, o7_B m c t h0]
      unfold out0_B_4 out0_B_5 out0_B_7
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, ⟨%e4, H4⟩, ⟨%e5, H5⟩, H6, ⟨%e7, H7⟩, H8, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (cover0_B_4 c _ _ _ _ _ _ _ _ _ _ _ _ _ _ _ _ _ _ _ _ _ _ _ _ _ _ _ _ _ _ _ _ _ _ _)
      isplitl [H5]
      · unfold owns; iexists _; isplitr
        swap; · iexact H5
        ipureintro; exact View.read_writes_eq_canon _ _ _ (cover0_B_5 c _ _ _ _ _ _ _ _ _ _ _ _ _ _ _ _ _ _ _ _ _ _ _ _ _ _ _ _ _ _ _ _ _ _ _)
      isplitl [H6]; · iexact H6
      isplitl [H7]
      · unfold owns; iexists _; isplitr
        swap; · iexact H7
        ipureintro; exact View.read_writes_eq_canon _ _ _ (cover0_B_7 c _ _ _ _ _ _ _ _ _ _ _ _ _ _ _ _ _ _ _ _ _ _ _ _ _ _ _ _ _ _ _ _ _ _ _)
      iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS c 0 (Nat.zero_le _) from rfl, PhiS_zero c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS c t.val (Nat.le_of_lt_succ t.isLt) from rfl, PhiS_pos c _ _ ht, PhiA0_eq]
  iintro ⟨⟨HS0, HS1, HS2, HS3, HS4⟩, Hg⟩
  isplitl [HS0 HS1 HS2 HS3 HS4]
  · isplitl [HS0]
    · iexact HS0
    isplitl [HS1]
    · iexists _; iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6, 8) (Lib/Pipeline/Frame.lean `RDat.FramePost` over the proof data with those windows
    forgotten, Dat.lean `Dat.toRForget`), and every other unscoped buffer at its region-entry contents. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame claim of the ideal kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Run

end
-- ==== Proof.KList.lean ====
module

public import proofs.«01_k».proof.Proof.KMath
public import Idealize.ShloMosaic.Lib.WholeRead

/-! Lists of stored pieces that agree with one function, and the kernel's loads through them. -/

@[expose] public section

noncomputable section

open scoped BigOperators

namespace Cert.KernelIdeal.Run

open Idealize.ShloMosaic Idealize.ShloMosaic.ValueIdx Cert.KernelIdeal Cert.KernelIdeal.Gen Cert.Quant

/-- Every piece of the list is the function `G` on its rectangle. -/
def Ok {S : Shape} {e : EltTy} (G : S.Idx → Elt Ideal e) (L : List (View.Piece (Elt Ideal) S e)) : Prop :=
  ∀ p ∈ L, ∀ x : p.1.shape.Idx, p.2 x = G (p.1.emb x)

theorem Ok.nil {S : Shape} {e : EltTy} {G : S.Idx → Elt Ideal e} : Ok G [] := fun p hp => absurd hp (by simp)

theorem Ok.cons {S : Shape} {e : EltTy} {G : S.Idx → Elt Ideal e} {L : List (View.Piece (Elt Ideal) S e)} {R : Rect S} {w : R.shape.Idx → Elt Ideal e}
    (h : ∀ x, w x = G (R.emb x)) (hL : Ok G L) : Ok G (⟨R, w⟩ :: L) := by
  intro p hp
  rcases List.mem_cons.mp hp with rfl | hp
  · exact h
  · exact hL p hp

theorem rc {S : Shape} {e : EltTy} {κ : Kind} {sp : Space} (m : Memref sig κ sp S e) {G : S.Idx → Elt Ideal e} {L : List (View.Piece (Elt Ideal) S e)}
    (hok : Ok G L) (R : Rect S) (hc : ∀ y ∈ R.set, ∃ p ∈ L, y ∈ p.1.set) (i : R.shape.Idx) :
    m.view.readCov L R.toLoadRect i = G (R.emb i) := by
  rw [View.readCov_eq_canon']
  exact View.canon_apply_of_pieces G L hok _ (hc _ (by exact R.toLoadRect.idx_mem i))

theorem inbj (j : ℕ) (hj : j < 4) (g : Fin 16) : ∀ a, (![j, g.val, 0] : Fin 3 → ℕ) a + S1x1x128.size a ≤ S4x16x128.size a := by
  intro a
  match a with
  | ⟨0, _⟩ => show j + 1 ≤ 4; omega
  | ⟨1, _⟩ => show g.val + 1 ≤ 16; omega
  | ⟨2, _⟩ => show 0 + 128 ≤ 128; omega

/-- A load of a block of a staged array. -/
abbrev ld {S : Shape} {e : EltTy} (m : Memref sig .tc .vmem S e) (h : m.IsWhole) (x : Vec Ideal S e) (R : Rect S) :=
  View.readAt (Elt Ideal) m.view R.toLoadRect (h.unread x)

section

variable (arg2 : Memref sig .tc .vmem S512x2048 .fp8e4m3) (harg2 : arg2.IsWhole) (arg3 : Memref sig .tc .vmem S1x16x512 .f32) (harg3 : arg3.IsWhole)
  (arg4 : Memref sig .tc .vmem S512x2048 .bf16) (harg4 : arg4.IsWhole) (arg5 : Memref sig .tc .vmem S512x2048 .f32) (harg5 : arg5.IsWhole)
  (arg11 : Memref sig .tc .vmem S512x2048 .f32) (arg12 : Memref sig .tc .vmem S128x2048 .bf16) (harg12 : arg12.IsWhole)
  (arg13 arg15 : Memref sig .tc .vmem S4x16x128 .f32)
  (x0 : Vec Ideal S512x2048 .fp8e4m3) (x1 : Vec Ideal S1x16x512 .f32) (x2 : Vec Ideal S512x2048 .bf16) (x3 : Vec Ideal S512x2048 .f32)
  (xs1 : Vec Ideal S128x2048 .bf16) (hx : ∀ i, x1 i ≠ ⊤ ∧ x1 i ≠ ⊥)

theorem spB (hxs : ∀ (k : Fin 128) (c : Fin 2048), xs1 (ix2 k c) = spreadI k c) (o1 : ℕ)
    (inb : ∀ a, (![0, o1] : Fin 2 → ℕ) a + S128x256.size a ≤ S128x2048.size a) (k : Fin 128) (c : Fin 256) (C : Fin 2048) (hC : C.val = o1 + c.val) :
    ld arg12 harg12 xs1 (Rect.unit (s := S128x2048) ![0, o1] S128x256.size inb) (ix2 k c) = spreadI k C := by
  rw [← hxs]
  refine (Memref.IsWhole.readAt_unread harg12 xs1 _ _).trans (congrArg xs1 (funext fun b => ?_))
  match b with
  | ⟨0, _⟩ => exact Fin.ext (by show 0 + 1 * k.val = k.val; omega)
  | ⟨1, _⟩ => exact Fin.ext (by show o1 + 1 * c.val = C.val; omega)

include hx in
theorem WX (sp : Vec Ideal S128x256 .bf16) (o0 o1 : ℕ)
    (hsp : ∀ (k : Fin 128) (c : Fin 256) (C : Fin 2048), C.val = o1 + c.val → sp (ix2 k c) = spreadI k C)
    (inb : ∀ a, (![o0, o1] : Fin 2 → ℕ) a + S128x256.size a ≤ S512x2048.size a)
    (inb3 : ∀ a, (![0, 0, o0] : Fin 3 → ℕ) a + S1x16x128.size a ≤ S1x16x512.size a) (x : S128x256.Idx) :
    k0_pay5 (F := Ideal) (ld arg3 harg3 x1 (Rect.unit (s := S1x16x512) ![0, 0, o0] S1x16x128.size inb3)) (ld arg2 harg2 x0 (Rect.unit (s := S512x2048) ![o0, o1] S128x256.size inb))
      sp (ld arg4 harg4 x2 (Rect.unit (s := S512x2048) ![o0, o1] S128x256.size inb)) (ld arg5 harg5 x3 (Rect.unit (s := S512x2048) ![o0, o1] S128x256.size inb)) x
      = wI x0 x1 x2 x3 ((Rect.unit (s := S512x2048) ![o0, o1] S128x256.size inb).emb x) :=
  W_piece x0 x1 x2 x3 hx _ _ sp _ _ o0 o1 inb inb3 (fun i => Memref.IsWhole.readAt_unread harg3 x1 _ _) (fun i => Memref.IsWhole.readAt_unread harg2 x0 _ _) hsp
    (fun i => Memref.IsWhole.readAt_unread harg4 x2 _ _) (fun i => Memref.IsWhole.readAt_unread harg5 x3 _ _) x

include hx in
theorem CX0 (sp : Vec Ideal S128x256 .bf16) (o0 o1 : ℕ)
    (hsp : ∀ (k : Fin 128) (c : Fin 256) (C : Fin 2048), C.val = o1 + c.val → sp (ix2 k c) = spreadI k C)
    (inb : ∀ a, (![o0, o1] : Fin 2 → ℕ) a + S128x256.size a ≤ S512x2048.size a)
    (inb3 : ∀ a, (![0, 0, o0] : Fin 3 → ℕ) a + S1x16x128.size a ≤ S1x16x512.size a) (j g : ℕ) (hj : o0 = 128 * j) (hg : o1 = 128 * g)
    (inbc : ∀ a, (![j, g, 0] : Fin 3 → ℕ) a + S1x1x128.size a ≤ S4x16x128.size a) (x : S1x1x128.Idx) :
    k0_pay8 (F := Ideal) (k0_pay6 (F := Ideal) (ld arg3 harg3 x1 (Rect.unit (s := S1x16x512) ![0, 0, o0] S1x16x128.size inb3)) (ld arg2 harg2 x0 (Rect.unit (s := S512x2048) ![o0, o1] S128x256.size inb))
      sp (ld arg4 harg4 x2 (Rect.unit (s := S512x2048) ![o0, o1] S128x256.size inb)) (ld arg5 harg5 x3 (Rect.unit (s := S512x2048) ![o0, o1] S128x256.size inb))) x
      = gm (wI x0 x1 x2 x3) ((Rect.unit (s := S4x16x128) ![j, g, 0] S1x1x128.size inbc).emb x) :=
  C_piece0 x0 x1 x2 x3 hx _ _ sp _ _ o0 o1 inb inb3 (fun i => Memref.IsWhole.readAt_unread harg3 x1 _ _) (fun i => Memref.IsWhole.readAt_unread harg2 x0 _ _) hsp
    (fun i => Memref.IsWhole.readAt_unread harg4 x2 _ _) (fun i => Memref.IsWhole.readAt_unread harg5 x3 _ _) j g hj hg inbc x

include hx in
theorem CX1 (sp : Vec Ideal S128x256 .bf16) (o0 o1 : ℕ)
    (hsp : ∀ (k : Fin 128) (c : Fin 256) (C : Fin 2048), C.val = o1 + c.val → sp (ix2 k c) = spreadI k C)
    (inb : ∀ a, (![o0, o1] : Fin 2 → ℕ) a + S128x256.size a ≤ S512x2048.size a)
    (inb3 : ∀ a, (![0, 0, o0] : Fin 3 → ℕ) a + S1x16x128.size a ≤ S1x16x512.size a) (j g : ℕ) (hj : o0 = 128 * j) (hg : o1 + 128 = 128 * g)
    (inbc : ∀ a, (![j, g, 0] : Fin 3 → ℕ) a + S1x1x128.size a ≤ S4x16x128.size a) (x : S1x1x128.Idx) :
    k0_pay9 (F := Ideal) (k0_pay6 (F := Ideal) (ld arg3 harg3 x1 (Rect.unit (s := S1x16x512) ![0, 0, o0] S1x16x128.size inb3)) (ld arg2 harg2 x0 (Rect.unit (s := S512x2048) ![o0, o1] S128x256.size inb))
      sp (ld arg4 harg4 x2 (Rect.unit (s := S512x2048) ![o0, o1] S128x256.size inb)) (ld arg5 harg5 x3 (Rect.unit (s := S512x2048) ![o0, o1] S128x256.size inb))) x
      = gm (wI x0 x1 x2 x3) ((Rect.unit (s := S4x16x128) ![j, g, 0] S1x1x128.size inbc).emb x) :=
  C_piece1 x0 x1 x2 x3 hx _ _ sp _ _ o0 o1 inb inb3 (fun i => Memref.IsWhole.readAt_unread harg3 x1 _ _) (fun i => Memref.IsWhole.readAt_unread harg2 x0 _ _) hsp
    (fun i => Memref.IsWhole.readAt_unread harg4 x2 _ _) (fun i => Memref.IsWhole.readAt_unread harg5 x3 _ _) j g hj hg inbc x

theorem IX (w : S512x2048.Idx → EReal) (L : List (View.Piece (Elt Ideal) S4x16x128 .f32)) (hL : Ok (e := .f32) (gm w) L) (j : ℕ)
    (inb : ∀ a, (![j, 0, 0] : Fin 3 → ℕ) a + S1x16x128.size a ≤ S4x16x128.size a)
    (hc : ∀ g : Fin 16, ∃ p ∈ L, ∃ inbc, p.1 = Rect.unit (s := S4x16x128) ![j, g.val, 0] S1x1x128.size inbc) (x : S1x16x128.Idx) :
    k0_pay77 (F := Ideal) (k0_pay75 (F := Ideal) (k0_pay70 (F := Ideal) (arg13.view.readCov L (Rect.unit (s := S4x16x128) ![j, 0, 0] S1x16x128.size inb).toLoadRect))
      (k0_pay71 (F := Ideal) (arg13.view.readCov L (Rect.unit (s := S4x16x128) ![j, 0, 0] S1x16x128.size inb).toLoadRect))
      (k0_pay72 (F := Ideal) (arg13.view.readCov L (Rect.unit (s := S4x16x128) ![j, 0, 0] S1x16x128.size inb).toLoadRect))) x
      = gi w ((Rect.unit (s := S4x16x128) ![j, 0, 0] S1x16x128.size inb).emb x) := by
  rw [I_apply]
  unfold gi
  refine congrArg kinv (rc arg13 hL (Rect.unit (s := S4x16x128) ![j, 0, 0] S1x16x128.size inb) (fun y hy => ?_) x)
  obtain ⟨p, hp, inbc, he⟩ := hc (y 1)
  refine ⟨p, hp, ?_⟩
  rw [he]
  rw [Rect.mem_set_unit] at hy ⊢
  intro a
  match a with
  | ⟨0, _⟩ => exact hy 0
  | ⟨1, _⟩ => exact ⟨le_refl _, Nat.lt_succ_self _⟩
  | ⟨2, _⟩ => exact hy 2

theorem QX (w : S512x2048.Idx → EReal) (L0 : List (View.Piece (Elt Ideal) S512x2048 .f32)) (h0 : Ok (e := .f32) w L0)
    (L4 : List (View.Piece (Elt Ideal) S4x16x128 .f32)) (h4 : Ok (e := .f32) (gi w) L4) (o0 o1 j g : ℕ) (hj : o0 = 128 * j) (hg : o1 = 128 * g)
    (inb : ∀ a, (![o0, o1] : Fin 2 → ℕ) a + S128x256.size a ≤ S512x2048.size a)
    (inb0 : ∀ a, (![j, g, 0] : Fin 3 → ℕ) a + S1x1x128.size a ≤ S4x16x128.size a)
    (inb1 : ∀ a, (![j, g + 1, 0] : Fin 3 → ℕ) a + S1x1x128.size a ≤ S4x16x128.size a)
    (c0 : ∃ p ∈ L0, ∃ inbc, p.1 = Rect.unit (s := S512x2048) ![o0, o1] S128x256.size inbc)
    (c4 : ∃ p ∈ L4, ∃ inbc, p.1 = Rect.unit (s := S4x16x128) ![j, 0, 0] S1x16x128.size inbc) (x : S128x256.Idx) :
    k0_pay167 (F := Ideal) (k0_pay161 (F := Ideal) (arg15.view.readCov L4 (Rect.unit (s := S4x16x128) ![j, g, 0] S1x1x128.size inb0).toLoadRect))
      (k0_pay163 (F := Ideal) (arg15.view.readCov L4 (Rect.unit (s := S4x16x128) ![j, g + 1, 0] S1x1x128.size inb1).toLoadRect))
      (arg11.view.readCov L0 (Rect.unit (s := S512x2048) ![o0, o1] S128x256.size inb).toLoadRect) x
      = qc w ((Rect.unit (s := S512x2048) ![o0, o1] S128x256.size inb).emb x) := by
  have hm : ∀ (g : ℕ) (inbg : ∀ a, (![j, g, 0] : Fin 3 → ℕ) a + S1x1x128.size a ≤ S4x16x128.size a),
      ∀ y ∈ (Rect.unit (s := S4x16x128) ![j, g, 0] S1x1x128.size inbg).set, ∃ p ∈ L4, y ∈ p.1.set := by
    intro g inbg y hy
    obtain ⟨p, hp, inbc, he⟩ := c4
    refine ⟨p, hp, ?_⟩
    rw [he]
    rw [Rect.mem_set_unit] at hy ⊢
    intro a
    match a with
    | ⟨0, _⟩ => exact hy 0
    | ⟨1, _⟩ => exact ⟨Nat.zero_le _, by have := (y 1).isLt; show (y 1).val < 0 + 16; change _ < 16 at this; omega⟩
    | ⟨2, _⟩ => exact hy 2
  refine Q_piece w o0 o1 j g hj hg inb inb0 inb1 _ _ _ (rc arg15 h4 (Rect.unit (s := S4x16x128) ![j, g, 0] S1x1x128.size inb0) (hm g inb0)) (rc arg15 h4 (Rect.unit (s := S4x16x128) ![j, g + 1, 0] S1x1x128.size inb1) (hm (g + 1) inb1))
    (rc arg11 h0 (Rect.unit (s := S512x2048) ![o0, o1] S128x256.size inb) (fun y hy => ?_)) x
  obtain ⟨p, hp, inbc, he⟩ := c0
  exact ⟨p, hp, by rw [he]; exact hy⟩

end

end Cert.KernelIdeal.Run
-- ==== Proof.KPiecesA.lean ====
module

public import proofs.«01_k».proof.Proof.KList
public import proofs.«01_k».proof.Proof.KRunB
import all proofs.«01_k».proof.Proof.KRunA

/-! The pieces the ideal kernel stores in case A agree with the block functions. -/

@[expose] public section

set_option maxRecDepth 100000
set_option maxHeartbeats 4000000

noncomputable section

namespace Cert.KernelIdeal.Run

open Idealize.ShloMosaic Idealize.ShloMosaic.ValueIdx Cert.KernelIdeal Cert.KernelIdeal.Gen Cert.Quant

section CaseA

variable (c : Dev nD) (arg2 : Memref sig .tc .vmem S512x2048 .fp8e4m3) (harg2 : arg2.IsWhole) (arg3 : Memref sig .tc .vmem S1x16x512 .f32) (harg3 : arg3.IsWhole)
  (arg4 : Memref sig .tc .vmem S512x2048 .bf16) (harg4 : arg4.IsWhole) (arg5 : Memref sig .tc .vmem S512x2048 .f32) (harg5 : arg5.IsWhole)
  (arg11 : Memref sig .tc .vmem S512x2048 .f32) (arg12 : Memref sig .tc .vmem S128x2048 .bf16) (harg12 : arg12.IsWhole)
  (arg13 arg15 : Memref sig .tc .vmem S4x16x128 .f32)
  (x0 : Vec Ideal S512x2048 .fp8e4m3) (x1 : Vec Ideal S1x16x512 .f32) (x2 : Vec Ideal S512x2048 .bf16) (x3 : Vec Ideal S512x2048 .f32)
  (xs1 : Vec Ideal S128x2048 .bf16) (hx : ∀ i, x1 i ≠ ⊤ ∧ x1 i ≠ ⊥)

theorem HS1_ok_A : Ok (e := .bf16) (S := S128x2048) (fun i => spreadI (i 0) (i 1)) (kernelRun0_A.sl.HS1_1 (F := Ideal) ) :=
  Ok.cons (fun x => by
    obtain ⟨k, c, rfl⟩ : ∃ (k : Fin 128) (c : Fin 2048), x = ix2 k c := ⟨x 0, x 1, eq_ix2 x⟩
    refine (spread_apply k c).trans ?_
    show spreadI k c = spreadI _ _
    congr 1
    · exact Fin.ext (by show k.val = 0 + 1 * k.val; omega)
    · exact Fin.ext (by show c.val = 0 + 1 * c.val; omega)) Ok.nil

theorem spA (o1 : ℕ) (inb : ∀ a, (![0, o1] : Fin 2 → ℕ) a + S128x256.size a ≤ S128x2048.size a) (k : Fin 128) (c : Fin 256) (C : Fin 2048) (hC : C.val = o1 + c.val) :
    arg12.view.readCov (kernelRun0_A.sl.HS1_1 (F := Ideal) ) (Rect.unit (s := S128x2048) ![0, o1] S128x256.size inb).toLoadRect (ix2 k c) = spreadI k C := by
  refine (rc arg12 HS1_ok_A (Rect.unit (s := S128x2048) ![0, o1] S128x256.size inb) (fun y _ => ⟨_, List.mem_cons_self, ?_⟩) (ix2 k c)).trans ?_
  · show y ∈ (Rect.unit (s := S128x2048) ![0, 0] S128x2048.size (by decide)).set
    rw [Rect.mem_set_unit]
    intro a
    have := (y a).isLt
    match a with
    | ⟨0, _⟩ => exact ⟨Nat.zero_le _, by show (y 0).val < 0 + 128; change (y 0).val < 128 at this; omega⟩
    | ⟨1, _⟩ => exact ⟨Nat.zero_le _, by show (y 1).val < 0 + 2048; change (y 1).val < 2048 at this; omega⟩
  · show spreadI _ _ = _
    congr 1
    · exact Fin.ext (by show 0 + 1 * k.val = k.val; omega)
    · exact Fin.ext (by show o1 + 1 * c.val = C.val; omega)

include hx in
theorem HS0_16_ok_A : Ok (e := .f32) (wI x0 x1 x2 x3) (kernelRun0_A.sl.HS0_16 (F := Ideal) c arg2 harg2 arg3 harg3 arg4 harg4 arg5 harg5 arg12 x0 x1 x2 x3) :=
  Ok.cons (fun x => WX arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 128 1792 (spA arg12 1792 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 128 1536 (spA arg12 1536 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 128 1280 (spA arg12 1280 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 128 1024 (spA arg12 1024 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 128 768 (spA arg12 768 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 128 512 (spA arg12 512 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 128 256 (spA arg12 256 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 128 0 (spA arg12 0 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 0 1792 (spA arg12 1792 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 0 1536 (spA arg12 1536 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 0 1280 (spA arg12 1280 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 0 1024 (spA arg12 1024 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 0 768 (spA arg12 768 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 0 512 (spA arg12 512 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 0 256 (spA arg12 256 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 0 0 (spA arg12 0 (by decide)) (by decide) (by decide) x) <|
  Ok.nil

include hx in
theorem HS0_24_ok_A : Ok (e := .f32) (wI x0 x1 x2 x3) (kernelRun0_A.sl.HS0_24 (F := Ideal) c arg2 harg2 arg3 harg3 arg4 harg4 arg5 harg5 arg12 x0 x1 x2 x3) :=
  Ok.cons (fun x => WX arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 256 1792 (spA arg12 1792 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 256 1536 (spA arg12 1536 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 256 1280 (spA arg12 1280 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 256 1024 (spA arg12 1024 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 256 768 (spA arg12 768 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 256 512 (spA arg12 512 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 256 256 (spA arg12 256 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 256 0 (spA arg12 0 (by decide)) (by decide) (by decide) x) <|
  (HS0_16_ok_A c arg2 harg2 arg3 harg3 arg4 harg4 arg5 harg5 arg12 x0 x1 x2 x3 hx)

include hx in
theorem HS0_32_ok_A : Ok (e := .f32) (wI x0 x1 x2 x3) (kernelRun0_A.sl.HS0_32 (F := Ideal) c arg2 harg2 arg3 harg3 arg4 harg4 arg5 harg5 arg12 x0 x1 x2 x3) :=
  Ok.cons (fun x => WX arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 384 1792 (spA arg12 1792 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 384 1536 (spA arg12 1536 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 384 1280 (spA arg12 1280 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 384 1024 (spA arg12 1024 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 384 768 (spA arg12 768 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 384 512 (spA arg12 512 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 384 256 (spA arg12 256 (by decide)) (by decide) (by decide) x) <|
  Ok.cons (fun x => WX arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 384 0 (spA arg12 0 (by decide)) (by decide) (by decide) x) <|
  (HS0_24_ok_A c arg2 harg2 arg3 harg3 arg4 harg4 arg5 harg5 arg12 x0 x1 x2 x3 hx)

include hx in
theorem HS2_16_ok_A : Ok (e := .f32) (gm (wI x0 x1 x2 x3)) (kernelRun0_A.sl.HS2_16 (F := Ideal) c arg2 harg2 arg3 harg3 arg4 harg4 arg5 harg5 arg12 x0 x1 x2 x3) :=
  Ok.cons (fun x => CX1 arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 0 1792 (spA arg12 1792 (by decide)) (by decide) (by decide) 0 15 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 0 1792 (spA arg12 1792 (by decide)) (by decide) (by decide) 0 14 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 0 1536 (spA arg12 1536 (by decide)) (by decide) (by decide) 0 13 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 0 1536 (spA arg12 1536 (by decide)) (by decide) (by decide) 0 12 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 0 1280 (spA arg12 1280 (by decide)) (by decide) (by decide) 0 11 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 0 1280 (spA arg12 1280 (by decide)) (by decide) (by decide) 0 10 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 0 1024 (spA arg12 1024 (by decide)) (by decide) (by decide) 0 9 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 0 1024 (spA arg12 1024 (by decide)) (by decide) (by decide) 0 8 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 0 768 (spA arg12 768 (by decide)) (by decide) (by decide) 0 7 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 0 768 (spA arg12 768 (by decide)) (by decide) (by decide) 0 6 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 0 512 (spA arg12 512 (by decide)) (by decide) (by decide) 0 5 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 0 512 (spA arg12 512 (by decide)) (by decide) (by decide) 0 4 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 0 256 (spA arg12 256 (by decide)) (by decide) (by decide) 0 3 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 0 256 (spA arg12 256 (by decide)) (by decide) (by decide) 0 2 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 0 0 (spA arg12 0 (by decide)) (by decide) (by decide) 0 1 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 0 0 (spA arg12 0 (by decide)) (by decide) (by decide) 0 0 (by omega) (by omega) (by decide) x) <|
  Ok.nil

theorem HS2_16_has_A : ∀ g : Fin 16, ∃ p ∈ (kernelRun0_A.sl.HS2_16 (F := Ideal) c arg2 harg2 arg3 harg3 arg4 harg4 arg5 harg5 arg12 x0 x1 x2 x3), ∃ inbc, p.1 = Rect.unit (s := S4x16x128) ![0, g.val, 0] S1x1x128.size inbc := fun g => match g with
  | ⟨0, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), inbj 0 (by decide) _, rfl⟩
  | ⟨1, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), inbj 0 (by decide) _, rfl⟩
  | ⟨2, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), inbj 0 (by decide) _, rfl⟩
  | ⟨3, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), inbj 0 (by decide) _, rfl⟩
  | ⟨4, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), inbj 0 (by decide) _, rfl⟩
  | ⟨5, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), inbj 0 (by decide) _, rfl⟩
  | ⟨6, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), inbj 0 (by decide) _, rfl⟩
  | ⟨7, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), inbj 0 (by decide) _, rfl⟩
  | ⟨8, _⟩ => ⟨_, (List.mem_cons_of_mem _ (List.mem_cons_of_mem _ (List.mem_cons_of_mem _ (List.mem_cons_of_mem _ (List.mem_cons_of_mem _ (List.mem_cons_of_mem _ (List.mem_cons_of_mem _ List.mem_cons_self))))))), inbj 0 (by decide) _, rfl⟩
  | ⟨9, _⟩ => ⟨_, (List.mem_cons_of_mem _ (List.mem_cons_of_mem _ (List.mem_cons_of_mem _ (List.mem_cons_of_mem _ (List.mem_cons_of_mem _ (List.mem_cons_of_mem _ List.mem_cons_self)))))), inbj 0 (by decide) _, rfl⟩
  | ⟨10, _⟩ => ⟨_, (List.mem_cons_of_mem _ (List.mem_cons_of_mem _ (List.mem_cons_of_mem _ (List.mem_cons_of_mem _ (List.mem_cons_of_mem _ List.mem_cons_self))))), inbj 0 (by decide) _, rfl⟩
  | ⟨11, _⟩ => ⟨_, (List.mem_cons_of_mem _ (List.mem_cons_of_mem _ (List.mem_cons_of_mem _ (List.mem_cons_of_mem _ List.mem_cons_self)))), inbj 0 (by decide) _, rfl⟩
  | ⟨12, _⟩ => ⟨_, (List.mem_cons_of_mem _ (List.mem_cons_of_mem _ (List.mem_cons_of_mem _ List.mem_cons_self))), inbj 0 (by decide) _, rfl⟩
  | ⟨13, _⟩ => ⟨_, (List.mem_cons_of_mem _ (List.mem_cons_of_mem _ List.mem_cons_self)), inbj 0 (by decide) _, rfl⟩
  | ⟨14, _⟩ => ⟨_, (List.mem_cons_of_mem _ List.mem_cons_self), inbj 0 (by decide) _, rfl⟩
  | ⟨15, _⟩ => ⟨_, List.mem_cons_self, inbj 0 (by decide) _, rfl⟩
  | ⟨n + 16, h⟩ => absurd h (by omega)

include hx in
theorem HS2_32_ok_A : Ok (e := .f32) (gm (wI x0 x1 x2 x3)) (kernelRun0_A.sl.HS2_32 (F := Ideal) c arg2 harg2 arg3 harg3 arg4 harg4 arg5 harg5 arg12 x0 x1 x2 x3) :=
  Ok.cons (fun x => CX1 arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 128 1792 (spA arg12 1792 (by decide)) (by decide) (by decide) 1 15 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 128 1792 (spA arg12 1792 (by decide)) (by decide) (by decide) 1 14 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 128 1536 (spA arg12 1536 (by decide)) (by decide) (by decide) 1 13 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 128 1536 (spA arg12 1536 (by decide)) (by decide) (by decide) 1 12 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 128 1280 (spA arg12 1280 (by decide)) (by decide) (by decide) 1 11 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 128 1280 (spA arg12 1280 (by decide)) (by decide) (by decide) 1 10 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 128 1024 (spA arg12 1024 (by decide)) (by decide) (by decide) 1 9 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 128 1024 (spA arg12 1024 (by decide)) (by decide) (by decide) 1 8 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 128 768 (spA arg12 768 (by decide)) (by decide) (by decide) 1 7 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 128 768 (spA arg12 768 (by decide)) (by decide) (by decide) 1 6 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 128 512 (spA arg12 512 (by decide)) (by decide) (by decide) 1 5 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 128 512 (spA arg12 512 (by decide)) (by decide) (by decide) 1 4 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 128 256 (spA arg12 256 (by decide)) (by decide) (by decide) 1 3 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 128 256 (spA arg12 256 (by decide)) (by decide) (by decide) 1 2 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 128 0 (spA arg12 0 (by decide)) (by decide) (by decide) 1 1 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 128 0 (spA arg12 0 (by decide)) (by decide) (by decide) 1 0 (by omega) (by omega) (by decide) x) <|
  (HS2_16_ok_A c arg2 harg2 arg3 harg3 arg4 harg4 arg5 harg5 arg12 x0 x1 x2 x3 hx)

theorem HS2_32_has_A : ∀ g : Fin 16, ∃ p ∈ (kernelRun0_A.sl.HS2_32 (F := Ideal) c arg2 harg2 arg3 harg3 arg4 harg4 arg5 harg5 arg12 x0 x1 x2 x3), ∃ inbc, p.1 = Rect.unit (s := S4x16x128) ![1, g.val, 0] S1x1x128.size inbc := fun g => match g with
  | ⟨0, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), inbj 1 (by decide) _, rfl⟩
  | ⟨1, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), inbj 1 (by decide) _, rfl⟩
  | ⟨2, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), inbj 1 (by decide) _, rfl⟩
  | ⟨3, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), inbj 1 (by decide) _, rfl⟩
  | ⟨4, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), inbj 1 (by decide) _, rfl⟩
  | ⟨5, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), inbj 1 (by decide) _, rfl⟩
  | ⟨6, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), inbj 1 (by decide) _, rfl⟩
  | ⟨7, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), inbj 1 (by decide) _, rfl⟩
  | ⟨8, _⟩ => ⟨_, (List.mem_cons_of_mem _ (List.mem_cons_of_mem _ (List.mem_cons_of_mem _ (List.mem_cons_of_mem _ (List.mem_cons_of_mem _ (List.mem_cons_of_mem _ (List.mem_cons_of_mem _ List.mem_cons_self))))))), inbj 1 (by decide) _, rfl⟩
  | ⟨9, _⟩ => ⟨_, (List.mem_cons_of_mem _ (List.mem_cons_of_mem _ (List.mem_cons_of_mem _ (List.mem_cons_of_mem _ (List.mem_cons_of_mem _ (List.mem_cons_of_mem _ List.mem_cons_self)))))), inbj 1 (by decide) _, rfl⟩
  | ⟨10, _⟩ => ⟨_, (List.mem_cons_of_mem _ (List.mem_cons_of_mem _ (List.mem_cons_of_mem _ (List.mem_cons_of_mem _ (List.mem_cons_of_mem _ List.mem_cons_self))))), inbj 1 (by decide) _, rfl⟩
  | ⟨11, _⟩ => ⟨_, (List.mem_cons_of_mem _ (List.mem_cons_of_mem _ (List.mem_cons_of_mem _ (List.mem_cons_of_mem _ List.mem_cons_self)))), inbj 1 (by decide) _, rfl⟩
  | ⟨12, _⟩ => ⟨_, (List.mem_cons_of_mem _ (List.mem_cons_of_mem _ (List.mem_cons_of_mem _ List.mem_cons_self))), inbj 1 (by decide) _, rfl⟩
  | ⟨13, _⟩ => ⟨_, (List.mem_cons_of_mem _ (List.mem_cons_of_mem _ List.mem_cons_self)), inbj 1 (by decide) _, rfl⟩
  | ⟨14, _⟩ => ⟨_, (List.mem_cons_of_mem _ List.mem_cons_self), inbj 1 (by decide) _, rfl⟩
  | ⟨15, _⟩ => ⟨_, List.mem_cons_self, inbj 1 (by decide) _, rfl⟩
  | ⟨n + 16, h⟩ => absurd h (by omega)

include hx in
theorem HS2_48_ok_A : Ok (e := .f32) (gm (wI x0 x1 x2 x3)) (kernelRun0_A.sl.HS2_48 (F := Ideal) c arg2 harg2 arg3 harg3 arg4 harg4 arg5 harg5 arg12 x0 x1 x2 x3) :=
  Ok.cons (fun x => CX1 arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 256 1792 (spA arg12 1792 (by decide)) (by decide) (by decide) 2 15 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 256 1792 (spA arg12 1792 (by decide)) (by decide) (by decide) 2 14 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 256 1536 (spA arg12 1536 (by decide)) (by decide) (by decide) 2 13 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 256 1536 (spA arg12 1536 (by decide)) (by decide) (by decide) 2 12 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 256 1280 (spA arg12 1280 (by decide)) (by decide) (by decide) 2 11 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 256 1280 (spA arg12 1280 (by decide)) (by decide) (by decide) 2 10 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 256 1024 (spA arg12 1024 (by decide)) (by decide) (by decide) 2 9 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 256 1024 (spA arg12 1024 (by decide)) (by decide) (by decide) 2 8 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 256 768 (spA arg12 768 (by decide)) (by decide) (by decide) 2 7 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 256 768 (spA arg12 768 (by decide)) (by decide) (by decide) 2 6 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 256 512 (spA arg12 512 (by decide)) (by decide) (by decide) 2 5 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 256 512 (spA arg12 512 (by decide)) (by decide) (by decide) 2 4 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 256 256 (spA arg12 256 (by decide)) (by decide) (by decide) 2 3 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 256 256 (spA arg12 256 (by decide)) (by decide) (by decide) 2 2 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 256 0 (spA arg12 0 (by decide)) (by decide) (by decide) 2 1 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 256 0 (spA arg12 0 (by decide)) (by decide) (by decide) 2 0 (by omega) (by omega) (by decide) x) <|
  (HS2_32_ok_A c arg2 harg2 arg3 harg3 arg4 harg4 arg5 harg5 arg12 x0 x1 x2 x3 hx)

theorem HS2_48_has_A : ∀ g : Fin 16, ∃ p ∈ (kernelRun0_A.sl.HS2_48 (F := Ideal) c arg2 harg2 arg3 harg3 arg4 harg4 arg5 harg5 arg12 x0 x1 x2 x3), ∃ inbc, p.1 = Rect.unit (s := S4x16x128) ![2, g.val, 0] S1x1x128.size inbc := fun g => match g with
  | ⟨0, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), inbj 2 (by decide) _, rfl⟩
  | ⟨1, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), inbj 2 (by decide) _, rfl⟩
  | ⟨2, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), inbj 2 (by decide) _, rfl⟩
  | ⟨3, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), inbj 2 (by decide) _, rfl⟩
  | ⟨4, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), inbj 2 (by decide) _, rfl⟩
  | ⟨5, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), inbj 2 (by decide) _, rfl⟩
  | ⟨6, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), inbj 2 (by decide) _, rfl⟩
  | ⟨7, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), inbj 2 (by decide) _, rfl⟩
  | ⟨8, _⟩ => ⟨_, (List.mem_cons_of_mem _ (List.mem_cons_of_mem _ (List.mem_cons_of_mem _ (List.mem_cons_of_mem _ (List.mem_cons_of_mem _ (List.mem_cons_of_mem _ (List.mem_cons_of_mem _ List.mem_cons_self))))))), inbj 2 (by decide) _, rfl⟩
  | ⟨9, _⟩ => ⟨_, (List.mem_cons_of_mem _ (List.mem_cons_of_mem _ (List.mem_cons_of_mem _ (List.mem_cons_of_mem _ (List.mem_cons_of_mem _ (List.mem_cons_of_mem _ List.mem_cons_self)))))), inbj 2 (by decide) _, rfl⟩
  | ⟨10, _⟩ => ⟨_, (List.mem_cons_of_mem _ (List.mem_cons_of_mem _ (List.mem_cons_of_mem _ (List.mem_cons_of_mem _ (List.mem_cons_of_mem _ List.mem_cons_self))))), inbj 2 (by decide) _, rfl⟩
  | ⟨11, _⟩ => ⟨_, (List.mem_cons_of_mem _ (List.mem_cons_of_mem _ (List.mem_cons_of_mem _ (List.mem_cons_of_mem _ List.mem_cons_self)))), inbj 2 (by decide) _, rfl⟩
  | ⟨12, _⟩ => ⟨_, (List.mem_cons_of_mem _ (List.mem_cons_of_mem _ (List.mem_cons_of_mem _ List.mem_cons_self))), inbj 2 (by decide) _, rfl⟩
  | ⟨13, _⟩ => ⟨_, (List.mem_cons_of_mem _ (List.mem_cons_of_mem _ List.mem_cons_self)), inbj 2 (by decide) _, rfl⟩
  | ⟨14, _⟩ => ⟨_, (List.mem_cons_of_mem _ List.mem_cons_self), inbj 2 (by decide) _, rfl⟩
  | ⟨15, _⟩ => ⟨_, List.mem_cons_self, inbj 2 (by decide) _, rfl⟩
  | ⟨n + 16, h⟩ => absurd h (by omega)

include hx in
theorem HS2_64_ok_A : Ok (e := .f32) (gm (wI x0 x1 x2 x3)) (kernelRun0_A.sl.HS2_64 (F := Ideal) c arg2 harg2 arg3 harg3 arg4 harg4 arg5 harg5 arg12 x0 x1 x2 x3) :=
  Ok.cons (fun x => CX1 arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 384 1792 (spA arg12 1792 (by decide)) (by decide) (by decide) 3 15 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1792] S128x256.size (by decide)).toLoadRect) 384 1792 (spA arg12 1792 (by decide)) (by decide) (by decide) 3 14 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 384 1536 (spA arg12 1536 (by decide)) (by decide) (by decide) 3 13 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1536] S128x256.size (by decide)).toLoadRect) 384 1536 (spA arg12 1536 (by decide)) (by decide) (by decide) 3 12 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 384 1280 (spA arg12 1280 (by decide)) (by decide) (by decide) 3 11 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1280] S128x256.size (by decide)).toLoadRect) 384 1280 (spA arg12 1280 (by decide)) (by decide) (by decide) 3 10 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 384 1024 (spA arg12 1024 (by decide)) (by decide) (by decide) 3 9 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 1024] S128x256.size (by decide)).toLoadRect) 384 1024 (spA arg12 1024 (by decide)) (by decide) (by decide) 3 8 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 384 768 (spA arg12 768 (by decide)) (by decide) (by decide) 3 7 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 768] S128x256.size (by decide)).toLoadRect) 384 768 (spA arg12 768 (by decide)) (by decide) (by decide) 3 6 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 384 512 (spA arg12 512 (by decide)) (by decide) (by decide) 3 5 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 512] S128x256.size (by decide)).toLoadRect) 384 512 (spA arg12 512 (by decide)) (by decide) (by decide) 3 4 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 384 256 (spA arg12 256 (by decide)) (by decide) (by decide) 3 3 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 256] S128x256.size (by decide)).toLoadRect) 384 256 (spA arg12 256 (by decide)) (by decide) (by decide) 3 2 (by omega) (by omega) (by decide) x) <|
  Ok.cons (fun x => CX1 arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 384 0 (spA arg12 0 (by decide)) (by decide) (by decide) 3 1 (by omega) (by omega) (by decide) x) <|
  Ok.cons (fun x => CX0 arg2 harg2 arg3 harg3 arg4 harg4 arg5 harg5 x0 x1 x2 x3 hx (arg12.view.readCov (kernelRun0_A.sl.HS1_1 (F := Ideal) ) (Rect.unit (s := S128x2048) ![0, 0] S128x256.size (by decide)).toLoadRect) 384 0 (spA arg12 0 (by decide)) (by decide) (by decide) 3 0 (by omega) (by omega) (by decide) x) <|
  (HS2_48_ok_A c arg2 harg2 arg3 harg3 arg4 harg4 arg5 harg5 arg12 x0 x1 x2 x3 hx)

theorem HS2_64_has_A : ∀ g : Fin 16, ∃ p ∈ (kernelRun0_A.sl.HS2_64 (F := Ideal) c arg2 harg2 arg3 harg3 arg4 harg4 arg5 harg5 arg12 x0 x1 x2 x3), ∃ inbc, p.1 = Rect.unit (s := S4x16x128) ![3, g.val, 0] S1x1x128.size inbc := fun g => match g with
  | ⟨0, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), inbj 3 (by decide) _, rfl⟩
  | ⟨1, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), inbj 3 (by decide) _, rfl⟩
  | ⟨2, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), inbj 3 (by decide) _, rfl⟩
  | ⟨3, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), inbj 3 (by decide) _, rfl⟩
  | ⟨4, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), inbj 3 (by decide) _, rfl⟩
  | ⟨5, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), inbj 3 (by decide) _, rfl⟩
  | ⟨6, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), inbj 3 (by decide) _, rfl⟩
  | ⟨7, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), inbj 3 (by decide) _, rfl⟩
  | ⟨8, _⟩ => ⟨_, (List.mem_cons_of_mem _ (List.mem_cons_of_mem _ (List.mem_cons_of_mem _ (List.mem_cons_of_mem _ (List.mem_cons_of_mem _ (List.mem_cons_of_mem _ (List.mem_cons_of_mem _ List.mem_cons_self))))))), inbj 3 (by decide) _, rfl⟩
  | ⟨9, _⟩ => ⟨_, (List.mem_cons_of_mem _ (List.mem_cons_of_mem _ (List.mem_cons_of_mem _ (List.mem_cons_of_mem _ (List.mem_cons_of_mem _ (List.mem_cons_of_mem _ List.mem_cons_self)))))), inbj 3 (by decide) _, rfl⟩
  | ⟨10, _⟩ => ⟨_, (List.mem_cons_of_mem _ (List.mem_cons_of_mem _ (List.mem_cons_of_mem _ (List.mem_cons_of_mem _ (List.mem_cons_of_mem _ List.mem_cons_self))))), inbj 3 (by decide) _, rfl⟩
  | ⟨11, _⟩ => ⟨_, (List.mem_cons_of_mem _ (List.mem_cons_of_mem _ (List.mem_cons_of_mem _ (List.mem_cons_of_mem _ List.mem_cons_self)))), inbj 3 (by decide) _, rfl⟩
  | ⟨12, _⟩ => ⟨_, (List.mem_cons_of_mem _ (List.mem_cons_of_mem _ (List.mem_cons_of_mem _ List.mem_cons_self))), inbj 3 (by decide) _, rfl⟩
  | ⟨13, _⟩ => ⟨_, (List.mem_cons_of_mem _ (List.mem_cons_of_mem _ List.mem_cons_self)), inbj 3 (by decide) _, rfl⟩
  | ⟨14, _⟩ => ⟨_, (List.mem_cons_of_mem _ List.mem_cons_self), inbj 3 (by decide) _, rfl⟩
  | ⟨15, _⟩ => ⟨_, List.mem_cons_self, inbj 3 (by decide) _, rfl⟩
  | ⟨n + 16, h⟩ => absurd h (by omega)

include hx in
theorem HS4_1_ok_A : Ok (e := .f32) (gi (wI x0 x1 x2 x3)) (kernelRun0_A.sl.HS4_1 (F := Ideal) c arg2 harg2 arg3 harg3 arg4 harg4 arg5 harg5 arg12 arg13 x0 x1 x2 x3) :=
  Ok.cons (fun x => IX arg13 (wI x0 x1 x2 x3) (kernelRun0_A.sl.HS2_16 (F := Ideal) c arg2 harg2 arg3 harg3 arg4 harg4 arg5 harg5 arg12 x0 x1 x2 x3) (HS2_16_ok_A c arg2 harg2 arg3 harg3 arg4 harg4 arg5 harg5 arg12 x0 x1 x2 x3 hx) 0 (by decide) (HS2_16_has_A c arg2 harg2 arg3 harg3 arg4 harg4 arg5 harg5 arg12 x0 x1 x2 x3) x) <|
  Ok.nil

include hx in
theorem HS4_2_ok_A : Ok (e := .f32) (gi (wI x0 x1 x2 x3)) (kernelRun0_A.sl.HS4_2 (F := Ideal) c arg2 harg2 arg3 harg3 arg4 harg4 arg5 harg5 arg12 arg13 x0 x1 x2 x3) :=
  Ok.cons (fun x => IX arg13 (wI x0 x1 x2 x3) (kernelRun0_A.sl.HS2_32 (F := Ideal) c arg2 harg2 arg3 harg3 arg4 harg4 arg5 harg5 arg12 x0 x1 x2 x3) (HS2_32_ok_A c arg2 harg2 arg3 harg3 arg4 harg4 arg5 harg5 arg12 x0 x1 x2 x3 hx) 1 (by decide) (HS2_32_has_A c arg2 harg2 arg3 harg3 arg4 harg4 arg5 harg5 arg12 x0 x1 x2 x3) x) <|
  (HS4_1_ok_A c arg2 harg2 arg3 harg3 arg4 harg4 arg5 harg5 arg12 arg13 x0 x1 x2 x3 hx)

include hx in
theorem HS4_3_ok_A : Ok (e := .f32) (gi (wI x0 x1 x2 x3)) (kernelRun0_A.sl.HS4_3 (F := Ideal) c arg2 harg2 arg3 harg3 arg4 harg4 arg5 harg5 arg12 arg13 x0 x1 x2 x3) :=
  Ok.cons (fun x => IX arg13 (wI x0 x1 x2 x3) (kernelRun0_A.sl.HS2_48 (F := Ideal) c arg2 harg2 arg3 harg3 arg4 harg4 arg5 harg5 arg12 x0 x1 x2 x3) (HS2_48_ok_A c arg2 harg2 arg3 harg3 arg4 harg4 arg5 harg5 arg12 x0 x1 x2 x3 hx) 2 (by decide) (HS2_48_has_A c arg2 harg2 arg3 harg3 arg4 harg4 arg5 harg5 arg12 x0 x1 x2 x3) x) <|
  (HS4_2_ok_A c arg2 harg2 arg3 harg3 arg4 harg4 arg5 harg5 arg12 arg13 x0 x1 x2 x3 hx)

include hx in
theorem HS4_4_ok_A : Ok (e := .f32) (gi (wI x0 x1 x2 x3)) (kernelRun0_A.sl.HS4_4 (F := Ideal) c arg2 harg2 arg3 harg3 arg4 harg4 arg5 harg5 arg12 arg13 x0 x1 x2 x3) :=
  Ok.cons (fun x => IX arg13 (wI x0 x1 x2 x3) (kernelRun0_A.sl.HS2_64 (F := Ideal) c arg2 harg2 arg3 harg3 arg4 harg4 arg5 harg5 arg12 x0 x1 x2 x3) (HS2_64_ok_A c arg2 harg2 arg3 harg3 arg4 harg4 arg5 harg5 arg12 x0 x1 x2 x3 hx) 3 (by decide) (HS2_64_has_A c arg2 harg2 arg3 harg3 arg4 harg4 arg5 harg5 arg12 x0 x1 x2 x3) x) <|
  (HS4_3_ok_A c arg2 harg2 arg3 harg3 arg4 harg4 arg5 harg5 arg12 arg13 x0 x1 x2 x3 hx)

include hx in
theorem L7_ok_A (i : grid0.Coords) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (harg11 : arg11.IsWhole) (harg13 : arg13.IsWhole) (arg14 : Memref sig .tc .vmem S4x16x128 .f32) (harg14 : arg14.IsWhole) (harg15 : arg15.IsWhole) (hc0 : cond0_0 i) :
    Ok (e := .fp8e4m3) (qc (wI x0 x1 x2 x3)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.2.1 :=
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_4 (F := Ideal) c arg2 harg2 arg3 harg3 arg4 harg4 arg5 harg5 arg12 arg13 x0 x1 x2 x3) (HS4_4_ok_A c arg2 harg2 arg3 harg3 arg4 harg4 arg5 harg5 arg12 arg13 x0 x1 x2 x3 hx) 384 1792 3 14 (by omega) (by omega) (by decide) (by decide) (by decide) ⟨_, List.mem_cons_self, by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_4 (F := Ideal) c arg2 harg2 arg3 harg3 arg4 harg4 arg5 harg5 arg12 arg13 x0 x1 x2 x3) (HS4_4_ok_A c arg2 harg2 arg3 harg3 arg4 harg4 arg5 harg5 arg12 arg13 x0 x1 x2 x3 hx) 384 1536 3 12 (by omega) (by omega) (by decide) (by decide) (by decide) ⟨_, (List.mem_cons_of_mem _ List.mem_cons_self), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_4 (F := Ideal) c arg2 harg2 arg3 harg3 arg4 harg4 arg5 harg5 arg12 arg13 x0 x1 x2 x3) (HS4_4_ok_A c arg2 harg2 arg3 harg3 arg4 harg4 arg5 harg5 arg12 arg13 x0 x1 x2 x3 hx) 384 1280 3 10 (by omega) (by omega) (by decide) (by decide) (by decide) ⟨_, (List.mem_cons_of_mem _ (List.mem_cons_of_mem _ List.mem_cons_self)), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_4 (F := Ideal) c arg2 harg2 arg3 harg3 arg4 harg4 arg5 harg5 arg12 arg13 x0 x1 x2 x3) (HS4_4_ok_A c arg2 harg2 arg3 harg3 arg4 harg4 arg5 harg5 arg12 arg13 x0 x1 x2 x3 hx) 384 1024 3 8 (by omega) (by omega) (by decide) (by decide) (by decide) ⟨_, (List.mem_cons_of_mem _ (List.mem_cons_of_mem _ (List.mem_cons_of_mem _ List.mem_cons_self))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_4 (F := Ideal) c arg2 harg2 arg3 harg3 arg4 harg4 arg5 harg5 arg12 arg13 x0 x1 x2 x3) (HS4_4_ok_A c arg2 harg2 arg3 harg3 arg4 harg4 arg5 harg5 arg12 arg13 x0 x1 x2 x3 hx) 384 768 3 6 (by omega) (by omega) (by decide) (by decide) (by decide) ⟨_, (List.mem_cons_of_mem _ (List.mem_cons_of_mem _ (List.mem_cons_of_mem _ (List.mem_cons_of_mem _ List.mem_cons_self)))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_4 (F := Ideal) c arg2 harg2 arg3 harg3 arg4 harg4 arg5 harg5 arg12 arg13 x0 x1 x2 x3) (HS4_4_ok_A c arg2 harg2 arg3 harg3 arg4 harg4 arg5 harg5 arg12 arg13 x0 x1 x2 x3 hx) 384 512 3 4 (by omega) (by omega) (by decide) (by decide) (by decide) ⟨_, (List.mem_cons_of_mem _ (List.mem_cons_of_mem _ (List.mem_cons_of_mem _ (List.mem_cons_of_mem _ (List.mem_cons_of_mem _ List.mem_cons_self))))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_4 (F := Ideal) c arg2 harg2 arg3 harg3 arg4 harg4 arg5 harg5 arg12 arg13 x0 x1 x2 x3) (HS4_4_ok_A c arg2 harg2 arg3 harg3 arg4 harg4 arg5 harg5 arg12 arg13 x0 x1 x2 x3 hx) 384 256 3 2 (by omega) (by omega) (by decide) (by decide) (by decide) ⟨_, (List.mem_cons_of_mem _ (List.mem_cons_of_mem _ (List.mem_cons_of_mem _ (List.mem_cons_of_mem _ (List.mem_cons_of_mem _ (List.mem_cons_of_mem _ List.mem_cons_self)))))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_4 (F := Ideal) c arg2 harg2 arg3 harg3 arg4 harg4 arg5 harg5 arg12 arg13 x0 x1 x2 x3) (HS4_4_ok_A c arg2 harg2 arg3 harg3 arg4 harg4 arg5 harg5 arg12 arg13 x0 x1 x2 x3 hx) 384 0 3 0 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ List.mem_cons_self))))))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_3 (F := Ideal) c arg2 harg2 arg3 harg3 arg4 harg4 arg5 harg5 arg12 arg13 x0 x1 x2 x3) (HS4_3_ok_A c arg2 harg2 arg3 harg3 arg4 harg4 arg5 harg5 arg12 arg13 x0 x1 x2 x3 hx) 256 1792 2 14 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_3 (F := Ideal) c arg2 harg2 arg3 harg3 arg4 harg4 arg5 harg5 arg12 arg13 x0 x1 x2 x3) (HS4_3_ok_A c arg2 harg2 arg3 harg3 arg4 harg4 arg5 harg5 arg12 arg13 x0 x1 x2 x3 hx) 256 1536 2 12 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_3 (F := Ideal) c arg2 harg2 arg3 harg3 arg4 harg4 arg5 harg5 arg12 arg13 x0 x1 x2 x3) (HS4_3_ok_A c arg2 harg2 arg3 harg3 arg4 harg4 arg5 harg5 arg12 arg13 x0 x1 x2 x3 hx) 256 1280 2 10 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_3 (F := Ideal) c arg2 harg2 arg3 harg3 arg4 harg4 arg5 harg5 arg12 arg13 x0 x1 x2 x3) (HS4_3_ok_A c arg2 harg2 arg3 harg3 arg4 harg4 arg5 harg5 arg12 arg13 x0 x1 x2 x3 hx) 256 1024 2 8 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_3 (F := Ideal) c arg2 harg2 arg3 harg3 arg4 harg4 arg5 harg5 arg12 arg13 x0 x1 x2 x3) (HS4_3_ok_A c arg2 harg2 arg3 harg3 arg4 harg4 arg5 harg5 arg12 arg13 x0 x1 x2 x3 hx) 256 768 2 6 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_3 (F := Ideal) c arg2 harg2 arg3 harg3 arg4 harg4 arg5 harg5 arg12 arg13 x0 x1 x2 x3) (HS4_3_ok_A c arg2 harg2 arg3 harg3 arg4 harg4 arg5 harg5 arg12 arg13 x0 x1 x2 x3 hx) 256 512 2 4 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_3 (F := Ideal) c arg2 harg2 arg3 harg3 arg4 harg4 arg5 harg5 arg12 arg13 x0 x1 x2 x3) (HS4_3_ok_A c arg2 harg2 arg3 harg3 arg4 harg4 arg5 harg5 arg12 arg13 x0 x1 x2 x3 hx) 256 256 2 2 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ ⟨_, List.mem_cons_self, by decide, rfl⟩ x) <|
  Ok.cons (fun x => QX arg11 arg15 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) (kernelRun0_A.sl.HS4_3 (F := Ideal) c arg2 harg2 arg3 harg3 arg4 harg4 arg5 harg5 arg12 arg13 x0 x1 x2 x3) (HS4_3_ok_A c arg2 harg2 arg3 harg3 arg4 harg4 arg5 harg5 arg12 arg13 x0 x1 x2 x3 hx) 256 0 2 0 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ ⟨_, List.mem_cons_self, by decide, rfl⟩ x) <|
  Ok.cons (fun x => QX arg11 arg15 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) (kernelRun0_A.sl.HS4_2 (F := Ideal) c arg2 harg2 arg3 harg3 arg4 harg4 arg5 harg5 arg12 arg13 x0 x1 x2 x3) (HS4_2_ok_A c arg2 harg2 arg3 harg3 arg4 harg4 arg5 harg5 arg12 arg13 x0 x1 x2 x3 hx) 128 1792 1 14 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ ⟨_, List.mem_cons_self, by decide, rfl⟩ x) <|
  Ok.cons (fun x => QX arg11 arg15 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) (kernelRun0_A.sl.HS4_2 (F := Ideal) c arg2 harg2 arg3 harg3 arg4 harg4 arg5 harg5 arg12 arg13 x0 x1 x2 x3) (HS4_2_ok_A c arg2 harg2 arg3 harg3 arg4 harg4 arg5 harg5 arg12 arg13 x0 x1 x2 x3 hx) 128 1536 1 12 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ ⟨_, List.mem_cons_self, by decide, rfl⟩ x) <|
  Ok.cons (fun x => QX arg11 arg15 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) (kernelRun0_A.sl.HS4_2 (F := Ideal) c arg2 harg2 arg3 harg3 arg4 harg4 arg5 harg5 arg12 arg13 x0 x1 x2 x3) (HS4_2_ok_A c arg2 harg2 arg3 harg3 arg4 harg4 arg5 harg5 arg12 arg13 x0 x1 x2 x3 hx) 128 1280 1 10 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ ⟨_, List.mem_cons_self, by decide, rfl⟩ x) <|
  Ok.cons (fun x => QX arg11 arg15 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) (kernelRun0_A.sl.HS4_2 (F := Ideal) c arg2 harg2 arg3 harg3 arg4 harg4 arg5 harg5 arg12 arg13 x0 x1 x2 x3) (HS4_2_ok_A c arg2 harg2 arg3 harg3 arg4 harg4 arg5 harg5 arg12 arg13 x0 x1 x2 x3 hx) 128 1024 1 8 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ ⟨_, List.mem_cons_self, by decide, rfl⟩ x) <|
  Ok.cons (fun x => QX arg11 arg15 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) (kernelRun0_A.sl.HS4_2 (F := Ideal) c arg2 harg2 arg3 harg3 arg4 harg4 arg5 harg5 arg12 arg13 x0 x1 x2 x3) (HS4_2_ok_A c arg2 harg2 arg3 harg3 arg4 harg4 arg5 harg5 arg12 arg13 x0 x1 x2 x3 hx) 128 768 1 6 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ ⟨_, List.mem_cons_self, by decide, rfl⟩ x) <|
  Ok.cons (fun x => QX arg11 arg15 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) (kernelRun0_A.sl.HS4_2 (F := Ideal) c arg2 harg2 arg3 harg3 arg4 harg4 arg5 harg5 arg12 arg13 x0 x1 x2 x3) (HS4_2_ok_A c arg2 harg2 arg3 harg3 arg4 harg4 arg5 harg5 arg12 arg13 x0 x1 x2 x3 hx) 128 512 1 4 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ ⟨_, List.mem_cons_self, by decide, rfl⟩ x) <|
  Ok.cons (fun x => QX arg11 arg15 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) (kernelRun0_A.sl.HS4_2 (F := Ideal) c arg2 harg2 arg3 harg3 arg4 harg4 arg5 harg5 arg12 arg13 x0 x1 x2 x3) (HS4_2_ok_A c arg2 harg2 arg3 harg3 arg4 harg4 arg5 harg5 arg12 arg13 x0 x1 x2 x3 hx) 128 256 1 2 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ ⟨_, List.mem_cons_self, by decide, rfl⟩ x) <|
  Ok.cons (fun x => QX arg11 arg15 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) (kernelRun0_A.sl.HS4_2 (F := Ideal) c arg2 harg2 arg3 harg3 arg4 harg4 arg5 harg5 arg12 arg13 x0 x1 x2 x3) (HS4_2_ok_A c arg2 harg2 arg3 harg3 arg4 harg4 arg5 harg5 arg12 arg13 x0 x1 x2 x3 hx) 128 0 1 0 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ ⟨_, List.mem_cons_self, by decide, rfl⟩ x) <|
  Ok.cons (fun x => QX arg11 arg15 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) (kernelRun0_A.sl.HS4_1 (F := Ideal) c arg2 harg2 arg3 harg3 arg4 harg4 arg5 harg5 arg12 arg13 x0 x1 x2 x3) (HS4_1_ok_A c arg2 harg2 arg3 harg3 arg4 harg4 arg5 harg5 arg12 arg13 x0 x1 x2 x3 hx) 0 1792 0 14 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ ⟨_, List.mem_cons_self, by decide, rfl⟩ x) <|
  Ok.cons (fun x => QX arg11 arg15 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) (kernelRun0_A.sl.HS4_1 (F := Ideal) c arg2 harg2 arg3 harg3 arg4 harg4 arg5 harg5 arg12 arg13 x0 x1 x2 x3) (HS4_1_ok_A c arg2 harg2 arg3 harg3 arg4 harg4 arg5 harg5 arg12 arg13 x0 x1 x2 x3 hx) 0 1536 0 12 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ ⟨_, List.mem_cons_self, by decide, rfl⟩ x) <|
  Ok.cons (fun x => QX arg11 arg15 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) (kernelRun0_A.sl.HS4_1 (F := Ideal) c arg2 harg2 arg3 harg3 arg4 harg4 arg5 harg5 arg12 arg13 x0 x1 x2 x3) (HS4_1_ok_A c arg2 harg2 arg3 harg3 arg4 harg4 arg5 harg5 arg12 arg13 x0 x1 x2 x3 hx) 0 1280 0 10 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ ⟨_, List.mem_cons_self, by decide, rfl⟩ x) <|
  Ok.cons (fun x => QX arg11 arg15 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) (kernelRun0_A.sl.HS4_1 (F := Ideal) c arg2 harg2 arg3 harg3 arg4 harg4 arg5 harg5 arg12 arg13 x0 x1 x2 x3) (HS4_1_ok_A c arg2 harg2 arg3 harg3 arg4 harg4 arg5 harg5 arg12 arg13 x0 x1 x2 x3 hx) 0 1024 0 8 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ ⟨_, List.mem_cons_self, by decide, rfl⟩ x) <|
  Ok.cons (fun x => QX arg11 arg15 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) (kernelRun0_A.sl.HS4_1 (F := Ideal) c arg2 harg2 arg3 harg3 arg4 harg4 arg5 harg5 arg12 arg13 x0 x1 x2 x3) (HS4_1_ok_A c arg2 harg2 arg3 harg3 arg4 harg4 arg5 harg5 arg12 arg13 x0 x1 x2 x3 hx) 0 768 0 6 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ ⟨_, List.mem_cons_self, by decide, rfl⟩ x) <|
  Ok.cons (fun x => QX arg11 arg15 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) (kernelRun0_A.sl.HS4_1 (F := Ideal) c arg2 harg2 arg3 harg3 arg4 harg4 arg5 harg5 arg12 arg13 x0 x1 x2 x3) (HS4_1_ok_A c arg2 harg2 arg3 harg3 arg4 harg4 arg5 harg5 arg12 arg13 x0 x1 x2 x3 hx) 0 512 0 4 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ ⟨_, List.mem_cons_self, by decide, rfl⟩ x) <|
  Ok.cons (fun x => QX arg11 arg15 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) (kernelRun0_A.sl.HS4_1 (F := Ideal) c arg2 harg2 arg3 harg3 arg4 harg4 arg5 harg5 arg12 arg13 x0 x1 x2 x3) (HS4_1_ok_A c arg2 harg2 arg3 harg3 arg4 harg4 arg5 harg5 arg12 arg13 x0 x1 x2 x3 hx) 0 256 0 2 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ ⟨_, List.mem_cons_self, by decide, rfl⟩ x) <|
  Ok.cons (fun x => QX arg11 arg15 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) (kernelRun0_A.sl.HS4_1 (F := Ideal) c arg2 harg2 arg3 harg3 arg4 harg4 arg5 harg5 arg12 arg13 x0 x1 x2 x3) (HS4_1_ok_A c arg2 harg2 arg3 harg3 arg4 harg4 arg5 harg5 arg12 arg13 x0 x1 x2 x3 hx) 0 0 0 0 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ ⟨_, List.mem_cons_self, by decide, rfl⟩ x) <|
  Ok.nil

end CaseA

end Cert.KernelIdeal.Run
-- ==== Proof.KRow.lean ====
module

public import proofs.«01_k».proof.Proof.KList
public import Idealize.ShloMosaic.Lib.ValueLayoutCasts

/-! The row path of the ideal kernel as functions of indices: the row maxima, the row scales, the row codes and the
    residual. -/

@[expose] public section

noncomputable section

open scoped BigOperators

namespace Cert.KernelIdeal.Run

open Idealize.ShloMosaic Idealize.ShloMosaic.ValueIdx Cert.KernelIdeal Cert.KernelIdeal.Gen Cert.Quant

/-- The maximum of the magnitudes of a row of a block over one of its column groups. -/
def rm (w : S512x2048.Idx → EReal) (r : Fin 512) (g : Fin 16) : EReal :=
  (Finset.univ : Finset (Fin 128)).fold max (Ideal.ofBits .f32 0xFF800000#32) fun k =>
    max (w (ix2 r (⟨128 * g.val + k.val, by omega⟩ : Fin 2048))) (-(w (ix2 r (⟨128 * g.val + k.val, by omega⟩ : Fin 2048))))

/-- The row codes of a block. -/
def qr (w : S512x2048.Idx → EReal) (i : S512x2048.Idx) : EReal :=
  min (Ideal.ofBits .f32 0x43E00000#32) (max (Ideal.ofBits .f32 0xC3E00000#32) (w i * kinv (rm w (i 0) (grp (i 1)))))

/-- The residual of a block. -/
def rr (w : S512x2048.Idx → EReal) (i : S512x2048.Idx) : EReal :=
  w i - qr w i * kscl (rm w (i 0) (grp (i 1)))

/-- One column group's step of the row maxima: the lanes of group `gw` take the row maximum of half a block. -/
abbrev rhalf0 (gw : BitVec 32) (W : FVec Ideal S128x256 .f32) (prev : FVec Ideal S128x128 .f32) : FVec Ideal S128x128 .f32 :=
  select (cmpi .eq (iota .tc S128x128 32 [1] iota_S128x128_d1_w32) (broadcast S128x128 gw))
    (broadcastTo S128x128 (shapeCast S128x1 (shapeCast S128x1 (multiReduction .maximumf [1] S128
      (extractStridedSlice S128x128 ![0, 0] W slices_S128x256_o0_0_S128x128) 0xFF800000#32 reduces_S128x128_S128 (.inl rfl) rfl)
      shapeCasts_S128_S128x1) shapeCasts_S128x1_S128x1) broadcasts_S128x1_S128x128) prev

abbrev rhalf1 (gw : BitVec 32) (W : FVec Ideal S128x256 .f32) (prev : FVec Ideal S128x128 .f32) : FVec Ideal S128x128 .f32 :=
  select (cmpi .eq (iota .tc S128x128 32 [1] iota_S128x128_d1_w32) (broadcast S128x128 gw))
    (broadcastTo S128x128 (shapeCast S128x1 (shapeCast S128x1 (multiReduction .maximumf [1] S128
      (extractStridedSlice S128x128 ![0, 128] W slices_S128x256_o0_128_S128x128) 0xFF800000#32 reduces_S128x128_S128 (.inl rfl) rfl)
      shapeCasts_S128_S128x1) shapeCasts_S128x1_S128x1) broadcasts_S128x1_S128x128) prev

/-- The first `n` lanes hold the row maxima of row block `j`. -/
def Upto (w : S512x2048.Idx → EReal) (j : ℕ) (n : ℕ) (R : FVec Ideal S128x128 .f32) : Prop :=
  ∀ (a : Fin 128) (r : Fin 512) (g : Fin 16) (l : Fin 128), r.val = 128 * j + a.val → l.val = g.val → g.val < n → R (ix2 a l) = rm w r g

theorem Upto.zero (w : S512x2048.Idx → EReal) (j : ℕ) (R : FVec Ideal S128x128 .f32) : Upto w j 0 R := fun a r g l _ _ h => absurd h (Nat.not_lt_zero _)

theorem lane_apply (a l : Fin 128) : iota .tc S128x128 32 [1] iota_S128x128_d1_w32 (ix2 a l) = BitVec.ofNat 32 l.val :=
  iota_single_apply _ _ _ _ _ _

theorem rowmax_apply (H : FVec Ideal S128x128 .f32) (a l : Fin 128) :
    broadcastTo S128x128 (shapeCast S128x1 (shapeCast S128x1 (multiReduction .maximumf [1] S128
      H 0xFF800000#32 reduces_S128x128_S128 (.inl rfl) rfl)
      shapeCasts_S128_S128x1) shapeCasts_S128x1_S128x1) broadcasts_S128x1_S128x128 (ix2 a l)
    = (Finset.univ : Finset (Fin 128)).fold max (Ideal.ofBits .f32 0xFF800000#32) fun k => (H (ix2 a k) : EReal) := by
  refine (broadcastTo_apply _ _ (ix2 a l) (ix2 a (0 : Fin 1)) fun ax => ?_).trans ?_
  · match ax with
    | ⟨0, _⟩ => rfl
    | ⟨1, _⟩ => rfl
  rw [shapeCast_self, shapeCast_a_a1_apply]
  refine (Ideal.multiReduction_maximumf_single (a := (1 : Fin S128x128.rank)) H _ reduces_S128x128_S128 _ _ (ix1 a)).trans ?_
  refine congrArg (fun f => (Finset.univ : Finset (Fin 128)).fold max (Ideal.ofBits .f32 0xFF800000#32) f) (funext fun k => ?_)
  refine congrArg H (funext fun b => ?_)
  match b with
  | ⟨0, _⟩ => exact Fin.ext rfl
  | ⟨1, _⟩ => exact Fin.ext rfl

theorem lane_select (n : ℕ) (hn : n < 16) (X Y : FVec Ideal S128x128 .f32) (a l : Fin 128) :
    select (cmpi .eq (iota .tc S128x128 32 [1] iota_S128x128_d1_w32) (broadcast S128x128 (BitVec.ofNat 32 n))) X Y (ix2 a l)
      = if l.val = n then X (ix2 a l) else Y (ix2 a l) := by
  rw [select_apply]
  have e : cmpi .eq (iota .tc S128x128 32 [1] iota_S128x128_d1_w32) (broadcast S128x128 (BitVec.ofNat 32 n)) (ix2 a l) = BitVec.ofBool (decide (l.val = n)) := by
    show IntOp.cmpi .eq (iota .tc S128x128 32 [1] iota_S128x128_d1_w32 (ix2 a l)) (BitVec.ofNat 32 n) = _
    rw [lane_apply, eq_word _ _ l.isLt (by omega)]
  rw [e]
  by_cases h : l.val = n
  · rw [if_pos h, decide_eq_true h]; exact select_one _ _
  · rw [if_neg h, decide_eq_false h]; exact select_zero _ _

section Rows

variable (x0 : Vec Ideal S512x2048 .fp8e4m3) (x1 : Vec Ideal S1x16x512 .f32) (x2 : Vec Ideal S512x2048 .bf16) (x3 : Vec Ideal S512x2048 .f32)
  (hx : ∀ i, x1 i ≠ ⊤ ∧ x1 i ≠ ⊥)
  (v7 : Vec Ideal S1x16x128 .f32) (q : Vec Ideal S128x256 .fp8e4m3) (sp r : Vec Ideal S128x256 .bf16) (d : Vec Ideal S128x256 .f32)
  (o0 o1 : ℕ) (inb : ∀ a, (![o0, o1] : Fin 2 → ℕ) a + S128x256.size a ≤ S512x2048.size a)
  (inb3 : ∀ a, (![0, 0, o0] : Fin 3 → ℕ) a + S1x16x128.size a ≤ S1x16x512.size a)
  (h7 : ∀ i, v7 i = x1 ((Rect.unit (s := S1x16x512) ![0, 0, o0] S1x16x128.size inb3).emb i))
  (hq : ∀ i, q i = x0 ((Rect.unit (s := S512x2048) ![o0, o1] S128x256.size inb).emb i))
  (hsp : ∀ (k : Fin 128) (c : Fin 256) (C : Fin 2048), C.val = o1 + c.val → sp (ix2 k c) = spreadI k C)
  (hr : ∀ i, r i = x2 ((Rect.unit (s := S512x2048) ![o0, o1] S128x256.size inb).emb i))
  (hd : ∀ i, d i = x3 ((Rect.unit (s := S512x2048) ![o0, o1] S128x256.size inb).emb i))

include hx h7 hq hsp hr hd in
theorem abs_emb (a : Fin 128) (c : Fin 256) (r' : Fin 512) (C : Fin 2048) (hr' : r'.val = o0 + a.val) (hC : C.val = o1 + c.val) :
    (k0_pay6 (F := Ideal) v7 q sp r d (ix2 a c) : EReal) = max (wI x0 x1 x2 x3 (ix2 r' C)) (-(wI x0 x1 x2 x3 (ix2 r' C))) := by
  unfold k0_pay6
  show (max (k0_pay4 (F := Ideal) v7 q sp r d _) (-(k0_pay4 (F := Ideal) v7 q sp r d _)) : EReal) = _
  rw [W_emb x0 x1 x2 x3 hx v7 q sp r d o0 o1 inb inb3 h7 hq hsp hr hd]
  have e : (Rect.unit (s := S512x2048) ![o0, o1] S128x256.size inb).emb (ix2 a c) = ix2 r' C := by
    funext b
    match b with
    | ⟨0, _⟩ => exact Fin.ext (by show o0 + 1 * a.val = r'.val; omega)
    | ⟨1, _⟩ => exact Fin.ext (by show o1 + 1 * c.val = C.val; omega)
  rw [e]

include hx h7 hq hsp hr hd in
theorem Upto.even (j n : ℕ) (hj : o0 = 128 * j) (hn : o1 = 128 * n) (hn16 : n < 16) (R : FVec Ideal S128x128 .f32) (hR : Upto (wI x0 x1 x2 x3) j n R) :
    Upto (wI x0 x1 x2 x3) j (n + 1) (rhalf0 (BitVec.ofNat 32 n) (k0_pay6 (F := Ideal) v7 q sp r d) R) := by
  intro a r' g l hr' hl hg
  unfold rhalf0
  rw [lane_select n hn16]
  by_cases h : l.val = n
  · rw [if_pos h, rowmax_apply]
    unfold rm
    refine congrArg (fun f => (Finset.univ : Finset (Fin 128)).fold max (Ideal.ofBits .f32 0xFF800000#32) f) (funext fun k => ?_)
    rw [slice2_axis1_eq]
    exact abs_emb x0 x1 x2 x3 hx v7 q sp r d o0 o1 inb inb3 h7 hq hsp hr hd a _ r' _ (by omega) (by show 128 * g.val + k.val = o1 + (0 + k.val); omega)
  · rw [if_neg h]
    exact hR a r' g l hr' hl (by omega)

include hx h7 hq hsp hr hd in
theorem Upto.odd (j n : ℕ) (hj : o0 = 128 * j) (hn : o1 + 128 = 128 * n) (hn16 : n < 16) (R : FVec Ideal S128x128 .f32) (hR : Upto (wI x0 x1 x2 x3) j n R) :
    Upto (wI x0 x1 x2 x3) j (n + 1) (rhalf1 (BitVec.ofNat 32 n) (k0_pay6 (F := Ideal) v7 q sp r d) R) := by
  intro a r' g l hr' hl hg
  unfold rhalf1
  rw [lane_select n hn16]
  by_cases h : l.val = n
  · rw [if_pos h, rowmax_apply]
    unfold rm
    refine congrArg (fun f => (Finset.univ : Finset (Fin 128)).fold max (Ideal.ofBits .f32 0xFF800000#32) f) (funext fun k => ?_)
    rw [slice2_axis1_eq]
    exact abs_emb x0 x1 x2 x3 hx v7 q sp r d o0 o1 inb inb3 h7 hq hsp hr hd a _ r' _ (by omega) (by show 128 * g.val + k.val = o1 + (128 + k.val); omega)
  · rw [if_neg h]
    exact hR a r' g l hr' hl (by omega)

end Rows

/-- The scale on a vector. -/
theorem vscale {s : Shape} (x : FVec Ideal s .f32) (b : IVec s 32) (c0 c1 c2 c3 : BitVec 32) (z : BitVec 32) (i : s.Idx) :
    bitcastToFloat (F := Ideal) .f32 (addi (select (ori (cmpi .eq (select (cmpf .olt x (broadcast s (Scalar.ofBits .f32 z))) b (broadcast s c1)) (broadcast s c0))
      (cmpi .eq (select (cmpf .olt x (broadcast s (Scalar.ofBits .f32 z))) b (broadcast s c1)) (broadcast s c1)))
      (broadcast s c2) (select (cmpf .olt x (broadcast s (Scalar.ofBits .f32 z))) b (broadcast s c1))) (broadcast s c3) : IVec s 32) i
    = Ideal.ofBits .f32 (Scalar.select (IntOp.ori (IntOp.cmpi .eq (Scalar.select (Ideal.cmp .olt (x i) (Ideal.ofBits .f32 z)) (b i) c1) c0)
      (IntOp.cmpi .eq (Scalar.select (Ideal.cmp .olt (x i) (Ideal.ofBits .f32 z)) (b i) c1) c1)) c2
      (Scalar.select (Ideal.cmp .olt (x i) (Ideal.ofBits .f32 z)) (b i) c1) + c3) := rfl

theorem live_select (X Y : FVec Ideal S128x128 .f32) (a l : Fin 128) :
    select (k0_pay84 (iota .tc S128x128 32 [1] iota_S128x128_d1_w32)) X Y (ix2 a l)
      = if l.val < 16 then X (ix2 a l) else Y (ix2 a l) := by
  rw [select_apply]
  have e : k0_pay84 (iota .tc S128x128 32 [1] iota_S128x128_d1_w32) (ix2 a l) = BitVec.ofBool (decide (l.val < 16)) := by
    unfold k0_pay84
    show IntOp.cmpi .slt (iota .tc S128x128 32 [1] iota_S128x128_d1_w32 (ix2 a l)) (BitVec.ofNat 32 16) = _
    rw [lane_apply, lt_word _ _ l.isLt (by omega)]
  rw [e]
  by_cases h : l.val < 16
  · rw [if_pos h, decide_eq_true h]; exact select_one _ _
  · rw [if_neg h, decide_eq_false h]; exact select_zero _ _

theorem pay78_apply (v : FVec Ideal S128x128 .f32) (i : S128x128.Idx) : k0_pay78 (F := Ideal) v i = (v i * Ideal.ofBits .f32 0x3B124925#32 : EReal) := by
  unfold k0_pay78
  rw [mulf_apply]; rfl

/-- The row inverse scales as the kernel computes them from the row maxima, and the row scales. -/
theorem VI_apply (R : FVec Ideal S128x128 .f32) (a l : Fin 128) :
    k0_pay86 (F := Ideal) (iota .tc S128x128 32 [1] iota_S128x128_d1_w32) (k0_pay78 (F := Ideal) R) (k0_pay79 (F := Ideal) R) k0_pay80 (ix2 a l)
      = if l.val < 16 then kinv (R (ix2 a l)) else 0 := by
  unfold k0_pay86
  rw [truncf_apply, live_select]
  by_cases h : l.val < 16
  · rw [if_pos h, if_pos h]
    unfold kinv
    rw [← pay78_apply]
    unfold k0_pay81 k0_pay80 k0_pay79
    generalize k0_pay78 (F := Ideal) R = y
    obtain ⟨i, hi⟩ : ∃ i : S128x128.Idx, i = ix2 a l := ⟨_, rfl⟩
    rw [← hi]
    simp only [vstep_fold]
    rw [vspecial]
    unfold kbits2 kbits
    rw [vstep_apply, vstep_apply, vstep_apply, vstep_apply, vstep_apply, vstep_apply, vstep_apply, vstep_apply, broadcast_apply]
  · rw [if_neg h, if_neg h]
    exact Ideal.ofBits_zero_f32

theorem VS_apply (R : FVec Ideal S128x128 .f32) (a l : Fin 128) :
    k0_pay85 (F := Ideal) (iota .tc S128x128 32 [1] iota_S128x128_d1_w32) (k0_pay78 (F := Ideal) R) (k0_pay79 (F := Ideal) R) k0_pay80 (ix2 a l)
      = if l.val < 16 then kscl (R (ix2 a l)) else 0 := by
  unfold k0_pay85
  rw [truncf_apply, live_select]
  by_cases h : l.val < 16
  · rw [if_pos h, if_pos h]
    unfold kscl
    rw [← pay78_apply]
    unfold k0_pay82 k0_pay81 k0_pay80 k0_pay79
    generalize k0_pay78 (F := Ideal) R = y
    obtain ⟨i, hi⟩ : ∃ i : S128x128.Idx, i = ix2 a l := ⟨_, rfl⟩
    rw [← hi]
    simp only [vstep_fold]
    rw [vscale]
    unfold kbits2 kbits
    rw [vstep_apply, vstep_apply, vstep_apply, vstep_apply, vstep_apply, vstep_apply, vstep_apply, vstep_apply, broadcast_apply]
  · rw [if_neg h, if_neg h]
    exact Ideal.ofBits_zero_f32

/-- A vector of per-row, per-group values, zero beyond the 16 groups. -/
def Rowv (f : EReal → EReal) (w : S512x2048.Idx → EReal) (j : ℕ) (V : FVec Ideal S128x128 .bf16) : Prop :=
  ∀ (a : Fin 128) (r : Fin 512) (l : Fin 128), r.val = 128 * j + a.val → V (ix2 a l) = if h : l.val < 16 then f (rm w r ⟨l.val, h⟩) else (0 : EReal)

theorem VI_row (w : S512x2048.Idx → EReal) (j : ℕ) (R : FVec Ideal S128x128 .f32) (hR : Upto w j 16 R) :
    Rowv kinv w j (k0_pay86 (F := Ideal) (iota .tc S128x128 32 [1] iota_S128x128_d1_w32) (k0_pay78 (F := Ideal) R) (k0_pay79 (F := Ideal) R) k0_pay80) := by
  intro a r l hr
  rw [VI_apply]
  by_cases h : l.val < 16
  · rw [if_pos h, dif_pos h, hR a r ⟨l.val, h⟩ l hr rfl h]
  · rw [if_neg h, dif_neg h]

theorem VS_row (w : S512x2048.Idx → EReal) (j : ℕ) (R : FVec Ideal S128x128 .f32) (hR : Upto w j 16 R) :
    Rowv kscl w j (k0_pay85 (F := Ideal) (iota .tc S128x128 32 [1] iota_S128x128_d1_w32) (k0_pay78 (F := Ideal) R) (k0_pay79 (F := Ideal) R) k0_pay80) := by
  intro a r l hr
  rw [VS_apply]
  by_cases h : l.val < 16
  · rw [if_pos h, dif_pos h, hR a r ⟨l.val, h⟩ l hr rfl h]
  · rw [if_neg h, dif_neg h]

theorem Rowv.dot {f : EReal → EReal} {w : S512x2048.Idx → EReal} {j : ℕ} {V : FVec Ideal S128x128 .bf16} (hV : Rowv f w j V)
    (sp : Vec Ideal S128x256 .bf16) (a : Fin 128) (c : Fin 256) (r : Fin 512) (C : Fin 2048) (hr : r.val = 128 * j + a.val)
    (hsp : ∀ k, sp (ix2 k c) = spreadI k C) :
    matmul (F := Ideal) (φ₁ := .bf16) (φ₂ := .bf16) dot_S128x128_S128x256_S128x256_1_0_0_1_n_n none V sp (constant (F := Ideal) S128x256 .f32 0x00000000#32) (ix2 a c) = f (rm w r (grp C)) := by
  show (FloatOps.matmul (DotDims.plain 128 128 256) none V sp (constant (F := Ideal) S128x256 .f32 0x00000000#32) (ix2 a c) : EReal) = _
  rw [Ideal.matmul_plain_apply]
  have h0 : (constant (F := Ideal) S128x256 .f32 0x00000000#32 (ix2 a c) : EReal) = 0 := Ideal.ofBits_zero_f32
  rw [h0]
  have hC : C.val / 128 < 16 := by omega
  have hs : (∑ k : Fin 128, V (ix2 a k) * sp (ix2 k c) : EReal) = f (rm w r (grp C)) := by
    rw [Finset.sum_eq_single (⟨C.val / 128, by omega⟩ : Fin 128)]
    · rw [hV a r _ hr, hsp, dif_pos hC]
      unfold spreadI
      rw [if_pos ⟨by show C.val / 128 % 16 = C.val / 128; omega, by show C.val / 128 < 48; omega⟩, mul_one]
      rfl
    · intro k _ hk
      rw [hV a r _ hr, hsp]
      by_cases hk16 : k.val < 16
      · unfold spreadI
        rw [if_neg, mul_zero]
        rintro ⟨h1, _⟩
        exact hk (Fin.ext (by show k.val = C.val / 128; omega))
      · rw [dif_neg hk16, zero_mul]
    · intro h; exact absurd (Finset.mem_univ _) h
  rw [hs, zero_add]

section Codes

variable (w : S512x2048.Idx → EReal) (o0 o1 j : ℕ) (hj : o0 = 128 * j)
    (inb : ∀ a, (![o0, o1] : Fin 2 → ℕ) a + S128x256.size a ≤ S512x2048.size a)
    (V S : FVec Ideal S128x128 .bf16) (hV : Rowv kinv w j V) (hS : Rowv kscl w j S) (W : Vec Ideal S128x256 .f32)
    (hW : ∀ i, W i = w ((Rect.unit (s := S512x2048) ![o0, o1] S128x256.size inb).emb i))
    (sp sp' : Vec Ideal S128x256 .bf16)
    (hsp : ∀ (k : Fin 128) (c : Fin 256) (C : Fin 2048), C.val = o1 + c.val → sp (ix2 k c) = spreadI k C)
    (hsp' : ∀ (k : Fin 128) (c : Fin 256) (C : Fin 2048), C.val = o1 + c.val → sp' (ix2 k c) = spreadI k C)

include hj hV hW hsp in
theorem R_piece (x : S128x256.Idx) :
    k0_pay165 (F := Ideal) (k0_pay164 (F := Ideal) V W sp) (Scalar.ofBits .f32 0xC3E00000#32) (Scalar.ofBits .f32 0x43E00000#32) x
      = qr w ((Rect.unit (s := S512x2048) ![o0, o1] S128x256.size inb).emb x) := by
  obtain ⟨a, c, rfl⟩ : ∃ (a : Fin 128) (c : Fin 256), x = ix2 a c := ⟨x 0, x 1, eq_ix2 x⟩
  unfold k0_pay165 k0_pay164
  rw [truncf_apply, minimumf_apply, maximumf_apply, mulf_apply, hW]
  rw [hV.dot sp a c ((Rect.unit (s := S512x2048) ![o0, o1] S128x256.size inb).emb (ix2 a c) 0) ((Rect.unit (s := S512x2048) ![o0, o1] S128x256.size inb).emb (ix2 a c) 1)
    (by show o0 + 1 * a.val = 128 * j + a.val; omega) (fun k => hsp k c _ (by show o1 + 1 * c.val = o1 + c.val; omega))]
  rfl

include hj hV hS hW hsp hsp' in
theorem D_piece (x : S128x256.Idx) :
    k0_pay166 (F := Ideal) S W (k0_pay164 (F := Ideal) V W sp) (Scalar.ofBits .f32 0xC3E00000#32) (Scalar.ofBits .f32 0x43E00000#32) sp' x
      = rr w ((Rect.unit (s := S512x2048) ![o0, o1] S128x256.size inb).emb x) := by
  have hR := R_piece w o0 o1 j hj inb V hV W hW sp hsp x
  obtain ⟨a, c, rfl⟩ : ∃ (a : Fin 128) (c : Fin 256), x = ix2 a c := ⟨x 0, x 1, eq_ix2 x⟩
  unfold k0_pay166
  rw [truncf_apply, subf_apply, mulf_apply, extf_apply, hR, hW]
  rw [hS.dot sp' a c ((Rect.unit (s := S512x2048) ![o0, o1] S128x256.size inb).emb (ix2 a c) 0) ((Rect.unit (s := S512x2048) ![o0, o1] S128x256.size inb).emb (ix2 a c) 1)
    (by show o0 + 1 * a.val = 128 * j + a.val; omega) (fun k => hsp' k c _ (by show o1 + 1 * c.val = o1 + c.val; omega))]
  rfl

end Codes

section Loads

variable (arg2 : Memref sig .tc .vmem S512x2048 .fp8e4m3) (harg2 : arg2.IsWhole) (arg3 : Memref sig .tc .vmem S1x16x512 .f32) (harg3 : arg3.IsWhole)
  (arg4 : Memref sig .tc .vmem S512x2048 .bf16) (harg4 : arg4.IsWhole) (arg5 : Memref sig .tc .vmem S512x2048 .f32) (harg5 : arg5.IsWhole)
  (arg11 : Memref sig .tc .vmem S512x2048 .f32)
  (x0 : Vec Ideal S512x2048 .fp8e4m3) (x1 : Vec Ideal S1x16x512 .f32) (x2 : Vec Ideal S512x2048 .bf16) (x3 : Vec Ideal S512x2048 .f32)
  (hx : ∀ i, x1 i ≠ ⊤ ∧ x1 i ≠ ⊥)

include hx in
theorem EX0 (sp : Vec Ideal S128x256 .bf16) (o0 o1 : ℕ)
    (hsp : ∀ (k : Fin 128) (c : Fin 256) (C : Fin 2048), C.val = o1 + c.val → sp (ix2 k c) = spreadI k C)
    (inb : ∀ a, (![o0, o1] : Fin 2 → ℕ) a + S128x256.size a ≤ S512x2048.size a)
    (inb3 : ∀ a, (![0, 0, o0] : Fin 3 → ℕ) a + S1x16x128.size a ≤ S1x16x512.size a) (j n : ℕ) (hj : o0 = 128 * j) (hn : o1 = 128 * n) (hn16 : n < 16)
    {R : FVec Ideal S128x128 .f32} (hR : Upto (wI x0 x1 x2 x3) j n R) :
    Upto (wI x0 x1 x2 x3) j (n + 1) (rhalf0 (BitVec.ofNat 32 n) (k0_pay6 (F := Ideal) (ld arg3 harg3 x1 (Rect.unit (s := S1x16x512) ![0, 0, o0] S1x16x128.size inb3)) (ld arg2 harg2 x0 (Rect.unit (s := S512x2048) ![o0, o1] S128x256.size inb))
      sp (ld arg4 harg4 x2 (Rect.unit (s := S512x2048) ![o0, o1] S128x256.size inb)) (ld arg5 harg5 x3 (Rect.unit (s := S512x2048) ![o0, o1] S128x256.size inb))) R) :=
  Upto.even x0 x1 x2 x3 hx _ _ sp _ _ o0 o1 inb inb3 (fun i => Memref.IsWhole.readAt_unread harg3 x1 _ _) (fun i => Memref.IsWhole.readAt_unread harg2 x0 _ _) hsp
    (fun i => Memref.IsWhole.readAt_unread harg4 x2 _ _) (fun i => Memref.IsWhole.readAt_unread harg5 x3 _ _) j n hj hn hn16 R hR

include hx in
theorem EX1 (sp : Vec Ideal S128x256 .bf16) (o0 o1 : ℕ)
    (hsp : ∀ (k : Fin 128) (c : Fin 256) (C : Fin 2048), C.val = o1 + c.val → sp (ix2 k c) = spreadI k C)
    (inb : ∀ a, (![o0, o1] : Fin 2 → ℕ) a + S128x256.size a ≤ S512x2048.size a)
    (inb3 : ∀ a, (![0, 0, o0] : Fin 3 → ℕ) a + S1x16x128.size a ≤ S1x16x512.size a) (j n : ℕ) (hj : o0 = 128 * j) (hn : o1 + 128 = 128 * n) (hn16 : n < 16)
    {R : FVec Ideal S128x128 .f32} (hR : Upto (wI x0 x1 x2 x3) j n R) :
    Upto (wI x0 x1 x2 x3) j (n + 1) (rhalf1 (BitVec.ofNat 32 n) (k0_pay6 (F := Ideal) (ld arg3 harg3 x1 (Rect.unit (s := S1x16x512) ![0, 0, o0] S1x16x128.size inb3)) (ld arg2 harg2 x0 (Rect.unit (s := S512x2048) ![o0, o1] S128x256.size inb))
      sp (ld arg4 harg4 x2 (Rect.unit (s := S512x2048) ![o0, o1] S128x256.size inb)) (ld arg5 harg5 x3 (Rect.unit (s := S512x2048) ![o0, o1] S128x256.size inb))) R) :=
  Upto.odd x0 x1 x2 x3 hx _ _ sp _ _ o0 o1 inb inb3 (fun i => Memref.IsWhole.readAt_unread harg3 x1 _ _) (fun i => Memref.IsWhole.readAt_unread harg2 x0 _ _) hsp
    (fun i => Memref.IsWhole.readAt_unread harg4 x2 _ _) (fun i => Memref.IsWhole.readAt_unread harg5 x3 _ _) j n hj hn hn16 R hR

theorem RX (w : S512x2048.Idx → EReal) (L0 : List (View.Piece (Elt Ideal) S512x2048 .f32)) (h0 : Ok (e := .f32) w L0) (o0 o1 j : ℕ) (hj : o0 = 128 * j)
    {V : FVec Ideal S128x128 .bf16} (hV : Rowv kinv w j V) (sp : Vec Ideal S128x256 .bf16)
    (hsp : ∀ (k : Fin 128) (c : Fin 256) (C : Fin 2048), C.val = o1 + c.val → sp (ix2 k c) = spreadI k C)
    (inb : ∀ a, (![o0, o1] : Fin 2 → ℕ) a + S128x256.size a ≤ S512x2048.size a)
    (c0 : ∃ p ∈ L0, ∃ inbc, p.1 = Rect.unit (s := S512x2048) ![o0, o1] S128x256.size inbc) (x : S128x256.Idx) :
    k0_pay165 (F := Ideal) (k0_pay164 (F := Ideal) V (arg11.view.readCov L0 (Rect.unit (s := S512x2048) ![o0, o1] S128x256.size inb).toLoadRect) sp) (Scalar.ofBits .f32 0xC3E00000#32) (Scalar.ofBits .f32 0x43E00000#32) x
      = qr w ((Rect.unit (s := S512x2048) ![o0, o1] S128x256.size inb).emb x) := by
  refine R_piece w o0 o1 j hj inb V hV _ (rc arg11 h0 (Rect.unit (s := S512x2048) ![o0, o1] S128x256.size inb) (fun y hy => ?_)) sp hsp x
  obtain ⟨p, hp, inbc, he⟩ := c0
  exact ⟨p, hp, by rw [he]; exact hy⟩

theorem DX (w : S512x2048.Idx → EReal) (L0 : List (View.Piece (Elt Ideal) S512x2048 .f32)) (h0 : Ok (e := .f32) w L0) (o0 o1 j : ℕ) (hj : o0 = 128 * j)
    {V : FVec Ideal S128x128 .bf16} (hV : Rowv kinv w j V) {S : FVec Ideal S128x128 .bf16} (hS : Rowv kscl w j S) (sp : Vec Ideal S128x256 .bf16)
    (hsp : ∀ (k : Fin 128) (c : Fin 256) (C : Fin 2048), C.val = o1 + c.val → sp (ix2 k c) = spreadI k C)
    (inb : ∀ a, (![o0, o1] : Fin 2 → ℕ) a + S128x256.size a ≤ S512x2048.size a)
    (c0 : ∃ p ∈ L0, ∃ inbc, p.1 = Rect.unit (s := S512x2048) ![o0, o1] S128x256.size inbc) (x : S128x256.Idx) :
    k0_pay166 (F := Ideal) S (arg11.view.readCov L0 (Rect.unit (s := S512x2048) ![o0, o1] S128x256.size inb).toLoadRect) (k0_pay164 (F := Ideal) V (arg11.view.readCov L0 (Rect.unit (s := S512x2048) ![o0, o1] S128x256.size inb).toLoadRect) sp) (Scalar.ofBits .f32 0xC3E00000#32) (Scalar.ofBits .f32 0x43E00000#32) sp x
      = rr w ((Rect.unit (s := S512x2048) ![o0, o1] S128x256.size inb).emb x) := by
  refine D_piece w o0 o1 j hj inb V S hV hS _ (rc arg11 h0 (Rect.unit (s := S512x2048) ![o0, o1] S128x256.size inb) (fun y hy => ?_)) sp sp hsp hsp x
  obtain ⟨p, hp, inbc, he⟩ := c0
  exact ⟨p, hp, by rw [he]; exact hy⟩

end Loads

end Cert.KernelIdeal.Run
-- ==== Proof.KRowA.lean ====
module

public import proofs.«01_k».proof.Proof.KPiecesA
public import proofs.«01_k».proof.Proof.KRow
import all proofs.«01_k».proof.Proof.KRunA

/-! The row codes and the residuals the ideal kernel stores in case A agree with the block functions. -/

@[expose] public section

set_option maxRecDepth 100000
set_option maxHeartbeats 4000000

noncomputable section

namespace Cert.KernelIdeal.Run

open Idealize.ShloMosaic Idealize.ShloMosaic.ValueIdx Cert.KernelIdeal Cert.KernelIdeal.Gen Cert.Quant

section CaseA

variable (c : Dev nD) (arg2 : Memref sig .tc .vmem S512x2048 .fp8e4m3) (harg2 : arg2.IsWhole) (arg3 : Memref sig .tc .vmem S1x16x512 .f32) (harg3 : arg3.IsWhole)
  (arg4 : Memref sig .tc .vmem S512x2048 .bf16) (harg4 : arg4.IsWhole) (arg5 : Memref sig .tc .vmem S512x2048 .f32) (harg5 : arg5.IsWhole)
  (arg11 : Memref sig .tc .vmem S512x2048 .f32) (arg12 : Memref sig .tc .vmem S128x2048 .bf16) (harg12 : arg12.IsWhole)
  (arg13 arg15 : Memref sig .tc .vmem S4x16x128 .f32)
  (x0 : Vec Ideal S512x2048 .fp8e4m3) (x1 : Vec Ideal S1x16x512 .f32) (x2 : Vec Ideal S512x2048 .bf16) (x3 : Vec Ideal S512x2048 .f32)
  (xs1 : Vec Ideal S128x2048 .bf16) (hx : ∀ i, x1 i ≠ ⊤ ∧ x1 i ≠ ⊥)
include hx in
theorem rmax0_A : Upto (wI x0 x1 x2 x3) 0 16 (kernelRun0_A.sl.r_25 (F := Ideal) c arg2 harg2 arg3 harg3 arg4 harg4 arg5 harg5 arg12 x0 x1 x2 x3) :=
  EX1 arg2 harg2 arg3 harg3 arg4 harg4 arg5 harg5 x0 x1 x2 x3 hx _ 0 1792 (spA arg12 1792 (by decide)) (by decide) (by decide) 0 15 (by decide) (by decide) (by decide) <|
    EX0 arg2 harg2 arg3 harg3 arg4 harg4 arg5 harg5 x0 x1 x2 x3 hx _ 0 1792 (spA arg12 1792 (by decide)) (by decide) (by decide) 0 14 (by decide) (by decide) (by decide) <|
    EX1 arg2 harg2 arg3 harg3 arg4 harg4 arg5 harg5 x0 x1 x2 x3 hx _ 0 1536 (spA arg12 1536 (by decide)) (by decide) (by decide) 0 13 (by decide) (by decide) (by decide) <|
    EX0 arg2 harg2 arg3 harg3 arg4 harg4 arg5 harg5 x0 x1 x2 x3 hx _ 0 1536 (spA arg12 1536 (by decide)) (by decide) (by decide) 0 12 (by decide) (by decide) (by decide) <|
    EX1 arg2 harg2 arg3 harg3 arg4 harg4 arg5 harg5 x0 x1 x2 x3 hx _ 0 1280 (spA arg12 1280 (by decide)) (by decide) (by decide) 0 11 (by decide) (by decide) (by decide) <|
    EX0 arg2 harg2 arg3 harg3 arg4 harg4 arg5 harg5 x0 x1 x2 x3 hx _ 0 1280 (spA arg12 1280 (by decide)) (by decide) (by decide) 0 10 (by decide) (by decide) (by decide) <|
    EX1 arg2 harg2 arg3 harg3 arg4 harg4 arg5 harg5 x0 x1 x2 x3 hx _ 0 1024 (spA arg12 1024 (by decide)) (by decide) (by decide) 0 9 (by decide) (by decide) (by decide) <|
    EX0 arg2 harg2 arg3 harg3 arg4 harg4 arg5 harg5 x0 x1 x2 x3 hx _ 0 1024 (spA arg12 1024 (by decide)) (by decide) (by decide) 0 8 (by decide) (by decide) (by decide) <|
    EX1 arg2 harg2 arg3 harg3 arg4 harg4 arg5 harg5 x0 x1 x2 x3 hx _ 0 768 (spA arg12 768 (by decide)) (by decide) (by decide) 0 7 (by decide) (by decide) (by decide) <|
    EX0 arg2 harg2 arg3 harg3 arg4 harg4 arg5 harg5 x0 x1 x2 x3 hx _ 0 768 (spA arg12 768 (by decide)) (by decide) (by decide) 0 6 (by decide) (by decide) (by decide) <|
    EX1 arg2 harg2 arg3 harg3 arg4 harg4 arg5 harg5 x0 x1 x2 x3 hx _ 0 512 (spA arg12 512 (by decide)) (by decide) (by decide) 0 5 (by decide) (by decide) (by decide) <|
    EX0 arg2 harg2 arg3 harg3 arg4 harg4 arg5 harg5 x0 x1 x2 x3 hx _ 0 512 (spA arg12 512 (by decide)) (by decide) (by decide) 0 4 (by decide) (by decide) (by decide) <|
    EX1 arg2 harg2 arg3 harg3 arg4 harg4 arg5 harg5 x0 x1 x2 x3 hx _ 0 256 (spA arg12 256 (by decide)) (by decide) (by decide) 0 3 (by decide) (by decide) (by decide) <|
    EX0 arg2 harg2 arg3 harg3 arg4 harg4 arg5 harg5 x0 x1 x2 x3 hx _ 0 256 (spA arg12 256 (by decide)) (by decide) (by decide) 0 2 (by decide) (by decide) (by decide) <|
    EX1 arg2 harg2 arg3 harg3 arg4 harg4 arg5 harg5 x0 x1 x2 x3 hx _ 0 0 (spA arg12 0 (by decide)) (by decide) (by decide) 0 1 (by decide) (by decide) (by decide) <|
    EX0 arg2 harg2 arg3 harg3 arg4 harg4 arg5 harg5 x0 x1 x2 x3 hx _ 0 0 (spA arg12 0 (by decide)) (by decide) (by decide) 0 0 (by decide) (by decide) (by decide) <|
    Upto.zero (wI x0 x1 x2 x3) 0 _

include hx in
theorem inv0_A : Rowv kinv (wI x0 x1 x2 x3) 0 (kernelRun0_A.sl.r_34 (F := Ideal) c arg2 harg2 arg3 harg3 arg4 harg4 arg5 harg5 arg12 x0 x1 x2 x3) :=
  VI_row (wI x0 x1 x2 x3) 0 _ (rmax0_A c arg2 harg2 arg3 harg3 arg4 harg4 arg5 harg5 arg12 x0 x1 x2 x3 hx)

include hx in
theorem scl0_A : Rowv kscl (wI x0 x1 x2 x3) 0 (kernelRun0_A.sl.r_33 (F := Ideal) c arg2 harg2 arg3 harg3 arg4 harg4 arg5 harg5 arg12 x0 x1 x2 x3) :=
  VS_row (wI x0 x1 x2 x3) 0 _ (rmax0_A c arg2 harg2 arg3 harg3 arg4 harg4 arg5 harg5 arg12 x0 x1 x2 x3 hx)

include hx in
theorem rmax1_A : Upto (wI x0 x1 x2 x3) 1 16 (kernelRun0_A.sl.r_64 (F := Ideal) c arg2 harg2 arg3 harg3 arg4 harg4 arg5 harg5 arg12 x0 x1 x2 x3) :=
  EX1 arg2 harg2 arg3 harg3 arg4 harg4 arg5 harg5 x0 x1 x2 x3 hx _ 128 1792 (spA arg12 1792 (by decide)) (by decide) (by decide) 1 15 (by decide) (by decide) (by decide) <|
    EX0 arg2 harg2 arg3 harg3 arg4 harg4 arg5 harg5 x0 x1 x2 x3 hx _ 128 1792 (spA arg12 1792 (by decide)) (by decide) (by decide) 1 14 (by decide) (by decide) (by decide) <|
    EX1 arg2 harg2 arg3 harg3 arg4 harg4 arg5 harg5 x0 x1 x2 x3 hx _ 128 1536 (spA arg12 1536 (by decide)) (by decide) (by decide) 1 13 (by decide) (by decide) (by decide) <|
    EX0 arg2 harg2 arg3 harg3 arg4 harg4 arg5 harg5 x0 x1 x2 x3 hx _ 128 1536 (spA arg12 1536 (by decide)) (by decide) (by decide) 1 12 (by decide) (by decide) (by decide) <|
    EX1 arg2 harg2 arg3 harg3 arg4 harg4 arg5 harg5 x0 x1 x2 x3 hx _ 128 1280 (spA arg12 1280 (by decide)) (by decide) (by decide) 1 11 (by decide) (by decide) (by decide) <|
    EX0 arg2 harg2 arg3 harg3 arg4 harg4 arg5 harg5 x0 x1 x2 x3 hx _ 128 1280 (spA arg12 1280 (by decide)) (by decide) (by decide) 1 10 (by decide) (by decide) (by decide) <|
    EX1 arg2 harg2 arg3 harg3 arg4 harg4 arg5 harg5 x0 x1 x2 x3 hx _ 128 1024 (spA arg12 1024 (by decide)) (by decide) (by decide) 1 9 (by decide) (by decide) (by decide) <|
    EX0 arg2 harg2 arg3 harg3 arg4 harg4 arg5 harg5 x0 x1 x2 x3 hx _ 128 1024 (spA arg12 1024 (by decide)) (by decide) (by decide) 1 8 (by decide) (by decide) (by decide) <|
    EX1 arg2 harg2 arg3 harg3 arg4 harg4 arg5 harg5 x0 x1 x2 x3 hx _ 128 768 (spA arg12 768 (by decide)) (by decide) (by decide) 1 7 (by decide) (by decide) (by decide) <|
    EX0 arg2 harg2 arg3 harg3 arg4 harg4 arg5 harg5 x0 x1 x2 x3 hx _ 128 768 (spA arg12 768 (by decide)) (by decide) (by decide) 1 6 (by decide) (by decide) (by decide) <|
    EX1 arg2 harg2 arg3 harg3 arg4 harg4 arg5 harg5 x0 x1 x2 x3 hx _ 128 512 (spA arg12 512 (by decide)) (by decide) (by decide) 1 5 (by decide) (by decide) (by decide) <|
    EX0 arg2 harg2 arg3 harg3 arg4 harg4 arg5 harg5 x0 x1 x2 x3 hx _ 128 512 (spA arg12 512 (by decide)) (by decide) (by decide) 1 4 (by decide) (by decide) (by decide) <|
    EX1 arg2 harg2 arg3 harg3 arg4 harg4 arg5 harg5 x0 x1 x2 x3 hx _ 128 256 (spA arg12 256 (by decide)) (by decide) (by decide) 1 3 (by decide) (by decide) (by decide) <|
    EX0 arg2 harg2 arg3 harg3 arg4 harg4 arg5 harg5 x0 x1 x2 x3 hx _ 128 256 (spA arg12 256 (by decide)) (by decide) (by decide) 1 2 (by decide) (by decide) (by decide) <|
    EX1 arg2 harg2 arg3 harg3 arg4 harg4 arg5 harg5 x0 x1 x2 x3 hx _ 128 0 (spA arg12 0 (by decide)) (by decide) (by decide) 1 1 (by decide) (by decide) (by decide) <|
    EX0 arg2 harg2 arg3 harg3 arg4 harg4 arg5 harg5 x0 x1 x2 x3 hx _ 128 0 (spA arg12 0 (by decide)) (by decide) (by decide) 1 0 (by decide) (by decide) (by decide) <|
    Upto.zero (wI x0 x1 x2 x3) 1 _

include hx in
theorem inv1_A : Rowv kinv (wI x0 x1 x2 x3) 1 (kernelRun0_A.sl.r_97 (F := Ideal) c arg2 harg2 arg3 harg3 arg4 harg4 arg5 harg5 arg12 x0 x1 x2 x3) :=
  VI_row (wI x0 x1 x2 x3) 1 _ (rmax1_A c arg2 harg2 arg3 harg3 arg4 harg4 arg5 harg5 arg12 x0 x1 x2 x3 hx)

include hx in
theorem scl1_A : Rowv kscl (wI x0 x1 x2 x3) 1 (kernelRun0_A.sl.r_96 (F := Ideal) c arg2 harg2 arg3 harg3 arg4 harg4 arg5 harg5 arg12 x0 x1 x2 x3) :=
  VS_row (wI x0 x1 x2 x3) 1 _ (rmax1_A c arg2 harg2 arg3 harg3 arg4 harg4 arg5 harg5 arg12 x0 x1 x2 x3 hx)

include hx in
theorem rmax2_A : Upto (wI x0 x1 x2 x3) 2 16 (kernelRun0_A.sl.r_120 (F := Ideal) c arg2 harg2 arg3 harg3 arg4 harg4 arg5 harg5 arg12 x0 x1 x2 x3) :=
  EX1 arg2 harg2 arg3 harg3 arg4 harg4 arg5 harg5 x0 x1 x2 x3 hx _ 256 1792 (spA arg12 1792 (by decide)) (by decide) (by decide) 2 15 (by decide) (by decide) (by decide) <|
    EX0 arg2 harg2 arg3 harg3 arg4 harg4 arg5 harg5 x0 x1 x2 x3 hx _ 256 1792 (spA arg12 1792 (by decide)) (by decide) (by decide) 2 14 (by decide) (by decide) (by decide) <|
    EX1 arg2 harg2 arg3 harg3 arg4 harg4 arg5 harg5 x0 x1 x2 x3 hx _ 256 1536 (spA arg12 1536 (by decide)) (by decide) (by decide) 2 13 (by decide) (by decide) (by decide) <|
    EX0 arg2 harg2 arg3 harg3 arg4 harg4 arg5 harg5 x0 x1 x2 x3 hx _ 256 1536 (spA arg12 1536 (by decide)) (by decide) (by decide) 2 12 (by decide) (by decide) (by decide) <|
    EX1 arg2 harg2 arg3 harg3 arg4 harg4 arg5 harg5 x0 x1 x2 x3 hx _ 256 1280 (spA arg12 1280 (by decide)) (by decide) (by decide) 2 11 (by decide) (by decide) (by decide) <|
    EX0 arg2 harg2 arg3 harg3 arg4 harg4 arg5 harg5 x0 x1 x2 x3 hx _ 256 1280 (spA arg12 1280 (by decide)) (by decide) (by decide) 2 10 (by decide) (by decide) (by decide) <|
    EX1 arg2 harg2 arg3 harg3 arg4 harg4 arg5 harg5 x0 x1 x2 x3 hx _ 256 1024 (spA arg12 1024 (by decide)) (by decide) (by decide) 2 9 (by decide) (by decide) (by decide) <|
    EX0 arg2 harg2 arg3 harg3 arg4 harg4 arg5 harg5 x0 x1 x2 x3 hx _ 256 1024 (spA arg12 1024 (by decide)) (by decide) (by decide) 2 8 (by decide) (by decide) (by decide) <|
    EX1 arg2 harg2 arg3 harg3 arg4 harg4 arg5 harg5 x0 x1 x2 x3 hx _ 256 768 (spA arg12 768 (by decide)) (by decide) (by decide) 2 7 (by decide) (by decide) (by decide) <|
    EX0 arg2 harg2 arg3 harg3 arg4 harg4 arg5 harg5 x0 x1 x2 x3 hx _ 256 768 (spA arg12 768 (by decide)) (by decide) (by decide) 2 6 (by decide) (by decide) (by decide) <|
    EX1 arg2 harg2 arg3 harg3 arg4 harg4 arg5 harg5 x0 x1 x2 x3 hx _ 256 512 (spA arg12 512 (by decide)) (by decide) (by decide) 2 5 (by decide) (by decide) (by decide) <|
    EX0 arg2 harg2 arg3 harg3 arg4 harg4 arg5 harg5 x0 x1 x2 x3 hx _ 256 512 (spA arg12 512 (by decide)) (by decide) (by decide) 2 4 (by decide) (by decide) (by decide) <|
    EX1 arg2 harg2 arg3 harg3 arg4 harg4 arg5 harg5 x0 x1 x2 x3 hx _ 256 256 (spA arg12 256 (by decide)) (by decide) (by decide) 2 3 (by decide) (by decide) (by decide) <|
    EX0 arg2 harg2 arg3 harg3 arg4 harg4 arg5 harg5 x0 x1 x2 x3 hx _ 256 256 (spA arg12 256 (by decide)) (by decide) (by decide) 2 2 (by decide) (by decide) (by decide) <|
    EX1 arg2 harg2 arg3 harg3 arg4 harg4 arg5 harg5 x0 x1 x2 x3 hx _ 256 0 (spA arg12 0 (by decide)) (by decide) (by decide) 2 1 (by decide) (by decide) (by decide) <|
    EX0 arg2 harg2 arg3 harg3 arg4 harg4 arg5 harg5 x0 x1 x2 x3 hx _ 256 0 (spA arg12 0 (by decide)) (by decide) (by decide) 2 0 (by decide) (by decide) (by decide) <|
    Upto.zero (wI x0 x1 x2 x3) 2 _

include hx in
theorem inv2_A : Rowv kinv (wI x0 x1 x2 x3) 2 (kernelRun0_A.sl.r_144 (F := Ideal) c arg2 harg2 arg3 harg3 arg4 harg4 arg5 harg5 arg12 x0 x1 x2 x3) :=
  VI_row (wI x0 x1 x2 x3) 2 _ (rmax2_A c arg2 harg2 arg3 harg3 arg4 harg4 arg5 harg5 arg12 x0 x1 x2 x3 hx)

include hx in
theorem scl2_A : Rowv kscl (wI x0 x1 x2 x3) 2 (kernelRun0_A.sl.r_143 (F := Ideal) c arg2 harg2 arg3 harg3 arg4 harg4 arg5 harg5 arg12 x0 x1 x2 x3) :=
  VS_row (wI x0 x1 x2 x3) 2 _ (rmax2_A c arg2 harg2 arg3 harg3 arg4 harg4 arg5 harg5 arg12 x0 x1 x2 x3 hx)

include hx in
theorem rmax3_A : Upto (wI x0 x1 x2 x3) 3 16 (kernelRun0_A.sl.r_170 (F := Ideal) c arg2 harg2 arg3 harg3 arg4 harg4 arg5 harg5 arg12 x0 x1 x2 x3) :=
  EX1 arg2 harg2 arg3 harg3 arg4 harg4 arg5 harg5 x0 x1 x2 x3 hx _ 384 1792 (spA arg12 1792 (by decide)) (by decide) (by decide) 3 15 (by decide) (by decide) (by decide) <|
    EX0 arg2 harg2 arg3 harg3 arg4 harg4 arg5 harg5 x0 x1 x2 x3 hx _ 384 1792 (spA arg12 1792 (by decide)) (by decide) (by decide) 3 14 (by decide) (by decide) (by decide) <|
    EX1 arg2 harg2 arg3 harg3 arg4 harg4 arg5 harg5 x0 x1 x2 x3 hx _ 384 1536 (spA arg12 1536 (by decide)) (by decide) (by decide) 3 13 (by decide) (by decide) (by decide) <|
    EX0 arg2 harg2 arg3 harg3 arg4 harg4 arg5 harg5 x0 x1 x2 x3 hx _ 384 1536 (spA arg12 1536 (by decide)) (by decide) (by decide) 3 12 (by decide) (by decide) (by decide) <|
    EX1 arg2 harg2 arg3 harg3 arg4 harg4 arg5 harg5 x0 x1 x2 x3 hx _ 384 1280 (spA arg12 1280 (by decide)) (by decide) (by decide) 3 11 (by decide) (by decide) (by decide) <|
    EX0 arg2 harg2 arg3 harg3 arg4 harg4 arg5 harg5 x0 x1 x2 x3 hx _ 384 1280 (spA arg12 1280 (by decide)) (by decide) (by decide) 3 10 (by decide) (by decide) (by decide) <|
    EX1 arg2 harg2 arg3 harg3 arg4 harg4 arg5 harg5 x0 x1 x2 x3 hx _ 384 1024 (spA arg12 1024 (by decide)) (by decide) (by decide) 3 9 (by decide) (by decide) (by decide) <|
    EX0 arg2 harg2 arg3 harg3 arg4 harg4 arg5 harg5 x0 x1 x2 x3 hx _ 384 1024 (spA arg12 1024 (by decide)) (by decide) (by decide) 3 8 (by decide) (by decide) (by decide) <|
    EX1 arg2 harg2 arg3 harg3 arg4 harg4 arg5 harg5 x0 x1 x2 x3 hx _ 384 768 (spA arg12 768 (by decide)) (by decide) (by decide) 3 7 (by decide) (by decide) (by decide) <|
    EX0 arg2 harg2 arg3 harg3 arg4 harg4 arg5 harg5 x0 x1 x2 x3 hx _ 384 768 (spA arg12 768 (by decide)) (by decide) (by decide) 3 6 (by decide) (by decide) (by decide) <|
    EX1 arg2 harg2 arg3 harg3 arg4 harg4 arg5 harg5 x0 x1 x2 x3 hx _ 384 512 (spA arg12 512 (by decide)) (by decide) (by decide) 3 5 (by decide) (by decide) (by decide) <|
    EX0 arg2 harg2 arg3 harg3 arg4 harg4 arg5 harg5 x0 x1 x2 x3 hx _ 384 512 (spA arg12 512 (by decide)) (by decide) (by decide) 3 4 (by decide) (by decide) (by decide) <|
    EX1 arg2 harg2 arg3 harg3 arg4 harg4 arg5 harg5 x0 x1 x2 x3 hx _ 384 256 (spA arg12 256 (by decide)) (by decide) (by decide) 3 3 (by decide) (by decide) (by decide) <|
    EX0 arg2 harg2 arg3 harg3 arg4 harg4 arg5 harg5 x0 x1 x2 x3 hx _ 384 256 (spA arg12 256 (by decide)) (by decide) (by decide) 3 2 (by decide) (by decide) (by decide) <|
    EX1 arg2 harg2 arg3 harg3 arg4 harg4 arg5 harg5 x0 x1 x2 x3 hx _ 384 0 (spA arg12 0 (by decide)) (by decide) (by decide) 3 1 (by decide) (by decide) (by decide) <|
    EX0 arg2 harg2 arg3 harg3 arg4 harg4 arg5 harg5 x0 x1 x2 x3 hx _ 384 0 (spA arg12 0 (by decide)) (by decide) (by decide) 3 0 (by decide) (by decide) (by decide) <|
    Upto.zero (wI x0 x1 x2 x3) 3 _

include hx in
theorem inv3_A : Rowv kinv (wI x0 x1 x2 x3) 3 (kernelRun0_A.sl.r_200 (F := Ideal) c arg2 harg2 arg3 harg3 arg4 harg4 arg5 harg5 arg12 x0 x1 x2 x3) :=
  VI_row (wI x0 x1 x2 x3) 3 _ (rmax3_A c arg2 harg2 arg3 harg3 arg4 harg4 arg5 harg5 arg12 x0 x1 x2 x3 hx)

include hx in
theorem scl3_A : Rowv kscl (wI x0 x1 x2 x3) 3 (kernelRun0_A.sl.r_199 (F := Ideal) c arg2 harg2 arg3 harg3 arg4 harg4 arg5 harg5 arg12 x0 x1 x2 x3) :=
  VS_row (wI x0 x1 x2 x3) 3 _ (rmax3_A c arg2 harg2 arg3 harg3 arg4 harg4 arg5 harg5 arg12 x0 x1 x2 x3 hx)

include hx in
theorem L5_ok_A (i : grid0.Coords) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (harg11 : arg11.IsWhole) (harg13 : arg13.IsWhole) (arg14 : Memref sig .tc .vmem S4x16x128 .f32) (harg14 : arg14.IsWhole) (harg15 : arg15.IsWhole) (hc0 : cond0_0 i) :
    Ok (e := .fp8e4m3) (qr (wI x0 x1 x2 x3)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).2.1 :=
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 1792 3 (by decide) (inv3_A c arg2 harg2 arg3 harg3 arg4 harg4 arg5 harg5 arg12 x0 x1 x2 x3 hx) (arg12.view.readCov (kernelRun0_A.sl.HS1_1 (F := Ideal) ) (Rect.unit (s := S128x2048) ![0, 1792] S128x256.size (by decide)).toLoadRect) (spA arg12 1792 (by decide)) (by decide) ⟨_, List.mem_cons_self, by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 1536 3 (by decide) (inv3_A c arg2 harg2 arg3 harg3 arg4 harg4 arg5 harg5 arg12 x0 x1 x2 x3 hx) (arg12.view.readCov (kernelRun0_A.sl.HS1_1 (F := Ideal) ) (Rect.unit (s := S128x2048) ![0, 1536] S128x256.size (by decide)).toLoadRect) (spA arg12 1536 (by decide)) (by decide) ⟨_, (List.mem_cons_of_mem _ List.mem_cons_self), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 1280 3 (by decide) (inv3_A c arg2 harg2 arg3 harg3 arg4 harg4 arg5 harg5 arg12 x0 x1 x2 x3 hx) (arg12.view.readCov (kernelRun0_A.sl.HS1_1 (F := Ideal) ) (Rect.unit (s := S128x2048) ![0, 1280] S128x256.size (by decide)).toLoadRect) (spA arg12 1280 (by decide)) (by decide) ⟨_, (List.mem_cons_of_mem _ (List.mem_cons_of_mem _ List.mem_cons_self)), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 1024 3 (by decide) (inv3_A c arg2 harg2 arg3 harg3 arg4 harg4 arg5 harg5 arg12 x0 x1 x2 x3 hx) (arg12.view.readCov (kernelRun0_A.sl.HS1_1 (F := Ideal) ) (Rect.unit (s := S128x2048) ![0, 1024] S128x256.size (by decide)).toLoadRect) (spA arg12 1024 (by decide)) (by decide) ⟨_, (List.mem_cons_of_mem _ (List.mem_cons_of_mem _ (List.mem_cons_of_mem _ List.mem_cons_self))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 768 3 (by decide) (inv3_A c arg2 harg2 arg3 harg3 arg4 harg4 arg5 harg5 arg12 x0 x1 x2 x3 hx) (arg12.view.readCov (kernelRun0_A.sl.HS1_1 (F := Ideal) ) (Rect.unit (s := S128x2048) ![0, 768] S128x256.size (by decide)).toLoadRect) (spA arg12 768 (by decide)) (by decide) ⟨_, (List.mem_cons_of_mem _ (List.mem_cons_of_mem _ (List.mem_cons_of_mem _ (List.mem_cons_of_mem _ List.mem_cons_self)))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 512 3 (by decide) (inv3_A c arg2 harg2 arg3 harg3 arg4 harg4 arg5 harg5 arg12 x0 x1 x2 x3 hx) (arg12.view.readCov (kernelRun0_A.sl.HS1_1 (F := Ideal) ) (Rect.unit (s := S128x2048) ![0, 512] S128x256.size (by decide)).toLoadRect) (spA arg12 512 (by decide)) (by decide) ⟨_, (List.mem_cons_of_mem _ (List.mem_cons_of_mem _ (List.mem_cons_of_mem _ (List.mem_cons_of_mem _ (List.mem_cons_of_mem _ List.mem_cons_self))))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 256 3 (by decide) (inv3_A c arg2 harg2 arg3 harg3 arg4 harg4 arg5 harg5 arg12 x0 x1 x2 x3 hx) (arg12.view.readCov (kernelRun0_A.sl.HS1_1 (F := Ideal) ) (Rect.unit (s := S128x2048) ![0, 256] S128x256.size (by decide)).toLoadRect) (spA arg12 256 (by decide)) (by decide) ⟨_, (List.mem_cons_of_mem _ (List.mem_cons_of_mem _ (List.mem_cons_of_mem _ (List.mem_cons_of_mem _ (List.mem_cons_of_mem _ (List.mem_cons_of_mem _ List.mem_cons_self)))))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 0 3 (by decide) (inv3_A c arg2 harg2 arg3 harg3 arg4 harg4 arg5 harg5 arg12 x0 x1 x2 x3 hx) (arg12.view.readCov (kernelRun0_A.sl.HS1_1 (F := Ideal) ) (Rect.unit (s := S128x2048) ![0, 0] S128x256.size (by decide)).toLoadRect) (spA arg12 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ List.mem_cons_self))))))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 1792 2 (by decide) (inv2_A c arg2 harg2 arg3 harg3 arg4 harg4 arg5 harg5 arg12 x0 x1 x2 x3 hx) (arg12.view.readCov (kernelRun0_A.sl.HS1_1 (F := Ideal) ) (Rect.unit (s := S128x2048) ![0, 1792] S128x256.size (by decide)).toLoadRect) (spA arg12 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 1536 2 (by decide) (inv2_A c arg2 harg2 arg3 harg3 arg4 harg4 arg5 harg5 arg12 x0 x1 x2 x3 hx) (arg12.view.readCov (kernelRun0_A.sl.HS1_1 (F := Ideal) ) (Rect.unit (s := S128x2048) ![0, 1536] S128x256.size (by decide)).toLoadRect) (spA arg12 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 1280 2 (by decide) (inv2_A c arg2 harg2 arg3 harg3 arg4 harg4 arg5 harg5 arg12 x0 x1 x2 x3 hx) (arg12.view.readCov (kernelRun0_A.sl.HS1_1 (F := Ideal) ) (Rect.unit (s := S128x2048) ![0, 1280] S128x256.size (by decide)).toLoadRect) (spA arg12 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 1024 2 (by decide) (inv2_A c arg2 harg2 arg3 harg3 arg4 harg4 arg5 harg5 arg12 x0 x1 x2 x3 hx) (arg12.view.readCov (kernelRun0_A.sl.HS1_1 (F := Ideal) ) (Rect.unit (s := S128x2048) ![0, 1024] S128x256.size (by decide)).toLoadRect) (spA arg12 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 768 2 (by decide) (inv2_A c arg2 harg2 arg3 harg3 arg4 harg4 arg5 harg5 arg12 x0 x1 x2 x3 hx) (arg12.view.readCov (kernelRun0_A.sl.HS1_1 (F := Ideal) ) (Rect.unit (s := S128x2048) ![0, 768] S128x256.size (by decide)).toLoadRect) (spA arg12 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 512 2 (by decide) (inv2_A c arg2 harg2 arg3 harg3 arg4 harg4 arg5 harg5 arg12 x0 x1 x2 x3 hx) (arg12.view.readCov (kernelRun0_A.sl.HS1_1 (F := Ideal) ) (Rect.unit (s := S128x2048) ![0, 512] S128x256.size (by decide)).toLoadRect) (spA arg12 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 256 2 (by decide) (inv2_A c arg2 harg2 arg3 harg3 arg4 harg4 arg5 harg5 arg12 x0 x1 x2 x3 hx) (arg12.view.readCov (kernelRun0_A.sl.HS1_1 (F := Ideal) ) (Rect.unit (s := S128x2048) ![0, 256] S128x256.size (by decide)).toLoadRect) (spA arg12 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => RX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 0 2 (by decide) (inv2_A c arg2 harg2 arg3 harg3 arg4 harg4 arg5 harg5 arg12 x0 x1 x2 x3 hx) (arg12.view.readCov (kernelRun0_A.sl.HS1_1 (F := Ideal) ) (Rect.unit (s := S128x2048) ![0, 0] S128x256.size (by decide)).toLoadRect) (spA arg12 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.cons (fun x => RX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 1792 1 (by decide) (inv1_A c arg2 harg2 arg3 harg3 arg4 harg4 arg5 harg5 arg12 x0 x1 x2 x3 hx) (arg12.view.readCov (kernelRun0_A.sl.HS1_1 (F := Ideal) ) (Rect.unit (s := S128x2048) ![0, 1792] S128x256.size (by decide)).toLoadRect) (spA arg12 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => RX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 1536 1 (by decide) (inv1_A c arg2 harg2 arg3 harg3 arg4 harg4 arg5 harg5 arg12 x0 x1 x2 x3 hx) (arg12.view.readCov (kernelRun0_A.sl.HS1_1 (F := Ideal) ) (Rect.unit (s := S128x2048) ![0, 1536] S128x256.size (by decide)).toLoadRect) (spA arg12 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => RX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 1280 1 (by decide) (inv1_A c arg2 harg2 arg3 harg3 arg4 harg4 arg5 harg5 arg12 x0 x1 x2 x3 hx) (arg12.view.readCov (kernelRun0_A.sl.HS1_1 (F := Ideal) ) (Rect.unit (s := S128x2048) ![0, 1280] S128x256.size (by decide)).toLoadRect) (spA arg12 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => RX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 1024 1 (by decide) (inv1_A c arg2 harg2 arg3 harg3 arg4 harg4 arg5 harg5 arg12 x0 x1 x2 x3 hx) (arg12.view.readCov (kernelRun0_A.sl.HS1_1 (F := Ideal) ) (Rect.unit (s := S128x2048) ![0, 1024] S128x256.size (by decide)).toLoadRect) (spA arg12 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => RX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 768 1 (by decide) (inv1_A c arg2 harg2 arg3 harg3 arg4 harg4 arg5 harg5 arg12 x0 x1 x2 x3 hx) (arg12.view.readCov (kernelRun0_A.sl.HS1_1 (F := Ideal) ) (Rect.unit (s := S128x2048) ![0, 768] S128x256.size (by decide)).toLoadRect) (spA arg12 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => RX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 512 1 (by decide) (inv1_A c arg2 harg2 arg3 harg3 arg4 harg4 arg5 harg5 arg12 x0 x1 x2 x3 hx) (arg12.view.readCov (kernelRun0_A.sl.HS1_1 (F := Ideal) ) (Rect.unit (s := S128x2048) ![0, 512] S128x256.size (by decide)).toLoadRect) (spA arg12 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => RX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 256 1 (by decide) (inv1_A c arg2 harg2 arg3 harg3 arg4 harg4 arg5 harg5 arg12 x0 x1 x2 x3 hx) (arg12.view.readCov (kernelRun0_A.sl.HS1_1 (F := Ideal) ) (Rect.unit (s := S128x2048) ![0, 256] S128x256.size (by decide)).toLoadRect) (spA arg12 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => RX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 0 1 (by decide) (inv1_A c arg2 harg2 arg3 harg3 arg4 harg4 arg5 harg5 arg12 x0 x1 x2 x3 hx) (arg12.view.readCov (kernelRun0_A.sl.HS1_1 (F := Ideal) ) (Rect.unit (s := S128x2048) ![0, 0] S128x256.size (by decide)).toLoadRect) (spA arg12 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.cons (fun x => RX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 1792 0 (by decide) (inv0_A c arg2 harg2 arg3 harg3 arg4 harg4 arg5 harg5 arg12 x0 x1 x2 x3 hx) (arg12.view.readCov (kernelRun0_A.sl.HS1_1 (F := Ideal) ) (Rect.unit (s := S128x2048) ![0, 1792] S128x256.size (by decide)).toLoadRect) (spA arg12 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => RX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 1536 0 (by decide) (inv0_A c arg2 harg2 arg3 harg3 arg4 harg4 arg5 harg5 arg12 x0 x1 x2 x3 hx) (arg12.view.readCov (kernelRun0_A.sl.HS1_1 (F := Ideal) ) (Rect.unit (s := S128x2048) ![0, 1536] S128x256.size (by decide)).toLoadRect) (spA arg12 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => RX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 1280 0 (by decide) (inv0_A c arg2 harg2 arg3 harg3 arg4 harg4 arg5 harg5 arg12 x0 x1 x2 x3 hx) (arg12.view.readCov (kernelRun0_A.sl.HS1_1 (F := Ideal) ) (Rect.unit (s := S128x2048) ![0, 1280] S128x256.size (by decide)).toLoadRect) (spA arg12 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => RX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 1024 0 (by decide) (inv0_A c arg2 harg2 arg3 harg3 arg4 harg4 arg5 harg5 arg12 x0 x1 x2 x3 hx) (arg12.view.readCov (kernelRun0_A.sl.HS1_1 (F := Ideal) ) (Rect.unit (s := S128x2048) ![0, 1024] S128x256.size (by decide)).toLoadRect) (spA arg12 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => RX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 768 0 (by decide) (inv0_A c arg2 harg2 arg3 harg3 arg4 harg4 arg5 harg5 arg12 x0 x1 x2 x3 hx) (arg12.view.readCov (kernelRun0_A.sl.HS1_1 (F := Ideal) ) (Rect.unit (s := S128x2048) ![0, 768] S128x256.size (by decide)).toLoadRect) (spA arg12 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => RX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 512 0 (by decide) (inv0_A c arg2 harg2 arg3 harg3 arg4 harg4 arg5 harg5 arg12 x0 x1 x2 x3 hx) (arg12.view.readCov (kernelRun0_A.sl.HS1_1 (F := Ideal) ) (Rect.unit (s := S128x2048) ![0, 512] S128x256.size (by decide)).toLoadRect) (spA arg12 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => RX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 256 0 (by decide) (inv0_A c arg2 harg2 arg3 harg3 arg4 harg4 arg5 harg5 arg12 x0 x1 x2 x3 hx) (arg12.view.readCov (kernelRun0_A.sl.HS1_1 (F := Ideal) ) (Rect.unit (s := S128x2048) ![0, 256] S128x256.size (by decide)).toLoadRect) (spA arg12 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => RX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 0 0 (by decide) (inv0_A c arg2 harg2 arg3 harg3 arg4 harg4 arg5 harg5 arg12 x0 x1 x2 x3 hx) (arg12.view.readCov (kernelRun0_A.sl.HS1_1 (F := Ideal) ) (Rect.unit (s := S128x2048) ![0, 0] S128x256.size (by decide)).toLoadRect) (spA arg12 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.nil

include hx in
theorem L4_ok_A (i : grid0.Coords) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (harg11 : arg11.IsWhole) (harg13 : arg13.IsWhole) (arg14 : Memref sig .tc .vmem S4x16x128 .f32) (harg14 : arg14.IsWhole) (harg15 : arg15.IsWhole) (hc0 : cond0_0 i) :
    Ok (e := .bf16) (rr (wI x0 x1 x2 x3)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3).1 :=
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 1792 3 (by decide) (inv3_A c arg2 harg2 arg3 harg3 arg4 harg4 arg5 harg5 arg12 x0 x1 x2 x3 hx) (scl3_A c arg2 harg2 arg3 harg3 arg4 harg4 arg5 harg5 arg12 x0 x1 x2 x3 hx) (arg12.view.readCov (kernelRun0_A.sl.HS1_1 (F := Ideal) ) (Rect.unit (s := S128x2048) ![0, 1792] S128x256.size (by decide)).toLoadRect) (spA arg12 1792 (by decide)) (by decide) ⟨_, List.mem_cons_self, by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 1536 3 (by decide) (inv3_A c arg2 harg2 arg3 harg3 arg4 harg4 arg5 harg5 arg12 x0 x1 x2 x3 hx) (scl3_A c arg2 harg2 arg3 harg3 arg4 harg4 arg5 harg5 arg12 x0 x1 x2 x3 hx) (arg12.view.readCov (kernelRun0_A.sl.HS1_1 (F := Ideal) ) (Rect.unit (s := S128x2048) ![0, 1536] S128x256.size (by decide)).toLoadRect) (spA arg12 1536 (by decide)) (by decide) ⟨_, (List.mem_cons_of_mem _ List.mem_cons_self), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 1280 3 (by decide) (inv3_A c arg2 harg2 arg3 harg3 arg4 harg4 arg5 harg5 arg12 x0 x1 x2 x3 hx) (scl3_A c arg2 harg2 arg3 harg3 arg4 harg4 arg5 harg5 arg12 x0 x1 x2 x3 hx) (arg12.view.readCov (kernelRun0_A.sl.HS1_1 (F := Ideal) ) (Rect.unit (s := S128x2048) ![0, 1280] S128x256.size (by decide)).toLoadRect) (spA arg12 1280 (by decide)) (by decide) ⟨_, (List.mem_cons_of_mem _ (List.mem_cons_of_mem _ List.mem_cons_self)), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 1024 3 (by decide) (inv3_A c arg2 harg2 arg3 harg3 arg4 harg4 arg5 harg5 arg12 x0 x1 x2 x3 hx) (scl3_A c arg2 harg2 arg3 harg3 arg4 harg4 arg5 harg5 arg12 x0 x1 x2 x3 hx) (arg12.view.readCov (kernelRun0_A.sl.HS1_1 (F := Ideal) ) (Rect.unit (s := S128x2048) ![0, 1024] S128x256.size (by decide)).toLoadRect) (spA arg12 1024 (by decide)) (by decide) ⟨_, (List.mem_cons_of_mem _ (List.mem_cons_of_mem _ (List.mem_cons_of_mem _ List.mem_cons_self))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 768 3 (by decide) (inv3_A c arg2 harg2 arg3 harg3 arg4 harg4 arg5 harg5 arg12 x0 x1 x2 x3 hx) (scl3_A c arg2 harg2 arg3 harg3 arg4 harg4 arg5 harg5 arg12 x0 x1 x2 x3 hx) (arg12.view.readCov (kernelRun0_A.sl.HS1_1 (F := Ideal) ) (Rect.unit (s := S128x2048) ![0, 768] S128x256.size (by decide)).toLoadRect) (spA arg12 768 (by decide)) (by decide) ⟨_, (List.mem_cons_of_mem _ (List.mem_cons_of_mem _ (List.mem_cons_of_mem _ (List.mem_cons_of_mem _ List.mem_cons_self)))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 512 3 (by decide) (inv3_A c arg2 harg2 arg3 harg3 arg4 harg4 arg5 harg5 arg12 x0 x1 x2 x3 hx) (scl3_A c arg2 harg2 arg3 harg3 arg4 harg4 arg5 harg5 arg12 x0 x1 x2 x3 hx) (arg12.view.readCov (kernelRun0_A.sl.HS1_1 (F := Ideal) ) (Rect.unit (s := S128x2048) ![0, 512] S128x256.size (by decide)).toLoadRect) (spA arg12 512 (by decide)) (by decide) ⟨_, (List.mem_cons_of_mem _ (List.mem_cons_of_mem _ (List.mem_cons_of_mem _ (List.mem_cons_of_mem _ (List.mem_cons_of_mem _ List.mem_cons_self))))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 256 3 (by decide) (inv3_A c arg2 harg2 arg3 harg3 arg4 harg4 arg5 harg5 arg12 x0 x1 x2 x3 hx) (scl3_A c arg2 harg2 arg3 harg3 arg4 harg4 arg5 harg5 arg12 x0 x1 x2 x3 hx) (arg12.view.readCov (kernelRun0_A.sl.HS1_1 (F := Ideal) ) (Rect.unit (s := S128x2048) ![0, 256] S128x256.size (by decide)).toLoadRect) (spA arg12 256 (by decide)) (by decide) ⟨_, (List.mem_cons_of_mem _ (List.mem_cons_of_mem _ (List.mem_cons_of_mem _ (List.mem_cons_of_mem _ (List.mem_cons_of_mem _ (List.mem_cons_of_mem _ List.mem_cons_self)))))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 384 0 3 (by decide) (inv3_A c arg2 harg2 arg3 harg3 arg4 harg4 arg5 harg5 arg12 x0 x1 x2 x3 hx) (scl3_A c arg2 harg2 arg3 harg3 arg4 harg4 arg5 harg5 arg12 x0 x1 x2 x3 hx) (arg12.view.readCov (kernelRun0_A.sl.HS1_1 (F := Ideal) ) (Rect.unit (s := S128x2048) ![0, 0] S128x256.size (by decide)).toLoadRect) (spA arg12 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ List.mem_cons_self))))))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 1792 2 (by decide) (inv2_A c arg2 harg2 arg3 harg3 arg4 harg4 arg5 harg5 arg12 x0 x1 x2 x3 hx) (scl2_A c arg2 harg2 arg3 harg3 arg4 harg4 arg5 harg5 arg12 x0 x1 x2 x3 hx) (arg12.view.readCov (kernelRun0_A.sl.HS1_1 (F := Ideal) ) (Rect.unit (s := S128x2048) ![0, 1792] S128x256.size (by decide)).toLoadRect) (spA arg12 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 1536 2 (by decide) (inv2_A c arg2 harg2 arg3 harg3 arg4 harg4 arg5 harg5 arg12 x0 x1 x2 x3 hx) (scl2_A c arg2 harg2 arg3 harg3 arg4 harg4 arg5 harg5 arg12 x0 x1 x2 x3 hx) (arg12.view.readCov (kernelRun0_A.sl.HS1_1 (F := Ideal) ) (Rect.unit (s := S128x2048) ![0, 1536] S128x256.size (by decide)).toLoadRect) (spA arg12 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 1280 2 (by decide) (inv2_A c arg2 harg2 arg3 harg3 arg4 harg4 arg5 harg5 arg12 x0 x1 x2 x3 hx) (scl2_A c arg2 harg2 arg3 harg3 arg4 harg4 arg5 harg5 arg12 x0 x1 x2 x3 hx) (arg12.view.readCov (kernelRun0_A.sl.HS1_1 (F := Ideal) ) (Rect.unit (s := S128x2048) ![0, 1280] S128x256.size (by decide)).toLoadRect) (spA arg12 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 1024 2 (by decide) (inv2_A c arg2 harg2 arg3 harg3 arg4 harg4 arg5 harg5 arg12 x0 x1 x2 x3 hx) (scl2_A c arg2 harg2 arg3 harg3 arg4 harg4 arg5 harg5 arg12 x0 x1 x2 x3 hx) (arg12.view.readCov (kernelRun0_A.sl.HS1_1 (F := Ideal) ) (Rect.unit (s := S128x2048) ![0, 1024] S128x256.size (by decide)).toLoadRect) (spA arg12 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 768 2 (by decide) (inv2_A c arg2 harg2 arg3 harg3 arg4 harg4 arg5 harg5 arg12 x0 x1 x2 x3 hx) (scl2_A c arg2 harg2 arg3 harg3 arg4 harg4 arg5 harg5 arg12 x0 x1 x2 x3 hx) (arg12.view.readCov (kernelRun0_A.sl.HS1_1 (F := Ideal) ) (Rect.unit (s := S128x2048) ![0, 768] S128x256.size (by decide)).toLoadRect) (spA arg12 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 512 2 (by decide) (inv2_A c arg2 harg2 arg3 harg3 arg4 harg4 arg5 harg5 arg12 x0 x1 x2 x3 hx) (scl2_A c arg2 harg2 arg3 harg3 arg4 harg4 arg5 harg5 arg12 x0 x1 x2 x3 hx) (arg12.view.readCov (kernelRun0_A.sl.HS1_1 (F := Ideal) ) (Rect.unit (s := S128x2048) ![0, 512] S128x256.size (by decide)).toLoadRect) (spA arg12 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 256 2 (by decide) (inv2_A c arg2 harg2 arg3 harg3 arg4 harg4 arg5 harg5 arg12 x0 x1 x2 x3 hx) (scl2_A c arg2 harg2 arg3 harg3 arg4 harg4 arg5 harg5 arg12 x0 x1 x2 x3 hx) (arg12.view.readCov (kernelRun0_A.sl.HS1_1 (F := Ideal) ) (Rect.unit (s := S128x2048) ![0, 256] S128x256.size (by decide)).toLoadRect) (spA arg12 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => DX arg11 (wI x0 x1 x2 x3) (kernelRun0_A.sl.HS0_32 (F := Ideal) c arg2 harg2 arg3 harg3 arg4 harg4 arg5 harg5 arg12 x0 x1 x2 x3) (HS0_32_ok_A c arg2 harg2 arg3 harg3 arg4 harg4 arg5 harg5 arg12 x0 x1 x2 x3 hx) 256 0 2 (by decide) (inv2_A c arg2 harg2 arg3 harg3 arg4 harg4 arg5 harg5 arg12 x0 x1 x2 x3 hx) (scl2_A c arg2 harg2 arg3 harg3 arg4 harg4 arg5 harg5 arg12 x0 x1 x2 x3 hx) (arg12.view.readCov (kernelRun0_A.sl.HS1_1 (F := Ideal) ) (Rect.unit (s := S128x2048) ![0, 0] S128x256.size (by decide)).toLoadRect) (spA arg12 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.cons (fun x => DX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 1792 1 (by decide) (inv1_A c arg2 harg2 arg3 harg3 arg4 harg4 arg5 harg5 arg12 x0 x1 x2 x3 hx) (scl1_A c arg2 harg2 arg3 harg3 arg4 harg4 arg5 harg5 arg12 x0 x1 x2 x3 hx) (arg12.view.readCov (kernelRun0_A.sl.HS1_1 (F := Ideal) ) (Rect.unit (s := S128x2048) ![0, 1792] S128x256.size (by decide)).toLoadRect) (spA arg12 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => DX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 1536 1 (by decide) (inv1_A c arg2 harg2 arg3 harg3 arg4 harg4 arg5 harg5 arg12 x0 x1 x2 x3 hx) (scl1_A c arg2 harg2 arg3 harg3 arg4 harg4 arg5 harg5 arg12 x0 x1 x2 x3 hx) (arg12.view.readCov (kernelRun0_A.sl.HS1_1 (F := Ideal) ) (Rect.unit (s := S128x2048) ![0, 1536] S128x256.size (by decide)).toLoadRect) (spA arg12 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => DX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 1280 1 (by decide) (inv1_A c arg2 harg2 arg3 harg3 arg4 harg4 arg5 harg5 arg12 x0 x1 x2 x3 hx) (scl1_A c arg2 harg2 arg3 harg3 arg4 harg4 arg5 harg5 arg12 x0 x1 x2 x3 hx) (arg12.view.readCov (kernelRun0_A.sl.HS1_1 (F := Ideal) ) (Rect.unit (s := S128x2048) ![0, 1280] S128x256.size (by decide)).toLoadRect) (spA arg12 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => DX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 1024 1 (by decide) (inv1_A c arg2 harg2 arg3 harg3 arg4 harg4 arg5 harg5 arg12 x0 x1 x2 x3 hx) (scl1_A c arg2 harg2 arg3 harg3 arg4 harg4 arg5 harg5 arg12 x0 x1 x2 x3 hx) (arg12.view.readCov (kernelRun0_A.sl.HS1_1 (F := Ideal) ) (Rect.unit (s := S128x2048) ![0, 1024] S128x256.size (by decide)).toLoadRect) (spA arg12 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => DX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 768 1 (by decide) (inv1_A c arg2 harg2 arg3 harg3 arg4 harg4 arg5 harg5 arg12 x0 x1 x2 x3 hx) (scl1_A c arg2 harg2 arg3 harg3 arg4 harg4 arg5 harg5 arg12 x0 x1 x2 x3 hx) (arg12.view.readCov (kernelRun0_A.sl.HS1_1 (F := Ideal) ) (Rect.unit (s := S128x2048) ![0, 768] S128x256.size (by decide)).toLoadRect) (spA arg12 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => DX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 512 1 (by decide) (inv1_A c arg2 harg2 arg3 harg3 arg4 harg4 arg5 harg5 arg12 x0 x1 x2 x3 hx) (scl1_A c arg2 harg2 arg3 harg3 arg4 harg4 arg5 harg5 arg12 x0 x1 x2 x3 hx) (arg12.view.readCov (kernelRun0_A.sl.HS1_1 (F := Ideal) ) (Rect.unit (s := S128x2048) ![0, 512] S128x256.size (by decide)).toLoadRect) (spA arg12 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => DX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 256 1 (by decide) (inv1_A c arg2 harg2 arg3 harg3 arg4 harg4 arg5 harg5 arg12 x0 x1 x2 x3 hx) (scl1_A c arg2 harg2 arg3 harg3 arg4 harg4 arg5 harg5 arg12 x0 x1 x2 x3 hx) (arg12.view.readCov (kernelRun0_A.sl.HS1_1 (F := Ideal) ) (Rect.unit (s := S128x2048) ![0, 256] S128x256.size (by decide)).toLoadRect) (spA arg12 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => DX arg11 (wI x0 x1 x2 x3) (kernelRun0_A.sl.HS0_24 (F := Ideal) c arg2 harg2 arg3 harg3 arg4 harg4 arg5 harg5 arg12 x0 x1 x2 x3) (HS0_24_ok_A c arg2 harg2 arg3 harg3 arg4 harg4 arg5 harg5 arg12 x0 x1 x2 x3 hx) 128 0 1 (by decide) (inv1_A c arg2 harg2 arg3 harg3 arg4 harg4 arg5 harg5 arg12 x0 x1 x2 x3 hx) (scl1_A c arg2 harg2 arg3 harg3 arg4 harg4 arg5 harg5 arg12 x0 x1 x2 x3 hx) (arg12.view.readCov (kernelRun0_A.sl.HS1_1 (F := Ideal) ) (Rect.unit (s := S128x2048) ![0, 0] S128x256.size (by decide)).toLoadRect) (spA arg12 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.cons (fun x => DX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 1792 0 (by decide) (inv0_A c arg2 harg2 arg3 harg3 arg4 harg4 arg5 harg5 arg12 x0 x1 x2 x3 hx) (scl0_A c arg2 harg2 arg3 harg3 arg4 harg4 arg5 harg5 arg12 x0 x1 x2 x3 hx) (arg12.view.readCov (kernelRun0_A.sl.HS1_1 (F := Ideal) ) (Rect.unit (s := S128x2048) ![0, 1792] S128x256.size (by decide)).toLoadRect) (spA arg12 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => DX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 1536 0 (by decide) (inv0_A c arg2 harg2 arg3 harg3 arg4 harg4 arg5 harg5 arg12 x0 x1 x2 x3 hx) (scl0_A c arg2 harg2 arg3 harg3 arg4 harg4 arg5 harg5 arg12 x0 x1 x2 x3 hx) (arg12.view.readCov (kernelRun0_A.sl.HS1_1 (F := Ideal) ) (Rect.unit (s := S128x2048) ![0, 1536] S128x256.size (by decide)).toLoadRect) (spA arg12 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => DX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 1280 0 (by decide) (inv0_A c arg2 harg2 arg3 harg3 arg4 harg4 arg5 harg5 arg12 x0 x1 x2 x3 hx) (scl0_A c arg2 harg2 arg3 harg3 arg4 harg4 arg5 harg5 arg12 x0 x1 x2 x3 hx) (arg12.view.readCov (kernelRun0_A.sl.HS1_1 (F := Ideal) ) (Rect.unit (s := S128x2048) ![0, 1280] S128x256.size (by decide)).toLoadRect) (spA arg12 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => DX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 1024 0 (by decide) (inv0_A c arg2 harg2 arg3 harg3 arg4 harg4 arg5 harg5 arg12 x0 x1 x2 x3 hx) (scl0_A c arg2 harg2 arg3 harg3 arg4 harg4 arg5 harg5 arg12 x0 x1 x2 x3 hx) (arg12.view.readCov (kernelRun0_A.sl.HS1_1 (F := Ideal) ) (Rect.unit (s := S128x2048) ![0, 1024] S128x256.size (by decide)).toLoadRect) (spA arg12 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => DX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 768 0 (by decide) (inv0_A c arg2 harg2 arg3 harg3 arg4 harg4 arg5 harg5 arg12 x0 x1 x2 x3 hx) (scl0_A c arg2 harg2 arg3 harg3 arg4 harg4 arg5 harg5 arg12 x0 x1 x2 x3 hx) (arg12.view.readCov (kernelRun0_A.sl.HS1_1 (F := Ideal) ) (Rect.unit (s := S128x2048) ![0, 768] S128x256.size (by decide)).toLoadRect) (spA arg12 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => DX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 512 0 (by decide) (inv0_A c arg2 harg2 arg3 harg3 arg4 harg4 arg5 harg5 arg12 x0 x1 x2 x3 hx) (scl0_A c arg2 harg2 arg3 harg3 arg4 harg4 arg5 harg5 arg12 x0 x1 x2 x3 hx) (arg12.view.readCov (kernelRun0_A.sl.HS1_1 (F := Ideal) ) (Rect.unit (s := S128x2048) ![0, 512] S128x256.size (by decide)).toLoadRect) (spA arg12 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => DX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 256 0 (by decide) (inv0_A c arg2 harg2 arg3 harg3 arg4 harg4 arg5 harg5 arg12 x0 x1 x2 x3 hx) (scl0_A c arg2 harg2 arg3 harg3 arg4 harg4 arg5 harg5 arg12 x0 x1 x2 x3 hx) (arg12.view.readCov (kernelRun0_A.sl.HS1_1 (F := Ideal) ) (Rect.unit (s := S128x2048) ![0, 256] S128x256.size (by decide)).toLoadRect) (spA arg12 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => DX arg11 (wI x0 x1 x2 x3) (kernelRun0_A.sl.HS0_16 (F := Ideal) c arg2 harg2 arg3 harg3 arg4 harg4 arg5 harg5 arg12 x0 x1 x2 x3) (HS0_16_ok_A c arg2 harg2 arg3 harg3 arg4 harg4 arg5 harg5 arg12 x0 x1 x2 x3 hx) 0 0 0 (by decide) (inv0_A c arg2 harg2 arg3 harg3 arg4 harg4 arg5 harg5 arg12 x0 x1 x2 x3 hx) (scl0_A c arg2 harg2 arg3 harg3 arg4 harg4 arg5 harg5 arg12 x0 x1 x2 x3 hx) (arg12.view.readCov (kernelRun0_A.sl.HS1_1 (F := Ideal) ) (Rect.unit (s := S128x2048) ![0, 0] S128x256.size (by decide)).toLoadRect) (spA arg12 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.nil

end CaseA

end Cert.KernelIdeal.Run
-- ==== Proof.KPiecesB.lean ====
module

public import proofs.«01_k».proof.Proof.KList
public import proofs.«01_k».proof.Proof.KRunB
import all proofs.«01_k».proof.Proof.KRunB

/-! The pieces the ideal kernel stores in case B agree with the block functions. -/

@[expose] public section

set_option maxRecDepth 100000
set_option maxHeartbeats 4000000

noncomputable section

namespace Cert.KernelIdeal.Run

open Idealize.ShloMosaic Idealize.ShloMosaic.ValueIdx Cert.KernelIdeal Cert.KernelIdeal.Gen Cert.Quant

section CaseB

variable (c : Dev nD) (arg2 : Memref sig .tc .vmem S512x2048 .fp8e4m3) (harg2 : arg2.IsWhole) (arg3 : Memref sig .tc .vmem S1x16x512 .f32) (harg3 : arg3.IsWhole)
  (arg4 : Memref sig .tc .vmem S512x2048 .bf16) (harg4 : arg4.IsWhole) (arg5 : Memref sig .tc .vmem S512x2048 .f32) (harg5 : arg5.IsWhole)
  (arg11 : Memref sig .tc .vmem S512x2048 .f32) (arg12 : Memref sig .tc .vmem S128x2048 .bf16) (harg12 : arg12.IsWhole)
  (arg13 arg15 : Memref sig .tc .vmem S4x16x128 .f32)
  (x0 : Vec Ideal S512x2048 .fp8e4m3) (x1 : Vec Ideal S1x16x512 .f32) (x2 : Vec Ideal S512x2048 .bf16) (x3 : Vec Ideal S512x2048 .f32)
  (xs1 : Vec Ideal S128x2048 .bf16) (hx : ∀ i, x1 i ≠ ⊤ ∧ x1 i ≠ ⊥) (hxs : ∀ (k : Fin 128) (c : Fin 2048), xs1 (ix2 k c) = spreadI k c)

include hx hxs in
theorem HS0_16_ok_B : Ok (e := .f32) (wI x0 x1 x2 x3) (kernelRun0_B.sl.HS0_16 (F := Ideal) c arg2 harg2 arg3 harg3 arg4 harg4 arg5 harg5 arg12 harg12 x0 x1 x2 x3 xs1) :=
  Ok.cons (fun x => WX arg2 harg2 arg3 harg3 arg4 harg4 arg5 harg5 x0 x1 x2 x3 hx (ld arg12 harg12 xs1 (Rect.unit (s := S128x2048) ![0, 1792] S128x256.size (by decide))) 128 1792 (spB arg12 harg12 xs1 hxs 1792 (by decide)) (by decide) (by decide) x) <|
  Ok.cons (fun x => WX arg2 harg2 arg3 harg3 arg4 harg4 arg5 harg5 x0 x1 x2 x3 hx (ld arg12 harg12 xs1 (Rect.unit (s := S128x2048) ![0, 1536] S128x256.size (by decide))) 128 1536 (spB arg12 harg12 xs1 hxs 1536 (by decide)) (by decide) (by decide) x) <|
  Ok.cons (fun x => WX arg2 harg2 arg3 harg3 arg4 harg4 arg5 harg5 x0 x1 x2 x3 hx (ld arg12 harg12 xs1 (Rect.unit (s := S128x2048) ![0, 1280] S128x256.size (by decide))) 128 1280 (spB arg12 harg12 xs1 hxs 1280 (by decide)) (by decide) (by decide) x) <|
  Ok.cons (fun x => WX arg2 harg2 arg3 harg3 arg4 harg4 arg5 harg5 x0 x1 x2 x3 hx (ld arg12 harg12 xs1 (Rect.unit (s := S128x2048) ![0, 1024] S128x256.size (by decide))) 128 1024 (spB arg12 harg12 xs1 hxs 1024 (by decide)) (by decide) (by decide) x) <|
  Ok.cons (fun x => WX arg2 harg2 arg3 harg3 arg4 harg4 arg5 harg5 x0 x1 x2 x3 hx (ld arg12 harg12 xs1 (Rect.unit (s := S128x2048) ![0, 768] S128x256.size (by decide))) 128 768 (spB arg12 harg12 xs1 hxs 768 (by decide)) (by decide) (by decide) x) <|
  Ok.cons (fun x => WX arg2 harg2 arg3 harg3 arg4 harg4 arg5 harg5 x0 x1 x2 x3 hx (ld arg12 harg12 xs1 (Rect.unit (s := S128x2048) ![0, 512] S128x256.size (by decide))) 128 512 (spB arg12 harg12 xs1 hxs 512 (by decide)) (by decide) (by decide) x) <|
  Ok.cons (fun x => WX arg2 harg2 arg3 harg3 arg4 harg4 arg5 harg5 x0 x1 x2 x3 hx (ld arg12 harg12 xs1 (Rect.unit (s := S128x2048) ![0, 256] S128x256.size (by decide))) 128 256 (spB arg12 harg12 xs1 hxs 256 (by decide)) (by decide) (by decide) x) <|
  Ok.cons (fun x => WX arg2 harg2 arg3 harg3 arg4 harg4 arg5 harg5 x0 x1 x2 x3 hx (ld arg12 harg12 xs1 (Rect.unit (s := S128x2048) ![0, 0] S128x256.size (by decide))) 128 0 (spB arg12 harg12 xs1 hxs 0 (by decide)) (by decide) (by decide) x) <|
  Ok.cons (fun x => WX arg2 harg2 arg3 harg3 arg4 harg4 arg5 harg5 x0 x1 x2 x3 hx (ld arg12 harg12 xs1 (Rect.unit (s := S128x2048) ![0, 1792] S128x256.size (by decide))) 0 1792 (spB arg12 harg12 xs1 hxs 1792 (by decide)) (by decide) (by decide) x) <|
  Ok.cons (fun x => WX arg2 harg2 arg3 harg3 arg4 harg4 arg5 harg5 x0 x1 x2 x3 hx (ld arg12 harg12 xs1 (Rect.unit (s := S128x2048) ![0, 1536] S128x256.size (by decide))) 0 1536 (spB arg12 harg12 xs1 hxs 1536 (by decide)) (by decide) (by decide) x) <|
  Ok.cons (fun x => WX arg2 harg2 arg3 harg3 arg4 harg4 arg5 harg5 x0 x1 x2 x3 hx (ld arg12 harg12 xs1 (Rect.unit (s := S128x2048) ![0, 1280] S128x256.size (by decide))) 0 1280 (spB arg12 harg12 xs1 hxs 1280 (by decide)) (by decide) (by decide) x) <|
  Ok.cons (fun x => WX arg2 harg2 arg3 harg3 arg4 harg4 arg5 harg5 x0 x1 x2 x3 hx (ld arg12 harg12 xs1 (Rect.unit (s := S128x2048) ![0, 1024] S128x256.size (by decide))) 0 1024 (spB arg12 harg12 xs1 hxs 1024 (by decide)) (by decide) (by decide) x) <|
  Ok.cons (fun x => WX arg2 harg2 arg3 harg3 arg4 harg4 arg5 harg5 x0 x1 x2 x3 hx (ld arg12 harg12 xs1 (Rect.unit (s := S128x2048) ![0, 768] S128x256.size (by decide))) 0 768 (spB arg12 harg12 xs1 hxs 768 (by decide)) (by decide) (by decide) x) <|
  Ok.cons (fun x => WX arg2 harg2 arg3 harg3 arg4 harg4 arg5 harg5 x0 x1 x2 x3 hx (ld arg12 harg12 xs1 (Rect.unit (s := S128x2048) ![0, 512] S128x256.size (by decide))) 0 512 (spB arg12 harg12 xs1 hxs 512 (by decide)) (by decide) (by decide) x) <|
  Ok.cons (fun x => WX arg2 harg2 arg3 harg3 arg4 harg4 arg5 harg5 x0 x1 x2 x3 hx (ld arg12 harg12 xs1 (Rect.unit (s := S128x2048) ![0, 256] S128x256.size (by decide))) 0 256 (spB arg12 harg12 xs1 hxs 256 (by decide)) (by decide) (by decide) x) <|
  Ok.cons (fun x => WX arg2 harg2 arg3 harg3 arg4 harg4 arg5 harg5 x0 x1 x2 x3 hx (ld arg12 harg12 xs1 (Rect.unit (s := S128x2048) ![0, 0] S128x256.size (by decide))) 0 0 (spB arg12 harg12 xs1 hxs 0 (by decide)) (by decide) (by decide) x) <|
  Ok.nil

include hx hxs in
theorem HS0_24_ok_B : Ok (e := .f32) (wI x0 x1 x2 x3) (kernelRun0_B.sl.HS0_24 (F := Ideal) c arg2 harg2 arg3 harg3 arg4 harg4 arg5 harg5 arg12 harg12 x0 x1 x2 x3 xs1) :=
  Ok.cons (fun x => WX arg2 harg2 arg3 harg3 arg4 harg4 arg5 harg5 x0 x1 x2 x3 hx (ld arg12 harg12 xs1 (Rect.unit (s := S128x2048) ![0, 1792] S128x256.size (by decide))) 256 1792 (spB arg12 harg12 xs1 hxs 1792 (by decide)) (by decide) (by decide) x) <|
  Ok.cons (fun x => WX arg2 harg2 arg3 harg3 arg4 harg4 arg5 harg5 x0 x1 x2 x3 hx (ld arg12 harg12 xs1 (Rect.unit (s := S128x2048) ![0, 1536] S128x256.size (by decide))) 256 1536 (spB arg12 harg12 xs1 hxs 1536 (by decide)) (by decide) (by decide) x) <|
  Ok.cons (fun x => WX arg2 harg2 arg3 harg3 arg4 harg4 arg5 harg5 x0 x1 x2 x3 hx (ld arg12 harg12 xs1 (Rect.unit (s := S128x2048) ![0, 1280] S128x256.size (by decide))) 256 1280 (spB arg12 harg12 xs1 hxs 1280 (by decide)) (by decide) (by decide) x) <|
  Ok.cons (fun x => WX arg2 harg2 arg3 harg3 arg4 harg4 arg5 harg5 x0 x1 x2 x3 hx (ld arg12 harg12 xs1 (Rect.unit (s := S128x2048) ![0, 1024] S128x256.size (by decide))) 256 1024 (spB arg12 harg12 xs1 hxs 1024 (by decide)) (by decide) (by decide) x) <|
  Ok.cons (fun x => WX arg2 harg2 arg3 harg3 arg4 harg4 arg5 harg5 x0 x1 x2 x3 hx (ld arg12 harg12 xs1 (Rect.unit (s := S128x2048) ![0, 768] S128x256.size (by decide))) 256 768 (spB arg12 harg12 xs1 hxs 768 (by decide)) (by decide) (by decide) x) <|
  Ok.cons (fun x => WX arg2 harg2 arg3 harg3 arg4 harg4 arg5 harg5 x0 x1 x2 x3 hx (ld arg12 harg12 xs1 (Rect.unit (s := S128x2048) ![0, 512] S128x256.size (by decide))) 256 512 (spB arg12 harg12 xs1 hxs 512 (by decide)) (by decide) (by decide) x) <|
  Ok.cons (fun x => WX arg2 harg2 arg3 harg3 arg4 harg4 arg5 harg5 x0 x1 x2 x3 hx (ld arg12 harg12 xs1 (Rect.unit (s := S128x2048) ![0, 256] S128x256.size (by decide))) 256 256 (spB arg12 harg12 xs1 hxs 256 (by decide)) (by decide) (by decide) x) <|
  Ok.cons (fun x => WX arg2 harg2 arg3 harg3 arg4 harg4 arg5 harg5 x0 x1 x2 x3 hx (ld arg12 harg12 xs1 (Rect.unit (s := S128x2048) ![0, 0] S128x256.size (by decide))) 256 0 (spB arg12 harg12 xs1 hxs 0 (by decide)) (by decide) (by decide) x) <|
  (HS0_16_ok_B c arg2 harg2 arg3 harg3 arg4 harg4 arg5 harg5 arg12 harg12 x0 x1 x2 x3 xs1 hx hxs)

include hx hxs in
theorem HS0_32_ok_B : Ok (e := .f32) (wI x0 x1 x2 x3) (kernelRun0_B.sl.HS0_32 (F := Ideal) c arg2 harg2 arg3 harg3 arg4 harg4 arg5 harg5 arg12 harg12 x0 x1 x2 x3 xs1) :=
  Ok.cons (fun x => WX arg2 harg2 arg3 harg3 arg4 harg4 arg5 harg5 x0 x1 x2 x3 hx (ld arg12 harg12 xs1 (Rect.unit (s := S128x2048) ![0, 1792] S128x256.size (by decide))) 384 1792 (spB arg12 harg12 xs1 hxs 1792 (by decide)) (by decide) (by decide) x) <|
  Ok.cons (fun x => WX arg2 harg2 arg3 harg3 arg4 harg4 arg5 harg5 x0 x1 x2 x3 hx (ld arg12 harg12 xs1 (Rect.unit (s := S128x2048) ![0, 1536] S128x256.size (by decide))) 384 1536 (spB arg12 harg12 xs1 hxs 1536 (by decide)) (by decide) (by decide) x) <|
  Ok.cons (fun x => WX arg2 harg2 arg3 harg3 arg4 harg4 arg5 harg5 x0 x1 x2 x3 hx (ld arg12 harg12 xs1 (Rect.unit (s := S128x2048) ![0, 1280] S128x256.size (by decide))) 384 1280 (spB arg12 harg12 xs1 hxs 1280 (by decide)) (by decide) (by decide) x) <|
  Ok.cons (fun x => WX arg2 harg2 arg3 harg3 arg4 harg4 arg5 harg5 x0 x1 x2 x3 hx (ld arg12 harg12 xs1 (Rect.unit (s := S128x2048) ![0, 1024] S128x256.size (by decide))) 384 1024 (spB arg12 harg12 xs1 hxs 1024 (by decide)) (by decide) (by decide) x) <|
  Ok.cons (fun x => WX arg2 harg2 arg3 harg3 arg4 harg4 arg5 harg5 x0 x1 x2 x3 hx (ld arg12 harg12 xs1 (Rect.unit (s := S128x2048) ![0, 768] S128x256.size (by decide))) 384 768 (spB arg12 harg12 xs1 hxs 768 (by decide)) (by decide) (by decide) x) <|
  Ok.cons (fun x => WX arg2 harg2 arg3 harg3 arg4 harg4 arg5 harg5 x0 x1 x2 x3 hx (ld arg12 harg12 xs1 (Rect.unit (s := S128x2048) ![0, 512] S128x256.size (by decide))) 384 512 (spB arg12 harg12 xs1 hxs 512 (by decide)) (by decide) (by decide) x) <|
  Ok.cons (fun x => WX arg2 harg2 arg3 harg3 arg4 harg4 arg5 harg5 x0 x1 x2 x3 hx (ld arg12 harg12 xs1 (Rect.unit (s := S128x2048) ![0, 256] S128x256.size (by decide))) 384 256 (spB arg12 harg12 xs1 hxs 256 (by decide)) (by decide) (by decide) x) <|
  Ok.cons (fun x => WX arg2 harg2 arg3 harg3 arg4 harg4 arg5 harg5 x0 x1 x2 x3 hx (ld arg12 harg12 xs1 (Rect.unit (s := S128x2048) ![0, 0] S128x256.size (by decide))) 384 0 (spB arg12 harg12 xs1 hxs 0 (by decide)) (by decide) (by decide) x) <|
  (HS0_24_ok_B c arg2 harg2 arg3 harg3 arg4 harg4 arg5 harg5 arg12 harg12 x0 x1 x2 x3 xs1 hx hxs)

include hx hxs in
theorem HS2_16_ok_B : Ok (e := .f32) (gm (wI x0 x1 x2 x3)) (kernelRun0_B.sl.HS2_16 (F := Ideal) c arg2 harg2 arg3 harg3 arg4 harg4 arg5 harg5 arg12 harg12 x0 x1 x2 x3 xs1) :=
  Ok.cons (fun x => CX1 arg2 harg2 arg3 harg3 arg4 harg4 arg5 harg5 x0 x1 x2 x3 hx (ld arg12 harg12 xs1 (Rect.unit (s := S128x2048) ![0, 1792] S128x256.size (by decide))) 0 1792 (spB arg12 harg12 xs1 hxs 1792 (by decide)) (by decide) (by decide) 0 15 (by omega) (by omega) (by decide) x) <|
  Ok.cons (fun x => CX0 arg2 harg2 arg3 harg3 arg4 harg4 arg5 harg5 x0 x1 x2 x3 hx (ld arg12 harg12 xs1 (Rect.unit (s := S128x2048) ![0, 1792] S128x256.size (by decide))) 0 1792 (spB arg12 harg12 xs1 hxs 1792 (by decide)) (by decide) (by decide) 0 14 (by omega) (by omega) (by decide) x) <|
  Ok.cons (fun x => CX1 arg2 harg2 arg3 harg3 arg4 harg4 arg5 harg5 x0 x1 x2 x3 hx (ld arg12 harg12 xs1 (Rect.unit (s := S128x2048) ![0, 1536] S128x256.size (by decide))) 0 1536 (spB arg12 harg12 xs1 hxs 1536 (by decide)) (by decide) (by decide) 0 13 (by omega) (by omega) (by decide) x) <|
  Ok.cons (fun x => CX0 arg2 harg2 arg3 harg3 arg4 harg4 arg5 harg5 x0 x1 x2 x3 hx (ld arg12 harg12 xs1 (Rect.unit (s := S128x2048) ![0, 1536] S128x256.size (by decide))) 0 1536 (spB arg12 harg12 xs1 hxs 1536 (by decide)) (by decide) (by decide) 0 12 (by omega) (by omega) (by decide) x) <|
  Ok.cons (fun x => CX1 arg2 harg2 arg3 harg3 arg4 harg4 arg5 harg5 x0 x1 x2 x3 hx (ld arg12 harg12 xs1 (Rect.unit (s := S128x2048) ![0, 1280] S128x256.size (by decide))) 0 1280 (spB arg12 harg12 xs1 hxs 1280 (by decide)) (by decide) (by decide) 0 11 (by omega) (by omega) (by decide) x) <|
  Ok.cons (fun x => CX0 arg2 harg2 arg3 harg3 arg4 harg4 arg5 harg5 x0 x1 x2 x3 hx (ld arg12 harg12 xs1 (Rect.unit (s := S128x2048) ![0, 1280] S128x256.size (by decide))) 0 1280 (spB arg12 harg12 xs1 hxs 1280 (by decide)) (by decide) (by decide) 0 10 (by omega) (by omega) (by decide) x) <|
  Ok.cons (fun x => CX1 arg2 harg2 arg3 harg3 arg4 harg4 arg5 harg5 x0 x1 x2 x3 hx (ld arg12 harg12 xs1 (Rect.unit (s := S128x2048) ![0, 1024] S128x256.size (by decide))) 0 1024 (spB arg12 harg12 xs1 hxs 1024 (by decide)) (by decide) (by decide) 0 9 (by omega) (by omega) (by decide) x) <|
  Ok.cons (fun x => CX0 arg2 harg2 arg3 harg3 arg4 harg4 arg5 harg5 x0 x1 x2 x3 hx (ld arg12 harg12 xs1 (Rect.unit (s := S128x2048) ![0, 1024] S128x256.size (by decide))) 0 1024 (spB arg12 harg12 xs1 hxs 1024 (by decide)) (by decide) (by decide) 0 8 (by omega) (by omega) (by decide) x) <|
  Ok.cons (fun x => CX1 arg2 harg2 arg3 harg3 arg4 harg4 arg5 harg5 x0 x1 x2 x3 hx (ld arg12 harg12 xs1 (Rect.unit (s := S128x2048) ![0, 768] S128x256.size (by decide))) 0 768 (spB arg12 harg12 xs1 hxs 768 (by decide)) (by decide) (by decide) 0 7 (by omega) (by omega) (by decide) x) <|
  Ok.cons (fun x => CX0 arg2 harg2 arg3 harg3 arg4 harg4 arg5 harg5 x0 x1 x2 x3 hx (ld arg12 harg12 xs1 (Rect.unit (s := S128x2048) ![0, 768] S128x256.size (by decide))) 0 768 (spB arg12 harg12 xs1 hxs 768 (by decide)) (by decide) (by decide) 0 6 (by omega) (by omega) (by decide) x) <|
  Ok.cons (fun x => CX1 arg2 harg2 arg3 harg3 arg4 harg4 arg5 harg5 x0 x1 x2 x3 hx (ld arg12 harg12 xs1 (Rect.unit (s := S128x2048) ![0, 512] S128x256.size (by decide))) 0 512 (spB arg12 harg12 xs1 hxs 512 (by decide)) (by decide) (by decide) 0 5 (by omega) (by omega) (by decide) x) <|
  Ok.cons (fun x => CX0 arg2 harg2 arg3 harg3 arg4 harg4 arg5 harg5 x0 x1 x2 x3 hx (ld arg12 harg12 xs1 (Rect.unit (s := S128x2048) ![0, 512] S128x256.size (by decide))) 0 512 (spB arg12 harg12 xs1 hxs 512 (by decide)) (by decide) (by decide) 0 4 (by omega) (by omega) (by decide) x) <|
  Ok.cons (fun x => CX1 arg2 harg2 arg3 harg3 arg4 harg4 arg5 harg5 x0 x1 x2 x3 hx (ld arg12 harg12 xs1 (Rect.unit (s := S128x2048) ![0, 256] S128x256.size (by decide))) 0 256 (spB arg12 harg12 xs1 hxs 256 (by decide)) (by decide) (by decide) 0 3 (by omega) (by omega) (by decide) x) <|
  Ok.cons (fun x => CX0 arg2 harg2 arg3 harg3 arg4 harg4 arg5 harg5 x0 x1 x2 x3 hx (ld arg12 harg12 xs1 (Rect.unit (s := S128x2048) ![0, 256] S128x256.size (by decide))) 0 256 (spB arg12 harg12 xs1 hxs 256 (by decide)) (by decide) (by decide) 0 2 (by omega) (by omega) (by decide) x) <|
  Ok.cons (fun x => CX1 arg2 harg2 arg3 harg3 arg4 harg4 arg5 harg5 x0 x1 x2 x3 hx (ld arg12 harg12 xs1 (Rect.unit (s := S128x2048) ![0, 0] S128x256.size (by decide))) 0 0 (spB arg12 harg12 xs1 hxs 0 (by decide)) (by decide) (by decide) 0 1 (by omega) (by omega) (by decide) x) <|
  Ok.cons (fun x => CX0 arg2 harg2 arg3 harg3 arg4 harg4 arg5 harg5 x0 x1 x2 x3 hx (ld arg12 harg12 xs1 (Rect.unit (s := S128x2048) ![0, 0] S128x256.size (by decide))) 0 0 (spB arg12 harg12 xs1 hxs 0 (by decide)) (by decide) (by decide) 0 0 (by omega) (by omega) (by decide) x) <|
  Ok.nil

theorem HS2_16_has_B : ∀ g : Fin 16, ∃ p ∈ (kernelRun0_B.sl.HS2_16 (F := Ideal) c arg2 harg2 arg3 harg3 arg4 harg4 arg5 harg5 arg12 harg12 x0 x1 x2 x3 xs1), ∃ inbc, p.1 = Rect.unit (s := S4x16x128) ![0, g.val, 0] S1x1x128.size inbc := fun g => match g with
  | ⟨0, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), inbj 0 (by decide) _, rfl⟩
  | ⟨1, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), inbj 0 (by decide) _, rfl⟩
  | ⟨2, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), inbj 0 (by decide) _, rfl⟩
  | ⟨3, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), inbj 0 (by decide) _, rfl⟩
  | ⟨4, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), inbj 0 (by decide) _, rfl⟩
  | ⟨5, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), inbj 0 (by decide) _, rfl⟩
  | ⟨6, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), inbj 0 (by decide) _, rfl⟩
  | ⟨7, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), inbj 0 (by decide) _, rfl⟩
  | ⟨8, _⟩ => ⟨_, (List.mem_cons_of_mem _ (List.mem_cons_of_mem _ (List.mem_cons_of_mem _ (List.mem_cons_of_mem _ (List.mem_cons_of_mem _ (List.mem_cons_of_mem _ (List.mem_cons_of_mem _ List.mem_cons_self))))))), inbj 0 (by decide) _, rfl⟩
  | ⟨9, _⟩ => ⟨_, (List.mem_cons_of_mem _ (List.mem_cons_of_mem _ (List.mem_cons_of_mem _ (List.mem_cons_of_mem _ (List.mem_cons_of_mem _ (List.mem_cons_of_mem _ List.mem_cons_self)))))), inbj 0 (by decide) _, rfl⟩
  | ⟨10, _⟩ => ⟨_, (List.mem_cons_of_mem _ (List.mem_cons_of_mem _ (List.mem_cons_of_mem _ (List.mem_cons_of_mem _ (List.mem_cons_of_mem _ List.mem_cons_self))))), inbj 0 (by decide) _, rfl⟩
  | ⟨11, _⟩ => ⟨_, (List.mem_cons_of_mem _ (List.mem_cons_of_mem _ (List.mem_cons_of_mem _ (List.mem_cons_of_mem _ List.mem_cons_self)))), inbj 0 (by decide) _, rfl⟩
  | ⟨12, _⟩ => ⟨_, (List.mem_cons_of_mem _ (List.mem_cons_of_mem _ (List.mem_cons_of_mem _ List.mem_cons_self))), inbj 0 (by decide) _, rfl⟩
  | ⟨13, _⟩ => ⟨_, (List.mem_cons_of_mem _ (List.mem_cons_of_mem _ List.mem_cons_self)), inbj 0 (by decide) _, rfl⟩
  | ⟨14, _⟩ => ⟨_, (List.mem_cons_of_mem _ List.mem_cons_self), inbj 0 (by decide) _, rfl⟩
  | ⟨15, _⟩ => ⟨_, List.mem_cons_self, inbj 0 (by decide) _, rfl⟩
  | ⟨n + 16, h⟩ => absurd h (by omega)

include hx hxs in
theorem HS2_32_ok_B : Ok (e := .f32) (gm (wI x0 x1 x2 x3)) (kernelRun0_B.sl.HS2_32 (F := Ideal) c arg2 harg2 arg3 harg3 arg4 harg4 arg5 harg5 arg12 harg12 x0 x1 x2 x3 xs1) :=
  Ok.cons (fun x => CX1 arg2 harg2 arg3 harg3 arg4 harg4 arg5 harg5 x0 x1 x2 x3 hx (ld arg12 harg12 xs1 (Rect.unit (s := S128x2048) ![0, 1792] S128x256.size (by decide))) 128 1792 (spB arg12 harg12 xs1 hxs 1792 (by decide)) (by decide) (by decide) 1 15 (by omega) (by omega) (by decide) x) <|
  Ok.cons (fun x => CX0 arg2 harg2 arg3 harg3 arg4 harg4 arg5 harg5 x0 x1 x2 x3 hx (ld arg12 harg12 xs1 (Rect.unit (s := S128x2048) ![0, 1792] S128x256.size (by decide))) 128 1792 (spB arg12 harg12 xs1 hxs 1792 (by decide)) (by decide) (by decide) 1 14 (by omega) (by omega) (by decide) x) <|
  Ok.cons (fun x => CX1 arg2 harg2 arg3 harg3 arg4 harg4 arg5 harg5 x0 x1 x2 x3 hx (ld arg12 harg12 xs1 (Rect.unit (s := S128x2048) ![0, 1536] S128x256.size (by decide))) 128 1536 (spB arg12 harg12 xs1 hxs 1536 (by decide)) (by decide) (by decide) 1 13 (by omega) (by omega) (by decide) x) <|
  Ok.cons (fun x => CX0 arg2 harg2 arg3 harg3 arg4 harg4 arg5 harg5 x0 x1 x2 x3 hx (ld arg12 harg12 xs1 (Rect.unit (s := S128x2048) ![0, 1536] S128x256.size (by decide))) 128 1536 (spB arg12 harg12 xs1 hxs 1536 (by decide)) (by decide) (by decide) 1 12 (by omega) (by omega) (by decide) x) <|
  Ok.cons (fun x => CX1 arg2 harg2 arg3 harg3 arg4 harg4 arg5 harg5 x0 x1 x2 x3 hx (ld arg12 harg12 xs1 (Rect.unit (s := S128x2048) ![0, 1280] S128x256.size (by decide))) 128 1280 (spB arg12 harg12 xs1 hxs 1280 (by decide)) (by decide) (by decide) 1 11 (by omega) (by omega) (by decide) x) <|
  Ok.cons (fun x => CX0 arg2 harg2 arg3 harg3 arg4 harg4 arg5 harg5 x0 x1 x2 x3 hx (ld arg12 harg12 xs1 (Rect.unit (s := S128x2048) ![0, 1280] S128x256.size (by decide))) 128 1280 (spB arg12 harg12 xs1 hxs 1280 (by decide)) (by decide) (by decide) 1 10 (by omega) (by omega) (by decide) x) <|
  Ok.cons (fun x => CX1 arg2 harg2 arg3 harg3 arg4 harg4 arg5 harg5 x0 x1 x2 x3 hx (ld arg12 harg12 xs1 (Rect.unit (s := S128x2048) ![0, 1024] S128x256.size (by decide))) 128 1024 (spB arg12 harg12 xs1 hxs 1024 (by decide)) (by decide) (by decide) 1 9 (by omega) (by omega) (by decide) x) <|
  Ok.cons (fun x => CX0 arg2 harg2 arg3 harg3 arg4 harg4 arg5 harg5 x0 x1 x2 x3 hx (ld arg12 harg12 xs1 (Rect.unit (s := S128x2048) ![0, 1024] S128x256.size (by decide))) 128 1024 (spB arg12 harg12 xs1 hxs 1024 (by decide)) (by decide) (by decide) 1 8 (by omega) (by omega) (by decide) x) <|
  Ok.cons (fun x => CX1 arg2 harg2 arg3 harg3 arg4 harg4 arg5 harg5 x0 x1 x2 x3 hx (ld arg12 harg12 xs1 (Rect.unit (s := S128x2048) ![0, 768] S128x256.size (by decide))) 128 768 (spB arg12 harg12 xs1 hxs 768 (by decide)) (by decide) (by decide) 1 7 (by omega) (by omega) (by decide) x) <|
  Ok.cons (fun x => CX0 arg2 harg2 arg3 harg3 arg4 harg4 arg5 harg5 x0 x1 x2 x3 hx (ld arg12 harg12 xs1 (Rect.unit (s := S128x2048) ![0, 768] S128x256.size (by decide))) 128 768 (spB arg12 harg12 xs1 hxs 768 (by decide)) (by decide) (by decide) 1 6 (by omega) (by omega) (by decide) x) <|
  Ok.cons (fun x => CX1 arg2 harg2 arg3 harg3 arg4 harg4 arg5 harg5 x0 x1 x2 x3 hx (ld arg12 harg12 xs1 (Rect.unit (s := S128x2048) ![0, 512] S128x256.size (by decide))) 128 512 (spB arg12 harg12 xs1 hxs 512 (by decide)) (by decide) (by decide) 1 5 (by omega) (by omega) (by decide) x) <|
  Ok.cons (fun x => CX0 arg2 harg2 arg3 harg3 arg4 harg4 arg5 harg5 x0 x1 x2 x3 hx (ld arg12 harg12 xs1 (Rect.unit (s := S128x2048) ![0, 512] S128x256.size (by decide))) 128 512 (spB arg12 harg12 xs1 hxs 512 (by decide)) (by decide) (by decide) 1 4 (by omega) (by omega) (by decide) x) <|
  Ok.cons (fun x => CX1 arg2 harg2 arg3 harg3 arg4 harg4 arg5 harg5 x0 x1 x2 x3 hx (ld arg12 harg12 xs1 (Rect.unit (s := S128x2048) ![0, 256] S128x256.size (by decide))) 128 256 (spB arg12 harg12 xs1 hxs 256 (by decide)) (by decide) (by decide) 1 3 (by omega) (by omega) (by decide) x) <|
  Ok.cons (fun x => CX0 arg2 harg2 arg3 harg3 arg4 harg4 arg5 harg5 x0 x1 x2 x3 hx (ld arg12 harg12 xs1 (Rect.unit (s := S128x2048) ![0, 256] S128x256.size (by decide))) 128 256 (spB arg12 harg12 xs1 hxs 256 (by decide)) (by decide) (by decide) 1 2 (by omega) (by omega) (by decide) x) <|
  Ok.cons (fun x => CX1 arg2 harg2 arg3 harg3 arg4 harg4 arg5 harg5 x0 x1 x2 x3 hx (ld arg12 harg12 xs1 (Rect.unit (s := S128x2048) ![0, 0] S128x256.size (by decide))) 128 0 (spB arg12 harg12 xs1 hxs 0 (by decide)) (by decide) (by decide) 1 1 (by omega) (by omega) (by decide) x) <|
  Ok.cons (fun x => CX0 arg2 harg2 arg3 harg3 arg4 harg4 arg5 harg5 x0 x1 x2 x3 hx (ld arg12 harg12 xs1 (Rect.unit (s := S128x2048) ![0, 0] S128x256.size (by decide))) 128 0 (spB arg12 harg12 xs1 hxs 0 (by decide)) (by decide) (by decide) 1 0 (by omega) (by omega) (by decide) x) <|
  (HS2_16_ok_B c arg2 harg2 arg3 harg3 arg4 harg4 arg5 harg5 arg12 harg12 x0 x1 x2 x3 xs1 hx hxs)

theorem HS2_32_has_B : ∀ g : Fin 16, ∃ p ∈ (kernelRun0_B.sl.HS2_32 (F := Ideal) c arg2 harg2 arg3 harg3 arg4 harg4 arg5 harg5 arg12 harg12 x0 x1 x2 x3 xs1), ∃ inbc, p.1 = Rect.unit (s := S4x16x128) ![1, g.val, 0] S1x1x128.size inbc := fun g => match g with
  | ⟨0, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), inbj 1 (by decide) _, rfl⟩
  | ⟨1, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), inbj 1 (by decide) _, rfl⟩
  | ⟨2, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), inbj 1 (by decide) _, rfl⟩
  | ⟨3, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), inbj 1 (by decide) _, rfl⟩
  | ⟨4, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), inbj 1 (by decide) _, rfl⟩
  | ⟨5, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), inbj 1 (by decide) _, rfl⟩
  | ⟨6, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), inbj 1 (by decide) _, rfl⟩
  | ⟨7, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), inbj 1 (by decide) _, rfl⟩
  | ⟨8, _⟩ => ⟨_, (List.mem_cons_of_mem _ (List.mem_cons_of_mem _ (List.mem_cons_of_mem _ (List.mem_cons_of_mem _ (List.mem_cons_of_mem _ (List.mem_cons_of_mem _ (List.mem_cons_of_mem _ List.mem_cons_self))))))), inbj 1 (by decide) _, rfl⟩
  | ⟨9, _⟩ => ⟨_, (List.mem_cons_of_mem _ (List.mem_cons_of_mem _ (List.mem_cons_of_mem _ (List.mem_cons_of_mem _ (List.mem_cons_of_mem _ (List.mem_cons_of_mem _ List.mem_cons_self)))))), inbj 1 (by decide) _, rfl⟩
  | ⟨10, _⟩ => ⟨_, (List.mem_cons_of_mem _ (List.mem_cons_of_mem _ (List.mem_cons_of_mem _ (List.mem_cons_of_mem _ (List.mem_cons_of_mem _ List.mem_cons_self))))), inbj 1 (by decide) _, rfl⟩
  | ⟨11, _⟩ => ⟨_, (List.mem_cons_of_mem _ (List.mem_cons_of_mem _ (List.mem_cons_of_mem _ (List.mem_cons_of_mem _ List.mem_cons_self)))), inbj 1 (by decide) _, rfl⟩
  | ⟨12, _⟩ => ⟨_, (List.mem_cons_of_mem _ (List.mem_cons_of_mem _ (List.mem_cons_of_mem _ List.mem_cons_self))), inbj 1 (by decide) _, rfl⟩
  | ⟨13, _⟩ => ⟨_, (List.mem_cons_of_mem _ (List.mem_cons_of_mem _ List.mem_cons_self)), inbj 1 (by decide) _, rfl⟩
  | ⟨14, _⟩ => ⟨_, (List.mem_cons_of_mem _ List.mem_cons_self), inbj 1 (by decide) _, rfl⟩
  | ⟨15, _⟩ => ⟨_, List.mem_cons_self, inbj 1 (by decide) _, rfl⟩
  | ⟨n + 16, h⟩ => absurd h (by omega)

include hx hxs in
theorem HS2_48_ok_B : Ok (e := .f32) (gm (wI x0 x1 x2 x3)) (kernelRun0_B.sl.HS2_48 (F := Ideal) c arg2 harg2 arg3 harg3 arg4 harg4 arg5 harg5 arg12 harg12 x0 x1 x2 x3 xs1) :=
  Ok.cons (fun x => CX1 arg2 harg2 arg3 harg3 arg4 harg4 arg5 harg5 x0 x1 x2 x3 hx (ld arg12 harg12 xs1 (Rect.unit (s := S128x2048) ![0, 1792] S128x256.size (by decide))) 256 1792 (spB arg12 harg12 xs1 hxs 1792 (by decide)) (by decide) (by decide) 2 15 (by omega) (by omega) (by decide) x) <|
  Ok.cons (fun x => CX0 arg2 harg2 arg3 harg3 arg4 harg4 arg5 harg5 x0 x1 x2 x3 hx (ld arg12 harg12 xs1 (Rect.unit (s := S128x2048) ![0, 1792] S128x256.size (by decide))) 256 1792 (spB arg12 harg12 xs1 hxs 1792 (by decide)) (by decide) (by decide) 2 14 (by omega) (by omega) (by decide) x) <|
  Ok.cons (fun x => CX1 arg2 harg2 arg3 harg3 arg4 harg4 arg5 harg5 x0 x1 x2 x3 hx (ld arg12 harg12 xs1 (Rect.unit (s := S128x2048) ![0, 1536] S128x256.size (by decide))) 256 1536 (spB arg12 harg12 xs1 hxs 1536 (by decide)) (by decide) (by decide) 2 13 (by omega) (by omega) (by decide) x) <|
  Ok.cons (fun x => CX0 arg2 harg2 arg3 harg3 arg4 harg4 arg5 harg5 x0 x1 x2 x3 hx (ld arg12 harg12 xs1 (Rect.unit (s := S128x2048) ![0, 1536] S128x256.size (by decide))) 256 1536 (spB arg12 harg12 xs1 hxs 1536 (by decide)) (by decide) (by decide) 2 12 (by omega) (by omega) (by decide) x) <|
  Ok.cons (fun x => CX1 arg2 harg2 arg3 harg3 arg4 harg4 arg5 harg5 x0 x1 x2 x3 hx (ld arg12 harg12 xs1 (Rect.unit (s := S128x2048) ![0, 1280] S128x256.size (by decide))) 256 1280 (spB arg12 harg12 xs1 hxs 1280 (by decide)) (by decide) (by decide) 2 11 (by omega) (by omega) (by decide) x) <|
  Ok.cons (fun x => CX0 arg2 harg2 arg3 harg3 arg4 harg4 arg5 harg5 x0 x1 x2 x3 hx (ld arg12 harg12 xs1 (Rect.unit (s := S128x2048) ![0, 1280] S128x256.size (by decide))) 256 1280 (spB arg12 harg12 xs1 hxs 1280 (by decide)) (by decide) (by decide) 2 10 (by omega) (by omega) (by decide) x) <|
  Ok.cons (fun x => CX1 arg2 harg2 arg3 harg3 arg4 harg4 arg5 harg5 x0 x1 x2 x3 hx (ld arg12 harg12 xs1 (Rect.unit (s := S128x2048) ![0, 1024] S128x256.size (by decide))) 256 1024 (spB arg12 harg12 xs1 hxs 1024 (by decide)) (by decide) (by decide) 2 9 (by omega) (by omega) (by decide) x) <|
  Ok.cons (fun x => CX0 arg2 harg2 arg3 harg3 arg4 harg4 arg5 harg5 x0 x1 x2 x3 hx (ld arg12 harg12 xs1 (Rect.unit (s := S128x2048) ![0, 1024] S128x256.size (by decide))) 256 1024 (spB arg12 harg12 xs1 hxs 1024 (by decide)) (by decide) (by decide) 2 8 (by omega) (by omega) (by decide) x) <|
  Ok.cons (fun x => CX1 arg2 harg2 arg3 harg3 arg4 harg4 arg5 harg5 x0 x1 x2 x3 hx (ld arg12 harg12 xs1 (Rect.unit (s := S128x2048) ![0, 768] S128x256.size (by decide))) 256 768 (spB arg12 harg12 xs1 hxs 768 (by decide)) (by decide) (by decide) 2 7 (by omega) (by omega) (by decide) x) <|
  Ok.cons (fun x => CX0 arg2 harg2 arg3 harg3 arg4 harg4 arg5 harg5 x0 x1 x2 x3 hx (ld arg12 harg12 xs1 (Rect.unit (s := S128x2048) ![0, 768] S128x256.size (by decide))) 256 768 (spB arg12 harg12 xs1 hxs 768 (by decide)) (by decide) (by decide) 2 6 (by omega) (by omega) (by decide) x) <|
  Ok.cons (fun x => CX1 arg2 harg2 arg3 harg3 arg4 harg4 arg5 harg5 x0 x1 x2 x3 hx (ld arg12 harg12 xs1 (Rect.unit (s := S128x2048) ![0, 512] S128x256.size (by decide))) 256 512 (spB arg12 harg12 xs1 hxs 512 (by decide)) (by decide) (by decide) 2 5 (by omega) (by omega) (by decide) x) <|
  Ok.cons (fun x => CX0 arg2 harg2 arg3 harg3 arg4 harg4 arg5 harg5 x0 x1 x2 x3 hx (ld arg12 harg12 xs1 (Rect.unit (s := S128x2048) ![0, 512] S128x256.size (by decide))) 256 512 (spB arg12 harg12 xs1 hxs 512 (by decide)) (by decide) (by decide) 2 4 (by omega) (by omega) (by decide) x) <|
  Ok.cons (fun x => CX1 arg2 harg2 arg3 harg3 arg4 harg4 arg5 harg5 x0 x1 x2 x3 hx (ld arg12 harg12 xs1 (Rect.unit (s := S128x2048) ![0, 256] S128x256.size (by decide))) 256 256 (spB arg12 harg12 xs1 hxs 256 (by decide)) (by decide) (by decide) 2 3 (by omega) (by omega) (by decide) x) <|
  Ok.cons (fun x => CX0 arg2 harg2 arg3 harg3 arg4 harg4 arg5 harg5 x0 x1 x2 x3 hx (ld arg12 harg12 xs1 (Rect.unit (s := S128x2048) ![0, 256] S128x256.size (by decide))) 256 256 (spB arg12 harg12 xs1 hxs 256 (by decide)) (by decide) (by decide) 2 2 (by omega) (by omega) (by decide) x) <|
  Ok.cons (fun x => CX1 arg2 harg2 arg3 harg3 arg4 harg4 arg5 harg5 x0 x1 x2 x3 hx (ld arg12 harg12 xs1 (Rect.unit (s := S128x2048) ![0, 0] S128x256.size (by decide))) 256 0 (spB arg12 harg12 xs1 hxs 0 (by decide)) (by decide) (by decide) 2 1 (by omega) (by omega) (by decide) x) <|
  Ok.cons (fun x => CX0 arg2 harg2 arg3 harg3 arg4 harg4 arg5 harg5 x0 x1 x2 x3 hx (ld arg12 harg12 xs1 (Rect.unit (s := S128x2048) ![0, 0] S128x256.size (by decide))) 256 0 (spB arg12 harg12 xs1 hxs 0 (by decide)) (by decide) (by decide) 2 0 (by omega) (by omega) (by decide) x) <|
  (HS2_32_ok_B c arg2 harg2 arg3 harg3 arg4 harg4 arg5 harg5 arg12 harg12 x0 x1 x2 x3 xs1 hx hxs)

theorem HS2_48_has_B : ∀ g : Fin 16, ∃ p ∈ (kernelRun0_B.sl.HS2_48 (F := Ideal) c arg2 harg2 arg3 harg3 arg4 harg4 arg5 harg5 arg12 harg12 x0 x1 x2 x3 xs1), ∃ inbc, p.1 = Rect.unit (s := S4x16x128) ![2, g.val, 0] S1x1x128.size inbc := fun g => match g with
  | ⟨0, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), inbj 2 (by decide) _, rfl⟩
  | ⟨1, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), inbj 2 (by decide) _, rfl⟩
  | ⟨2, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), inbj 2 (by decide) _, rfl⟩
  | ⟨3, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), inbj 2 (by decide) _, rfl⟩
  | ⟨4, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), inbj 2 (by decide) _, rfl⟩
  | ⟨5, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), inbj 2 (by decide) _, rfl⟩
  | ⟨6, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), inbj 2 (by decide) _, rfl⟩
  | ⟨7, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), inbj 2 (by decide) _, rfl⟩
  | ⟨8, _⟩ => ⟨_, (List.mem_cons_of_mem _ (List.mem_cons_of_mem _ (List.mem_cons_of_mem _ (List.mem_cons_of_mem _ (List.mem_cons_of_mem _ (List.mem_cons_of_mem _ (List.mem_cons_of_mem _ List.mem_cons_self))))))), inbj 2 (by decide) _, rfl⟩
  | ⟨9, _⟩ => ⟨_, (List.mem_cons_of_mem _ (List.mem_cons_of_mem _ (List.mem_cons_of_mem _ (List.mem_cons_of_mem _ (List.mem_cons_of_mem _ (List.mem_cons_of_mem _ List.mem_cons_self)))))), inbj 2 (by decide) _, rfl⟩
  | ⟨10, _⟩ => ⟨_, (List.mem_cons_of_mem _ (List.mem_cons_of_mem _ (List.mem_cons_of_mem _ (List.mem_cons_of_mem _ (List.mem_cons_of_mem _ List.mem_cons_self))))), inbj 2 (by decide) _, rfl⟩
  | ⟨11, _⟩ => ⟨_, (List.mem_cons_of_mem _ (List.mem_cons_of_mem _ (List.mem_cons_of_mem _ (List.mem_cons_of_mem _ List.mem_cons_self)))), inbj 2 (by decide) _, rfl⟩
  | ⟨12, _⟩ => ⟨_, (List.mem_cons_of_mem _ (List.mem_cons_of_mem _ (List.mem_cons_of_mem _ List.mem_cons_self))), inbj 2 (by decide) _, rfl⟩
  | ⟨13, _⟩ => ⟨_, (List.mem_cons_of_mem _ (List.mem_cons_of_mem _ List.mem_cons_self)), inbj 2 (by decide) _, rfl⟩
  | ⟨14, _⟩ => ⟨_, (List.mem_cons_of_mem _ List.mem_cons_self), inbj 2 (by decide) _, rfl⟩
  | ⟨15, _⟩ => ⟨_, List.mem_cons_self, inbj 2 (by decide) _, rfl⟩
  | ⟨n + 16, h⟩ => absurd h (by omega)

include hx hxs in
theorem HS2_64_ok_B : Ok (e := .f32) (gm (wI x0 x1 x2 x3)) (kernelRun0_B.sl.HS2_64 (F := Ideal) c arg2 harg2 arg3 harg3 arg4 harg4 arg5 harg5 arg12 harg12 x0 x1 x2 x3 xs1) :=
  Ok.cons (fun x => CX1 arg2 harg2 arg3 harg3 arg4 harg4 arg5 harg5 x0 x1 x2 x3 hx (ld arg12 harg12 xs1 (Rect.unit (s := S128x2048) ![0, 1792] S128x256.size (by decide))) 384 1792 (spB arg12 harg12 xs1 hxs 1792 (by decide)) (by decide) (by decide) 3 15 (by omega) (by omega) (by decide) x) <|
  Ok.cons (fun x => CX0 arg2 harg2 arg3 harg3 arg4 harg4 arg5 harg5 x0 x1 x2 x3 hx (ld arg12 harg12 xs1 (Rect.unit (s := S128x2048) ![0, 1792] S128x256.size (by decide))) 384 1792 (spB arg12 harg12 xs1 hxs 1792 (by decide)) (by decide) (by decide) 3 14 (by omega) (by omega) (by decide) x) <|
  Ok.cons (fun x => CX1 arg2 harg2 arg3 harg3 arg4 harg4 arg5 harg5 x0 x1 x2 x3 hx (ld arg12 harg12 xs1 (Rect.unit (s := S128x2048) ![0, 1536] S128x256.size (by decide))) 384 1536 (spB arg12 harg12 xs1 hxs 1536 (by decide)) (by decide) (by decide) 3 13 (by omega) (by omega) (by decide) x) <|
  Ok.cons (fun x => CX0 arg2 harg2 arg3 harg3 arg4 harg4 arg5 harg5 x0 x1 x2 x3 hx (ld arg12 harg12 xs1 (Rect.unit (s := S128x2048) ![0, 1536] S128x256.size (by decide))) 384 1536 (spB arg12 harg12 xs1 hxs 1536 (by decide)) (by decide) (by decide) 3 12 (by omega) (by omega) (by decide) x) <|
  Ok.cons (fun x => CX1 arg2 harg2 arg3 harg3 arg4 harg4 arg5 harg5 x0 x1 x2 x3 hx (ld arg12 harg12 xs1 (Rect.unit (s := S128x2048) ![0, 1280] S128x256.size (by decide))) 384 1280 (spB arg12 harg12 xs1 hxs 1280 (by decide)) (by decide) (by decide) 3 11 (by omega) (by omega) (by decide) x) <|
  Ok.cons (fun x => CX0 arg2 harg2 arg3 harg3 arg4 harg4 arg5 harg5 x0 x1 x2 x3 hx (ld arg12 harg12 xs1 (Rect.unit (s := S128x2048) ![0, 1280] S128x256.size (by decide))) 384 1280 (spB arg12 harg12 xs1 hxs 1280 (by decide)) (by decide) (by decide) 3 10 (by omega) (by omega) (by decide) x) <|
  Ok.cons (fun x => CX1 arg2 harg2 arg3 harg3 arg4 harg4 arg5 harg5 x0 x1 x2 x3 hx (ld arg12 harg12 xs1 (Rect.unit (s := S128x2048) ![0, 1024] S128x256.size (by decide))) 384 1024 (spB arg12 harg12 xs1 hxs 1024 (by decide)) (by decide) (by decide) 3 9 (by omega) (by omega) (by decide) x) <|
  Ok.cons (fun x => CX0 arg2 harg2 arg3 harg3 arg4 harg4 arg5 harg5 x0 x1 x2 x3 hx (ld arg12 harg12 xs1 (Rect.unit (s := S128x2048) ![0, 1024] S128x256.size (by decide))) 384 1024 (spB arg12 harg12 xs1 hxs 1024 (by decide)) (by decide) (by decide) 3 8 (by omega) (by omega) (by decide) x) <|
  Ok.cons (fun x => CX1 arg2 harg2 arg3 harg3 arg4 harg4 arg5 harg5 x0 x1 x2 x3 hx (ld arg12 harg12 xs1 (Rect.unit (s := S128x2048) ![0, 768] S128x256.size (by decide))) 384 768 (spB arg12 harg12 xs1 hxs 768 (by decide)) (by decide) (by decide) 3 7 (by omega) (by omega) (by decide) x) <|
  Ok.cons (fun x => CX0 arg2 harg2 arg3 harg3 arg4 harg4 arg5 harg5 x0 x1 x2 x3 hx (ld arg12 harg12 xs1 (Rect.unit (s := S128x2048) ![0, 768] S128x256.size (by decide))) 384 768 (spB arg12 harg12 xs1 hxs 768 (by decide)) (by decide) (by decide) 3 6 (by omega) (by omega) (by decide) x) <|
  Ok.cons (fun x => CX1 arg2 harg2 arg3 harg3 arg4 harg4 arg5 harg5 x0 x1 x2 x3 hx (ld arg12 harg12 xs1 (Rect.unit (s := S128x2048) ![0, 512] S128x256.size (by decide))) 384 512 (spB arg12 harg12 xs1 hxs 512 (by decide)) (by decide) (by decide) 3 5 (by omega) (by omega) (by decide) x) <|
  Ok.cons (fun x => CX0 arg2 harg2 arg3 harg3 arg4 harg4 arg5 harg5 x0 x1 x2 x3 hx (ld arg12 harg12 xs1 (Rect.unit (s := S128x2048) ![0, 512] S128x256.size (by decide))) 384 512 (spB arg12 harg12 xs1 hxs 512 (by decide)) (by decide) (by decide) 3 4 (by omega) (by omega) (by decide) x) <|
  Ok.cons (fun x => CX1 arg2 harg2 arg3 harg3 arg4 harg4 arg5 harg5 x0 x1 x2 x3 hx (ld arg12 harg12 xs1 (Rect.unit (s := S128x2048) ![0, 256] S128x256.size (by decide))) 384 256 (spB arg12 harg12 xs1 hxs 256 (by decide)) (by decide) (by decide) 3 3 (by omega) (by omega) (by decide) x) <|
  Ok.cons (fun x => CX0 arg2 harg2 arg3 harg3 arg4 harg4 arg5 harg5 x0 x1 x2 x3 hx (ld arg12 harg12 xs1 (Rect.unit (s := S128x2048) ![0, 256] S128x256.size (by decide))) 384 256 (spB arg12 harg12 xs1 hxs 256 (by decide)) (by decide) (by decide) 3 2 (by omega) (by omega) (by decide) x) <|
  Ok.cons (fun x => CX1 arg2 harg2 arg3 harg3 arg4 harg4 arg5 harg5 x0 x1 x2 x3 hx (ld arg12 harg12 xs1 (Rect.unit (s := S128x2048) ![0, 0] S128x256.size (by decide))) 384 0 (spB arg12 harg12 xs1 hxs 0 (by decide)) (by decide) (by decide) 3 1 (by omega) (by omega) (by decide) x) <|
  Ok.cons (fun x => CX0 arg2 harg2 arg3 harg3 arg4 harg4 arg5 harg5 x0 x1 x2 x3 hx (ld arg12 harg12 xs1 (Rect.unit (s := S128x2048) ![0, 0] S128x256.size (by decide))) 384 0 (spB arg12 harg12 xs1 hxs 0 (by decide)) (by decide) (by decide) 3 0 (by omega) (by omega) (by decide) x) <|
  (HS2_48_ok_B c arg2 harg2 arg3 harg3 arg4 harg4 arg5 harg5 arg12 harg12 x0 x1 x2 x3 xs1 hx hxs)

theorem HS2_64_has_B : ∀ g : Fin 16, ∃ p ∈ (kernelRun0_B.sl.HS2_64 (F := Ideal) c arg2 harg2 arg3 harg3 arg4 harg4 arg5 harg5 arg12 harg12 x0 x1 x2 x3 xs1), ∃ inbc, p.1 = Rect.unit (s := S4x16x128) ![3, g.val, 0] S1x1x128.size inbc := fun g => match g with
  | ⟨0, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), inbj 3 (by decide) _, rfl⟩
  | ⟨1, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), inbj 3 (by decide) _, rfl⟩
  | ⟨2, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), inbj 3 (by decide) _, rfl⟩
  | ⟨3, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), inbj 3 (by decide) _, rfl⟩
  | ⟨4, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), inbj 3 (by decide) _, rfl⟩
  | ⟨5, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), inbj 3 (by decide) _, rfl⟩
  | ⟨6, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), inbj 3 (by decide) _, rfl⟩
  | ⟨7, _⟩ => ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), inbj 3 (by decide) _, rfl⟩
  | ⟨8, _⟩ => ⟨_, (List.mem_cons_of_mem _ (List.mem_cons_of_mem _ (List.mem_cons_of_mem _ (List.mem_cons_of_mem _ (List.mem_cons_of_mem _ (List.mem_cons_of_mem _ (List.mem_cons_of_mem _ List.mem_cons_self))))))), inbj 3 (by decide) _, rfl⟩
  | ⟨9, _⟩ => ⟨_, (List.mem_cons_of_mem _ (List.mem_cons_of_mem _ (List.mem_cons_of_mem _ (List.mem_cons_of_mem _ (List.mem_cons_of_mem _ (List.mem_cons_of_mem _ List.mem_cons_self)))))), inbj 3 (by decide) _, rfl⟩
  | ⟨10, _⟩ => ⟨_, (List.mem_cons_of_mem _ (List.mem_cons_of_mem _ (List.mem_cons_of_mem _ (List.mem_cons_of_mem _ (List.mem_cons_of_mem _ List.mem_cons_self))))), inbj 3 (by decide) _, rfl⟩
  | ⟨11, _⟩ => ⟨_, (List.mem_cons_of_mem _ (List.mem_cons_of_mem _ (List.mem_cons_of_mem _ (List.mem_cons_of_mem _ List.mem_cons_self)))), inbj 3 (by decide) _, rfl⟩
  | ⟨12, _⟩ => ⟨_, (List.mem_cons_of_mem _ (List.mem_cons_of_mem _ (List.mem_cons_of_mem _ List.mem_cons_self))), inbj 3 (by decide) _, rfl⟩
  | ⟨13, _⟩ => ⟨_, (List.mem_cons_of_mem _ (List.mem_cons_of_mem _ List.mem_cons_self)), inbj 3 (by decide) _, rfl⟩
  | ⟨14, _⟩ => ⟨_, (List.mem_cons_of_mem _ List.mem_cons_self), inbj 3 (by decide) _, rfl⟩
  | ⟨15, _⟩ => ⟨_, List.mem_cons_self, inbj 3 (by decide) _, rfl⟩
  | ⟨n + 16, h⟩ => absurd h (by omega)

include hx hxs in
theorem HS4_1_ok_B : Ok (e := .f32) (gi (wI x0 x1 x2 x3)) (kernelRun0_B.sl.HS4_1 (F := Ideal) c arg2 harg2 arg3 harg3 arg4 harg4 arg5 harg5 arg12 harg12 arg13 x0 x1 x2 x3 xs1) :=
  Ok.cons (fun x => IX arg13 (wI x0 x1 x2 x3) (kernelRun0_B.sl.HS2_16 (F := Ideal) c arg2 harg2 arg3 harg3 arg4 harg4 arg5 harg5 arg12 harg12 x0 x1 x2 x3 xs1) (HS2_16_ok_B c arg2 harg2 arg3 harg3 arg4 harg4 arg5 harg5 arg12 harg12 x0 x1 x2 x3 xs1 hx hxs) 0 (by decide) (HS2_16_has_B c arg2 harg2 arg3 harg3 arg4 harg4 arg5 harg5 arg12 harg12 x0 x1 x2 x3 xs1) x) <|
  Ok.nil

include hx hxs in
theorem HS4_2_ok_B : Ok (e := .f32) (gi (wI x0 x1 x2 x3)) (kernelRun0_B.sl.HS4_2 (F := Ideal) c arg2 harg2 arg3 harg3 arg4 harg4 arg5 harg5 arg12 harg12 arg13 x0 x1 x2 x3 xs1) :=
  Ok.cons (fun x => IX arg13 (wI x0 x1 x2 x3) (kernelRun0_B.sl.HS2_32 (F := Ideal) c arg2 harg2 arg3 harg3 arg4 harg4 arg5 harg5 arg12 harg12 x0 x1 x2 x3 xs1) (HS2_32_ok_B c arg2 harg2 arg3 harg3 arg4 harg4 arg5 harg5 arg12 harg12 x0 x1 x2 x3 xs1 hx hxs) 1 (by decide) (HS2_32_has_B c arg2 harg2 arg3 harg3 arg4 harg4 arg5 harg5 arg12 harg12 x0 x1 x2 x3 xs1) x) <|
  (HS4_1_ok_B c arg2 harg2 arg3 harg3 arg4 harg4 arg5 harg5 arg12 harg12 arg13 x0 x1 x2 x3 xs1 hx hxs)

include hx hxs in
theorem HS4_3_ok_B : Ok (e := .f32) (gi (wI x0 x1 x2 x3)) (kernelRun0_B.sl.HS4_3 (F := Ideal) c arg2 harg2 arg3 harg3 arg4 harg4 arg5 harg5 arg12 harg12 arg13 x0 x1 x2 x3 xs1) :=
  Ok.cons (fun x => IX arg13 (wI x0 x1 x2 x3) (kernelRun0_B.sl.HS2_48 (F := Ideal) c arg2 harg2 arg3 harg3 arg4 harg4 arg5 harg5 arg12 harg12 x0 x1 x2 x3 xs1) (HS2_48_ok_B c arg2 harg2 arg3 harg3 arg4 harg4 arg5 harg5 arg12 harg12 x0 x1 x2 x3 xs1 hx hxs) 2 (by decide) (HS2_48_has_B c arg2 harg2 arg3 harg3 arg4 harg4 arg5 harg5 arg12 harg12 x0 x1 x2 x3 xs1) x) <|
  (HS4_2_ok_B c arg2 harg2 arg3 harg3 arg4 harg4 arg5 harg5 arg12 harg12 arg13 x0 x1 x2 x3 xs1 hx hxs)

include hx hxs in
theorem HS4_4_ok_B : Ok (e := .f32) (gi (wI x0 x1 x2 x3)) (kernelRun0_B.sl.HS4_4 (F := Ideal) c arg2 harg2 arg3 harg3 arg4 harg4 arg5 harg5 arg12 harg12 arg13 x0 x1 x2 x3 xs1) :=
  Ok.cons (fun x => IX arg13 (wI x0 x1 x2 x3) (kernelRun0_B.sl.HS2_64 (F := Ideal) c arg2 harg2 arg3 harg3 arg4 harg4 arg5 harg5 arg12 harg12 x0 x1 x2 x3 xs1) (HS2_64_ok_B c arg2 harg2 arg3 harg3 arg4 harg4 arg5 harg5 arg12 harg12 x0 x1 x2 x3 xs1 hx hxs) 3 (by decide) (HS2_64_has_B c arg2 harg2 arg3 harg3 arg4 harg4 arg5 harg5 arg12 harg12 x0 x1 x2 x3 xs1) x) <|
  (HS4_3_ok_B c arg2 harg2 arg3 harg3 arg4 harg4 arg5 harg5 arg12 harg12 arg13 x0 x1 x2 x3 xs1 hx hxs)

include hx hxs in
theorem L7_ok_B (i : grid0.Coords) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (harg11 : arg11.IsWhole) (harg13 : arg13.IsWhole) (arg14 : Memref sig .tc .vmem S4x16x128 .f32) (harg14 : arg14.IsWhole) (harg15 : arg15.IsWhole) (hc0 : ¬ cond0_0 i) :
    Ok (e := .fp8e4m3) (qc (wI x0 x1 x2 x3)) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).2.2.1 :=
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_4 (F := Ideal) c arg2 harg2 arg3 harg3 arg4 harg4 arg5 harg5 arg12 harg12 arg13 x0 x1 x2 x3 xs1) (HS4_4_ok_B c arg2 harg2 arg3 harg3 arg4 harg4 arg5 harg5 arg12 harg12 arg13 x0 x1 x2 x3 xs1 hx hxs) 384 1792 3 14 (by omega) (by omega) (by decide) (by decide) (by decide) ⟨_, List.mem_cons_self, by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_4 (F := Ideal) c arg2 harg2 arg3 harg3 arg4 harg4 arg5 harg5 arg12 harg12 arg13 x0 x1 x2 x3 xs1) (HS4_4_ok_B c arg2 harg2 arg3 harg3 arg4 harg4 arg5 harg5 arg12 harg12 arg13 x0 x1 x2 x3 xs1 hx hxs) 384 1536 3 12 (by omega) (by omega) (by decide) (by decide) (by decide) ⟨_, (List.mem_cons_of_mem _ List.mem_cons_self), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_4 (F := Ideal) c arg2 harg2 arg3 harg3 arg4 harg4 arg5 harg5 arg12 harg12 arg13 x0 x1 x2 x3 xs1) (HS4_4_ok_B c arg2 harg2 arg3 harg3 arg4 harg4 arg5 harg5 arg12 harg12 arg13 x0 x1 x2 x3 xs1 hx hxs) 384 1280 3 10 (by omega) (by omega) (by decide) (by decide) (by decide) ⟨_, (List.mem_cons_of_mem _ (List.mem_cons_of_mem _ List.mem_cons_self)), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_4 (F := Ideal) c arg2 harg2 arg3 harg3 arg4 harg4 arg5 harg5 arg12 harg12 arg13 x0 x1 x2 x3 xs1) (HS4_4_ok_B c arg2 harg2 arg3 harg3 arg4 harg4 arg5 harg5 arg12 harg12 arg13 x0 x1 x2 x3 xs1 hx hxs) 384 1024 3 8 (by omega) (by omega) (by decide) (by decide) (by decide) ⟨_, (List.mem_cons_of_mem _ (List.mem_cons_of_mem _ (List.mem_cons_of_mem _ List.mem_cons_self))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_4 (F := Ideal) c arg2 harg2 arg3 harg3 arg4 harg4 arg5 harg5 arg12 harg12 arg13 x0 x1 x2 x3 xs1) (HS4_4_ok_B c arg2 harg2 arg3 harg3 arg4 harg4 arg5 harg5 arg12 harg12 arg13 x0 x1 x2 x3 xs1 hx hxs) 384 768 3 6 (by omega) (by omega) (by decide) (by decide) (by decide) ⟨_, (List.mem_cons_of_mem _ (List.mem_cons_of_mem _ (List.mem_cons_of_mem _ (List.mem_cons_of_mem _ List.mem_cons_self)))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_4 (F := Ideal) c arg2 harg2 arg3 harg3 arg4 harg4 arg5 harg5 arg12 harg12 arg13 x0 x1 x2 x3 xs1) (HS4_4_ok_B c arg2 harg2 arg3 harg3 arg4 harg4 arg5 harg5 arg12 harg12 arg13 x0 x1 x2 x3 xs1 hx hxs) 384 512 3 4 (by omega) (by omega) (by decide) (by decide) (by decide) ⟨_, (List.mem_cons_of_mem _ (List.mem_cons_of_mem _ (List.mem_cons_of_mem _ (List.mem_cons_of_mem _ (List.mem_cons_of_mem _ List.mem_cons_self))))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_4 (F := Ideal) c arg2 harg2 arg3 harg3 arg4 harg4 arg5 harg5 arg12 harg12 arg13 x0 x1 x2 x3 xs1) (HS4_4_ok_B c arg2 harg2 arg3 harg3 arg4 harg4 arg5 harg5 arg12 harg12 arg13 x0 x1 x2 x3 xs1 hx hxs) 384 256 3 2 (by omega) (by omega) (by decide) (by decide) (by decide) ⟨_, (List.mem_cons_of_mem _ (List.mem_cons_of_mem _ (List.mem_cons_of_mem _ (List.mem_cons_of_mem _ (List.mem_cons_of_mem _ (List.mem_cons_of_mem _ List.mem_cons_self)))))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_4 (F := Ideal) c arg2 harg2 arg3 harg3 arg4 harg4 arg5 harg5 arg12 harg12 arg13 x0 x1 x2 x3 xs1) (HS4_4_ok_B c arg2 harg2 arg3 harg3 arg4 harg4 arg5 harg5 arg12 harg12 arg13 x0 x1 x2 x3 xs1 hx hxs) 384 0 3 0 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ List.mem_cons_self))))))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_3 (F := Ideal) c arg2 harg2 arg3 harg3 arg4 harg4 arg5 harg5 arg12 harg12 arg13 x0 x1 x2 x3 xs1) (HS4_3_ok_B c arg2 harg2 arg3 harg3 arg4 harg4 arg5 harg5 arg12 harg12 arg13 x0 x1 x2 x3 xs1 hx hxs) 256 1792 2 14 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_3 (F := Ideal) c arg2 harg2 arg3 harg3 arg4 harg4 arg5 harg5 arg12 harg12 arg13 x0 x1 x2 x3 xs1) (HS4_3_ok_B c arg2 harg2 arg3 harg3 arg4 harg4 arg5 harg5 arg12 harg12 arg13 x0 x1 x2 x3 xs1 hx hxs) 256 1536 2 12 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_3 (F := Ideal) c arg2 harg2 arg3 harg3 arg4 harg4 arg5 harg5 arg12 harg12 arg13 x0 x1 x2 x3 xs1) (HS4_3_ok_B c arg2 harg2 arg3 harg3 arg4 harg4 arg5 harg5 arg12 harg12 arg13 x0 x1 x2 x3 xs1 hx hxs) 256 1280 2 10 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_3 (F := Ideal) c arg2 harg2 arg3 harg3 arg4 harg4 arg5 harg5 arg12 harg12 arg13 x0 x1 x2 x3 xs1) (HS4_3_ok_B c arg2 harg2 arg3 harg3 arg4 harg4 arg5 harg5 arg12 harg12 arg13 x0 x1 x2 x3 xs1 hx hxs) 256 1024 2 8 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_3 (F := Ideal) c arg2 harg2 arg3 harg3 arg4 harg4 arg5 harg5 arg12 harg12 arg13 x0 x1 x2 x3 xs1) (HS4_3_ok_B c arg2 harg2 arg3 harg3 arg4 harg4 arg5 harg5 arg12 harg12 arg13 x0 x1 x2 x3 xs1 hx hxs) 256 768 2 6 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_3 (F := Ideal) c arg2 harg2 arg3 harg3 arg4 harg4 arg5 harg5 arg12 harg12 arg13 x0 x1 x2 x3 xs1) (HS4_3_ok_B c arg2 harg2 arg3 harg3 arg4 harg4 arg5 harg5 arg12 harg12 arg13 x0 x1 x2 x3 xs1 hx hxs) 256 512 2 4 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_3 (F := Ideal) c arg2 harg2 arg3 harg3 arg4 harg4 arg5 harg5 arg12 harg12 arg13 x0 x1 x2 x3 xs1) (HS4_3_ok_B c arg2 harg2 arg3 harg3 arg4 harg4 arg5 harg5 arg12 harg12 arg13 x0 x1 x2 x3 xs1 hx hxs) 256 256 2 2 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ ⟨_, List.mem_cons_self, by decide, rfl⟩ x) <|
  Ok.cons (fun x => QX arg11 arg15 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) (kernelRun0_B.sl.HS4_3 (F := Ideal) c arg2 harg2 arg3 harg3 arg4 harg4 arg5 harg5 arg12 harg12 arg13 x0 x1 x2 x3 xs1) (HS4_3_ok_B c arg2 harg2 arg3 harg3 arg4 harg4 arg5 harg5 arg12 harg12 arg13 x0 x1 x2 x3 xs1 hx hxs) 256 0 2 0 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ ⟨_, List.mem_cons_self, by decide, rfl⟩ x) <|
  Ok.cons (fun x => QX arg11 arg15 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) (kernelRun0_B.sl.HS4_2 (F := Ideal) c arg2 harg2 arg3 harg3 arg4 harg4 arg5 harg5 arg12 harg12 arg13 x0 x1 x2 x3 xs1) (HS4_2_ok_B c arg2 harg2 arg3 harg3 arg4 harg4 arg5 harg5 arg12 harg12 arg13 x0 x1 x2 x3 xs1 hx hxs) 128 1792 1 14 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ ⟨_, List.mem_cons_self, by decide, rfl⟩ x) <|
  Ok.cons (fun x => QX arg11 arg15 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) (kernelRun0_B.sl.HS4_2 (F := Ideal) c arg2 harg2 arg3 harg3 arg4 harg4 arg5 harg5 arg12 harg12 arg13 x0 x1 x2 x3 xs1) (HS4_2_ok_B c arg2 harg2 arg3 harg3 arg4 harg4 arg5 harg5 arg12 harg12 arg13 x0 x1 x2 x3 xs1 hx hxs) 128 1536 1 12 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ ⟨_, List.mem_cons_self, by decide, rfl⟩ x) <|
  Ok.cons (fun x => QX arg11 arg15 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) (kernelRun0_B.sl.HS4_2 (F := Ideal) c arg2 harg2 arg3 harg3 arg4 harg4 arg5 harg5 arg12 harg12 arg13 x0 x1 x2 x3 xs1) (HS4_2_ok_B c arg2 harg2 arg3 harg3 arg4 harg4 arg5 harg5 arg12 harg12 arg13 x0 x1 x2 x3 xs1 hx hxs) 128 1280 1 10 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ ⟨_, List.mem_cons_self, by decide, rfl⟩ x) <|
  Ok.cons (fun x => QX arg11 arg15 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) (kernelRun0_B.sl.HS4_2 (F := Ideal) c arg2 harg2 arg3 harg3 arg4 harg4 arg5 harg5 arg12 harg12 arg13 x0 x1 x2 x3 xs1) (HS4_2_ok_B c arg2 harg2 arg3 harg3 arg4 harg4 arg5 harg5 arg12 harg12 arg13 x0 x1 x2 x3 xs1 hx hxs) 128 1024 1 8 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ ⟨_, List.mem_cons_self, by decide, rfl⟩ x) <|
  Ok.cons (fun x => QX arg11 arg15 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) (kernelRun0_B.sl.HS4_2 (F := Ideal) c arg2 harg2 arg3 harg3 arg4 harg4 arg5 harg5 arg12 harg12 arg13 x0 x1 x2 x3 xs1) (HS4_2_ok_B c arg2 harg2 arg3 harg3 arg4 harg4 arg5 harg5 arg12 harg12 arg13 x0 x1 x2 x3 xs1 hx hxs) 128 768 1 6 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ ⟨_, List.mem_cons_self, by decide, rfl⟩ x) <|
  Ok.cons (fun x => QX arg11 arg15 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) (kernelRun0_B.sl.HS4_2 (F := Ideal) c arg2 harg2 arg3 harg3 arg4 harg4 arg5 harg5 arg12 harg12 arg13 x0 x1 x2 x3 xs1) (HS4_2_ok_B c arg2 harg2 arg3 harg3 arg4 harg4 arg5 harg5 arg12 harg12 arg13 x0 x1 x2 x3 xs1 hx hxs) 128 512 1 4 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ ⟨_, List.mem_cons_self, by decide, rfl⟩ x) <|
  Ok.cons (fun x => QX arg11 arg15 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) (kernelRun0_B.sl.HS4_2 (F := Ideal) c arg2 harg2 arg3 harg3 arg4 harg4 arg5 harg5 arg12 harg12 arg13 x0 x1 x2 x3 xs1) (HS4_2_ok_B c arg2 harg2 arg3 harg3 arg4 harg4 arg5 harg5 arg12 harg12 arg13 x0 x1 x2 x3 xs1 hx hxs) 128 256 1 2 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ ⟨_, List.mem_cons_self, by decide, rfl⟩ x) <|
  Ok.cons (fun x => QX arg11 arg15 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) (kernelRun0_B.sl.HS4_2 (F := Ideal) c arg2 harg2 arg3 harg3 arg4 harg4 arg5 harg5 arg12 harg12 arg13 x0 x1 x2 x3 xs1) (HS4_2_ok_B c arg2 harg2 arg3 harg3 arg4 harg4 arg5 harg5 arg12 harg12 arg13 x0 x1 x2 x3 xs1 hx hxs) 128 0 1 0 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ ⟨_, List.mem_cons_self, by decide, rfl⟩ x) <|
  Ok.cons (fun x => QX arg11 arg15 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) (kernelRun0_B.sl.HS4_1 (F := Ideal) c arg2 harg2 arg3 harg3 arg4 harg4 arg5 harg5 arg12 harg12 arg13 x0 x1 x2 x3 xs1) (HS4_1_ok_B c arg2 harg2 arg3 harg3 arg4 harg4 arg5 harg5 arg12 harg12 arg13 x0 x1 x2 x3 xs1 hx hxs) 0 1792 0 14 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ ⟨_, List.mem_cons_self, by decide, rfl⟩ x) <|
  Ok.cons (fun x => QX arg11 arg15 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) (kernelRun0_B.sl.HS4_1 (F := Ideal) c arg2 harg2 arg3 harg3 arg4 harg4 arg5 harg5 arg12 harg12 arg13 x0 x1 x2 x3 xs1) (HS4_1_ok_B c arg2 harg2 arg3 harg3 arg4 harg4 arg5 harg5 arg12 harg12 arg13 x0 x1 x2 x3 xs1 hx hxs) 0 1536 0 12 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ ⟨_, List.mem_cons_self, by decide, rfl⟩ x) <|
  Ok.cons (fun x => QX arg11 arg15 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) (kernelRun0_B.sl.HS4_1 (F := Ideal) c arg2 harg2 arg3 harg3 arg4 harg4 arg5 harg5 arg12 harg12 arg13 x0 x1 x2 x3 xs1) (HS4_1_ok_B c arg2 harg2 arg3 harg3 arg4 harg4 arg5 harg5 arg12 harg12 arg13 x0 x1 x2 x3 xs1 hx hxs) 0 1280 0 10 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ ⟨_, List.mem_cons_self, by decide, rfl⟩ x) <|
  Ok.cons (fun x => QX arg11 arg15 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) (kernelRun0_B.sl.HS4_1 (F := Ideal) c arg2 harg2 arg3 harg3 arg4 harg4 arg5 harg5 arg12 harg12 arg13 x0 x1 x2 x3 xs1) (HS4_1_ok_B c arg2 harg2 arg3 harg3 arg4 harg4 arg5 harg5 arg12 harg12 arg13 x0 x1 x2 x3 xs1 hx hxs) 0 1024 0 8 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ ⟨_, List.mem_cons_self, by decide, rfl⟩ x) <|
  Ok.cons (fun x => QX arg11 arg15 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) (kernelRun0_B.sl.HS4_1 (F := Ideal) c arg2 harg2 arg3 harg3 arg4 harg4 arg5 harg5 arg12 harg12 arg13 x0 x1 x2 x3 xs1) (HS4_1_ok_B c arg2 harg2 arg3 harg3 arg4 harg4 arg5 harg5 arg12 harg12 arg13 x0 x1 x2 x3 xs1 hx hxs) 0 768 0 6 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ ⟨_, List.mem_cons_self, by decide, rfl⟩ x) <|
  Ok.cons (fun x => QX arg11 arg15 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) (kernelRun0_B.sl.HS4_1 (F := Ideal) c arg2 harg2 arg3 harg3 arg4 harg4 arg5 harg5 arg12 harg12 arg13 x0 x1 x2 x3 xs1) (HS4_1_ok_B c arg2 harg2 arg3 harg3 arg4 harg4 arg5 harg5 arg12 harg12 arg13 x0 x1 x2 x3 xs1 hx hxs) 0 512 0 4 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ ⟨_, List.mem_cons_self, by decide, rfl⟩ x) <|
  Ok.cons (fun x => QX arg11 arg15 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) (kernelRun0_B.sl.HS4_1 (F := Ideal) c arg2 harg2 arg3 harg3 arg4 harg4 arg5 harg5 arg12 harg12 arg13 x0 x1 x2 x3 xs1) (HS4_1_ok_B c arg2 harg2 arg3 harg3 arg4 harg4 arg5 harg5 arg12 harg12 arg13 x0 x1 x2 x3 xs1 hx hxs) 0 256 0 2 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ ⟨_, List.mem_cons_self, by decide, rfl⟩ x) <|
  Ok.cons (fun x => QX arg11 arg15 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) (kernelRun0_B.sl.HS4_1 (F := Ideal) c arg2 harg2 arg3 harg3 arg4 harg4 arg5 harg5 arg12 harg12 arg13 x0 x1 x2 x3 xs1) (HS4_1_ok_B c arg2 harg2 arg3 harg3 arg4 harg4 arg5 harg5 arg12 harg12 arg13 x0 x1 x2 x3 xs1 hx hxs) 0 0 0 0 (by omega) (by omega) (by decide) (by decide) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ ⟨_, List.mem_cons_self, by decide, rfl⟩ x) <|
  Ok.nil

end CaseB

end Cert.KernelIdeal.Run
-- ==== Proof.KRowB.lean ====
module

public import proofs.«01_k».proof.Proof.KPiecesB
public import proofs.«01_k».proof.Proof.KRow
import all proofs.«01_k».proof.Proof.KRunB

/-! The row codes and the residuals the ideal kernel stores in case B agree with the block functions. -/

@[expose] public section

set_option maxRecDepth 100000
set_option maxHeartbeats 4000000

noncomputable section

namespace Cert.KernelIdeal.Run

open Idealize.ShloMosaic Idealize.ShloMosaic.ValueIdx Cert.KernelIdeal Cert.KernelIdeal.Gen Cert.Quant

section CaseB

variable (c : Dev nD) (arg2 : Memref sig .tc .vmem S512x2048 .fp8e4m3) (harg2 : arg2.IsWhole) (arg3 : Memref sig .tc .vmem S1x16x512 .f32) (harg3 : arg3.IsWhole)
  (arg4 : Memref sig .tc .vmem S512x2048 .bf16) (harg4 : arg4.IsWhole) (arg5 : Memref sig .tc .vmem S512x2048 .f32) (harg5 : arg5.IsWhole)
  (arg11 : Memref sig .tc .vmem S512x2048 .f32) (arg12 : Memref sig .tc .vmem S128x2048 .bf16) (harg12 : arg12.IsWhole)
  (arg13 arg15 : Memref sig .tc .vmem S4x16x128 .f32)
  (x0 : Vec Ideal S512x2048 .fp8e4m3) (x1 : Vec Ideal S1x16x512 .f32) (x2 : Vec Ideal S512x2048 .bf16) (x3 : Vec Ideal S512x2048 .f32)
  (xs1 : Vec Ideal S128x2048 .bf16) (hx : ∀ i, x1 i ≠ ⊤ ∧ x1 i ≠ ⊥) (hxs : ∀ (k : Fin 128) (c : Fin 2048), xs1 (ix2 k c) = spreadI k c)

include hx hxs in
theorem rmax0_B : Upto (wI x0 x1 x2 x3) 0 16 (kernelRun0_B.sl.r_25 (F := Ideal) c arg2 harg2 arg3 harg3 arg4 harg4 arg5 harg5 arg12 harg12 x0 x1 x2 x3 xs1) :=
  EX1 arg2 harg2 arg3 harg3 arg4 harg4 arg5 harg5 x0 x1 x2 x3 hx _ 0 1792 (spB arg12 harg12 xs1 hxs 1792 (by decide)) (by decide) (by decide) 0 15 (by decide) (by decide) (by decide) <|
    EX0 arg2 harg2 arg3 harg3 arg4 harg4 arg5 harg5 x0 x1 x2 x3 hx _ 0 1792 (spB arg12 harg12 xs1 hxs 1792 (by decide)) (by decide) (by decide) 0 14 (by decide) (by decide) (by decide) <|
    EX1 arg2 harg2 arg3 harg3 arg4 harg4 arg5 harg5 x0 x1 x2 x3 hx _ 0 1536 (spB arg12 harg12 xs1 hxs 1536 (by decide)) (by decide) (by decide) 0 13 (by decide) (by decide) (by decide) <|
    EX0 arg2 harg2 arg3 harg3 arg4 harg4 arg5 harg5 x0 x1 x2 x3 hx _ 0 1536 (spB arg12 harg12 xs1 hxs 1536 (by decide)) (by decide) (by decide) 0 12 (by decide) (by decide) (by decide) <|
    EX1 arg2 harg2 arg3 harg3 arg4 harg4 arg5 harg5 x0 x1 x2 x3 hx _ 0 1280 (spB arg12 harg12 xs1 hxs 1280 (by decide)) (by decide) (by decide) 0 11 (by decide) (by decide) (by decide) <|
    EX0 arg2 harg2 arg3 harg3 arg4 harg4 arg5 harg5 x0 x1 x2 x3 hx _ 0 1280 (spB arg12 harg12 xs1 hxs 1280 (by decide)) (by decide) (by decide) 0 10 (by decide) (by decide) (by decide) <|
    EX1 arg2 harg2 arg3 harg3 arg4 harg4 arg5 harg5 x0 x1 x2 x3 hx _ 0 1024 (spB arg12 harg12 xs1 hxs 1024 (by decide)) (by decide) (by decide) 0 9 (by decide) (by decide) (by decide) <|
    EX0 arg2 harg2 arg3 harg3 arg4 harg4 arg5 harg5 x0 x1 x2 x3 hx _ 0 1024 (spB arg12 harg12 xs1 hxs 1024 (by decide)) (by decide) (by decide) 0 8 (by decide) (by decide) (by decide) <|
    EX1 arg2 harg2 arg3 harg3 arg4 harg4 arg5 harg5 x0 x1 x2 x3 hx _ 0 768 (spB arg12 harg12 xs1 hxs 768 (by decide)) (by decide) (by decide) 0 7 (by decide) (by decide) (by decide) <|
    EX0 arg2 harg2 arg3 harg3 arg4 harg4 arg5 harg5 x0 x1 x2 x3 hx _ 0 768 (spB arg12 harg12 xs1 hxs 768 (by decide)) (by decide) (by decide) 0 6 (by decide) (by decide) (by decide) <|
    EX1 arg2 harg2 arg3 harg3 arg4 harg4 arg5 harg5 x0 x1 x2 x3 hx _ 0 512 (spB arg12 harg12 xs1 hxs 512 (by decide)) (by decide) (by decide) 0 5 (by decide) (by decide) (by decide) <|
    EX0 arg2 harg2 arg3 harg3 arg4 harg4 arg5 harg5 x0 x1 x2 x3 hx _ 0 512 (spB arg12 harg12 xs1 hxs 512 (by decide)) (by decide) (by decide) 0 4 (by decide) (by decide) (by decide) <|
    EX1 arg2 harg2 arg3 harg3 arg4 harg4 arg5 harg5 x0 x1 x2 x3 hx _ 0 256 (spB arg12 harg12 xs1 hxs 256 (by decide)) (by decide) (by decide) 0 3 (by decide) (by decide) (by decide) <|
    EX0 arg2 harg2 arg3 harg3 arg4 harg4 arg5 harg5 x0 x1 x2 x3 hx _ 0 256 (spB arg12 harg12 xs1 hxs 256 (by decide)) (by decide) (by decide) 0 2 (by decide) (by decide) (by decide) <|
    EX1 arg2 harg2 arg3 harg3 arg4 harg4 arg5 harg5 x0 x1 x2 x3 hx _ 0 0 (spB arg12 harg12 xs1 hxs 0 (by decide)) (by decide) (by decide) 0 1 (by decide) (by decide) (by decide) <|
    EX0 arg2 harg2 arg3 harg3 arg4 harg4 arg5 harg5 x0 x1 x2 x3 hx _ 0 0 (spB arg12 harg12 xs1 hxs 0 (by decide)) (by decide) (by decide) 0 0 (by decide) (by decide) (by decide) <|
    Upto.zero (wI x0 x1 x2 x3) 0 _

include hx hxs in
theorem inv0_B : Rowv kinv (wI x0 x1 x2 x3) 0 (kernelRun0_B.sl.r_34 (F := Ideal) c arg2 harg2 arg3 harg3 arg4 harg4 arg5 harg5 arg12 harg12 x0 x1 x2 x3 xs1) :=
  VI_row (wI x0 x1 x2 x3) 0 _ (rmax0_B c arg2 harg2 arg3 harg3 arg4 harg4 arg5 harg5 arg12 harg12 x0 x1 x2 x3 xs1 hx hxs)

include hx hxs in
theorem scl0_B : Rowv kscl (wI x0 x1 x2 x3) 0 (kernelRun0_B.sl.r_33 (F := Ideal) c arg2 harg2 arg3 harg3 arg4 harg4 arg5 harg5 arg12 harg12 x0 x1 x2 x3 xs1) :=
  VS_row (wI x0 x1 x2 x3) 0 _ (rmax0_B c arg2 harg2 arg3 harg3 arg4 harg4 arg5 harg5 arg12 harg12 x0 x1 x2 x3 xs1 hx hxs)

include hx hxs in
theorem rmax1_B : Upto (wI x0 x1 x2 x3) 1 16 (kernelRun0_B.sl.r_64 (F := Ideal) c arg2 harg2 arg3 harg3 arg4 harg4 arg5 harg5 arg12 harg12 x0 x1 x2 x3 xs1) :=
  EX1 arg2 harg2 arg3 harg3 arg4 harg4 arg5 harg5 x0 x1 x2 x3 hx _ 128 1792 (spB arg12 harg12 xs1 hxs 1792 (by decide)) (by decide) (by decide) 1 15 (by decide) (by decide) (by decide) <|
    EX0 arg2 harg2 arg3 harg3 arg4 harg4 arg5 harg5 x0 x1 x2 x3 hx _ 128 1792 (spB arg12 harg12 xs1 hxs 1792 (by decide)) (by decide) (by decide) 1 14 (by decide) (by decide) (by decide) <|
    EX1 arg2 harg2 arg3 harg3 arg4 harg4 arg5 harg5 x0 x1 x2 x3 hx _ 128 1536 (spB arg12 harg12 xs1 hxs 1536 (by decide)) (by decide) (by decide) 1 13 (by decide) (by decide) (by decide) <|
    EX0 arg2 harg2 arg3 harg3 arg4 harg4 arg5 harg5 x0 x1 x2 x3 hx _ 128 1536 (spB arg12 harg12 xs1 hxs 1536 (by decide)) (by decide) (by decide) 1 12 (by decide) (by decide) (by decide) <|
    EX1 arg2 harg2 arg3 harg3 arg4 harg4 arg5 harg5 x0 x1 x2 x3 hx _ 128 1280 (spB arg12 harg12 xs1 hxs 1280 (by decide)) (by decide) (by decide) 1 11 (by decide) (by decide) (by decide) <|
    EX0 arg2 harg2 arg3 harg3 arg4 harg4 arg5 harg5 x0 x1 x2 x3 hx _ 128 1280 (spB arg12 harg12 xs1 hxs 1280 (by decide)) (by decide) (by decide) 1 10 (by decide) (by decide) (by decide) <|
    EX1 arg2 harg2 arg3 harg3 arg4 harg4 arg5 harg5 x0 x1 x2 x3 hx _ 128 1024 (spB arg12 harg12 xs1 hxs 1024 (by decide)) (by decide) (by decide) 1 9 (by decide) (by decide) (by decide) <|
    EX0 arg2 harg2 arg3 harg3 arg4 harg4 arg5 harg5 x0 x1 x2 x3 hx _ 128 1024 (spB arg12 harg12 xs1 hxs 1024 (by decide)) (by decide) (by decide) 1 8 (by decide) (by decide) (by decide) <|
    EX1 arg2 harg2 arg3 harg3 arg4 harg4 arg5 harg5 x0 x1 x2 x3 hx _ 128 768 (spB arg12 harg12 xs1 hxs 768 (by decide)) (by decide) (by decide) 1 7 (by decide) (by decide) (by decide) <|
    EX0 arg2 harg2 arg3 harg3 arg4 harg4 arg5 harg5 x0 x1 x2 x3 hx _ 128 768 (spB arg12 harg12 xs1 hxs 768 (by decide)) (by decide) (by decide) 1 6 (by decide) (by decide) (by decide) <|
    EX1 arg2 harg2 arg3 harg3 arg4 harg4 arg5 harg5 x0 x1 x2 x3 hx _ 128 512 (spB arg12 harg12 xs1 hxs 512 (by decide)) (by decide) (by decide) 1 5 (by decide) (by decide) (by decide) <|
    EX0 arg2 harg2 arg3 harg3 arg4 harg4 arg5 harg5 x0 x1 x2 x3 hx _ 128 512 (spB arg12 harg12 xs1 hxs 512 (by decide)) (by decide) (by decide) 1 4 (by decide) (by decide) (by decide) <|
    EX1 arg2 harg2 arg3 harg3 arg4 harg4 arg5 harg5 x0 x1 x2 x3 hx _ 128 256 (spB arg12 harg12 xs1 hxs 256 (by decide)) (by decide) (by decide) 1 3 (by decide) (by decide) (by decide) <|
    EX0 arg2 harg2 arg3 harg3 arg4 harg4 arg5 harg5 x0 x1 x2 x3 hx _ 128 256 (spB arg12 harg12 xs1 hxs 256 (by decide)) (by decide) (by decide) 1 2 (by decide) (by decide) (by decide) <|
    EX1 arg2 harg2 arg3 harg3 arg4 harg4 arg5 harg5 x0 x1 x2 x3 hx _ 128 0 (spB arg12 harg12 xs1 hxs 0 (by decide)) (by decide) (by decide) 1 1 (by decide) (by decide) (by decide) <|
    EX0 arg2 harg2 arg3 harg3 arg4 harg4 arg5 harg5 x0 x1 x2 x3 hx _ 128 0 (spB arg12 harg12 xs1 hxs 0 (by decide)) (by decide) (by decide) 1 0 (by decide) (by decide) (by decide) <|
    Upto.zero (wI x0 x1 x2 x3) 1 _

include hx hxs in
theorem inv1_B : Rowv kinv (wI x0 x1 x2 x3) 1 (kernelRun0_B.sl.r_97 (F := Ideal) c arg2 harg2 arg3 harg3 arg4 harg4 arg5 harg5 arg12 harg12 x0 x1 x2 x3 xs1) :=
  VI_row (wI x0 x1 x2 x3) 1 _ (rmax1_B c arg2 harg2 arg3 harg3 arg4 harg4 arg5 harg5 arg12 harg12 x0 x1 x2 x3 xs1 hx hxs)

include hx hxs in
theorem scl1_B : Rowv kscl (wI x0 x1 x2 x3) 1 (kernelRun0_B.sl.r_96 (F := Ideal) c arg2 harg2 arg3 harg3 arg4 harg4 arg5 harg5 arg12 harg12 x0 x1 x2 x3 xs1) :=
  VS_row (wI x0 x1 x2 x3) 1 _ (rmax1_B c arg2 harg2 arg3 harg3 arg4 harg4 arg5 harg5 arg12 harg12 x0 x1 x2 x3 xs1 hx hxs)

include hx hxs in
theorem rmax2_B : Upto (wI x0 x1 x2 x3) 2 16 (kernelRun0_B.sl.r_121 (F := Ideal) c arg2 harg2 arg3 harg3 arg4 harg4 arg5 harg5 arg12 harg12 x0 x1 x2 x3 xs1) :=
  EX1 arg2 harg2 arg3 harg3 arg4 harg4 arg5 harg5 x0 x1 x2 x3 hx _ 256 1792 (spB arg12 harg12 xs1 hxs 1792 (by decide)) (by decide) (by decide) 2 15 (by decide) (by decide) (by decide) <|
    EX0 arg2 harg2 arg3 harg3 arg4 harg4 arg5 harg5 x0 x1 x2 x3 hx _ 256 1792 (spB arg12 harg12 xs1 hxs 1792 (by decide)) (by decide) (by decide) 2 14 (by decide) (by decide) (by decide) <|
    EX1 arg2 harg2 arg3 harg3 arg4 harg4 arg5 harg5 x0 x1 x2 x3 hx _ 256 1536 (spB arg12 harg12 xs1 hxs 1536 (by decide)) (by decide) (by decide) 2 13 (by decide) (by decide) (by decide) <|
    EX0 arg2 harg2 arg3 harg3 arg4 harg4 arg5 harg5 x0 x1 x2 x3 hx _ 256 1536 (spB arg12 harg12 xs1 hxs 1536 (by decide)) (by decide) (by decide) 2 12 (by decide) (by decide) (by decide) <|
    EX1 arg2 harg2 arg3 harg3 arg4 harg4 arg5 harg5 x0 x1 x2 x3 hx _ 256 1280 (spB arg12 harg12 xs1 hxs 1280 (by decide)) (by decide) (by decide) 2 11 (by decide) (by decide) (by decide) <|
    EX0 arg2 harg2 arg3 harg3 arg4 harg4 arg5 harg5 x0 x1 x2 x3 hx _ 256 1280 (spB arg12 harg12 xs1 hxs 1280 (by decide)) (by decide) (by decide) 2 10 (by decide) (by decide) (by decide) <|
    EX1 arg2 harg2 arg3 harg3 arg4 harg4 arg5 harg5 x0 x1 x2 x3 hx _ 256 1024 (spB arg12 harg12 xs1 hxs 1024 (by decide)) (by decide) (by decide) 2 9 (by decide) (by decide) (by decide) <|
    EX0 arg2 harg2 arg3 harg3 arg4 harg4 arg5 harg5 x0 x1 x2 x3 hx _ 256 1024 (spB arg12 harg12 xs1 hxs 1024 (by decide)) (by decide) (by decide) 2 8 (by decide) (by decide) (by decide) <|
    EX1 arg2 harg2 arg3 harg3 arg4 harg4 arg5 harg5 x0 x1 x2 x3 hx _ 256 768 (spB arg12 harg12 xs1 hxs 768 (by decide)) (by decide) (by decide) 2 7 (by decide) (by decide) (by decide) <|
    EX0 arg2 harg2 arg3 harg3 arg4 harg4 arg5 harg5 x0 x1 x2 x3 hx _ 256 768 (spB arg12 harg12 xs1 hxs 768 (by decide)) (by decide) (by decide) 2 6 (by decide) (by decide) (by decide) <|
    EX1 arg2 harg2 arg3 harg3 arg4 harg4 arg5 harg5 x0 x1 x2 x3 hx _ 256 512 (spB arg12 harg12 xs1 hxs 512 (by decide)) (by decide) (by decide) 2 5 (by decide) (by decide) (by decide) <|
    EX0 arg2 harg2 arg3 harg3 arg4 harg4 arg5 harg5 x0 x1 x2 x3 hx _ 256 512 (spB arg12 harg12 xs1 hxs 512 (by decide)) (by decide) (by decide) 2 4 (by decide) (by decide) (by decide) <|
    EX1 arg2 harg2 arg3 harg3 arg4 harg4 arg5 harg5 x0 x1 x2 x3 hx _ 256 256 (spB arg12 harg12 xs1 hxs 256 (by decide)) (by decide) (by decide) 2 3 (by decide) (by decide) (by decide) <|
    EX0 arg2 harg2 arg3 harg3 arg4 harg4 arg5 harg5 x0 x1 x2 x3 hx _ 256 256 (spB arg12 harg12 xs1 hxs 256 (by decide)) (by decide) (by decide) 2 2 (by decide) (by decide) (by decide) <|
    EX1 arg2 harg2 arg3 harg3 arg4 harg4 arg5 harg5 x0 x1 x2 x3 hx _ 256 0 (spB arg12 harg12 xs1 hxs 0 (by decide)) (by decide) (by decide) 2 1 (by decide) (by decide) (by decide) <|
    EX0 arg2 harg2 arg3 harg3 arg4 harg4 arg5 harg5 x0 x1 x2 x3 hx _ 256 0 (spB arg12 harg12 xs1 hxs 0 (by decide)) (by decide) (by decide) 2 0 (by decide) (by decide) (by decide) <|
    Upto.zero (wI x0 x1 x2 x3) 2 _

include hx hxs in
theorem inv2_B : Rowv kinv (wI x0 x1 x2 x3) 2 (kernelRun0_B.sl.r_145 (F := Ideal) c arg2 harg2 arg3 harg3 arg4 harg4 arg5 harg5 arg12 harg12 x0 x1 x2 x3 xs1) :=
  VI_row (wI x0 x1 x2 x3) 2 _ (rmax2_B c arg2 harg2 arg3 harg3 arg4 harg4 arg5 harg5 arg12 harg12 x0 x1 x2 x3 xs1 hx hxs)

include hx hxs in
theorem scl2_B : Rowv kscl (wI x0 x1 x2 x3) 2 (kernelRun0_B.sl.r_144 (F := Ideal) c arg2 harg2 arg3 harg3 arg4 harg4 arg5 harg5 arg12 harg12 x0 x1 x2 x3 xs1) :=
  VS_row (wI x0 x1 x2 x3) 2 _ (rmax2_B c arg2 harg2 arg3 harg3 arg4 harg4 arg5 harg5 arg12 harg12 x0 x1 x2 x3 xs1 hx hxs)

include hx hxs in
theorem rmax3_B : Upto (wI x0 x1 x2 x3) 3 16 (kernelRun0_B.sl.r_172 (F := Ideal) c arg2 harg2 arg3 harg3 arg4 harg4 arg5 harg5 arg12 harg12 x0 x1 x2 x3 xs1) :=
  EX1 arg2 harg2 arg3 harg3 arg4 harg4 arg5 harg5 x0 x1 x2 x3 hx _ 384 1792 (spB arg12 harg12 xs1 hxs 1792 (by decide)) (by decide) (by decide) 3 15 (by decide) (by decide) (by decide) <|
    EX0 arg2 harg2 arg3 harg3 arg4 harg4 arg5 harg5 x0 x1 x2 x3 hx _ 384 1792 (spB arg12 harg12 xs1 hxs 1792 (by decide)) (by decide) (by decide) 3 14 (by decide) (by decide) (by decide) <|
    EX1 arg2 harg2 arg3 harg3 arg4 harg4 arg5 harg5 x0 x1 x2 x3 hx _ 384 1536 (spB arg12 harg12 xs1 hxs 1536 (by decide)) (by decide) (by decide) 3 13 (by decide) (by decide) (by decide) <|
    EX0 arg2 harg2 arg3 harg3 arg4 harg4 arg5 harg5 x0 x1 x2 x3 hx _ 384 1536 (spB arg12 harg12 xs1 hxs 1536 (by decide)) (by decide) (by decide) 3 12 (by decide) (by decide) (by decide) <|
    EX1 arg2 harg2 arg3 harg3 arg4 harg4 arg5 harg5 x0 x1 x2 x3 hx _ 384 1280 (spB arg12 harg12 xs1 hxs 1280 (by decide)) (by decide) (by decide) 3 11 (by decide) (by decide) (by decide) <|
    EX0 arg2 harg2 arg3 harg3 arg4 harg4 arg5 harg5 x0 x1 x2 x3 hx _ 384 1280 (spB arg12 harg12 xs1 hxs 1280 (by decide)) (by decide) (by decide) 3 10 (by decide) (by decide) (by decide) <|
    EX1 arg2 harg2 arg3 harg3 arg4 harg4 arg5 harg5 x0 x1 x2 x3 hx _ 384 1024 (spB arg12 harg12 xs1 hxs 1024 (by decide)) (by decide) (by decide) 3 9 (by decide) (by decide) (by decide) <|
    EX0 arg2 harg2 arg3 harg3 arg4 harg4 arg5 harg5 x0 x1 x2 x3 hx _ 384 1024 (spB arg12 harg12 xs1 hxs 1024 (by decide)) (by decide) (by decide) 3 8 (by decide) (by decide) (by decide) <|
    EX1 arg2 harg2 arg3 harg3 arg4 harg4 arg5 harg5 x0 x1 x2 x3 hx _ 384 768 (spB arg12 harg12 xs1 hxs 768 (by decide)) (by decide) (by decide) 3 7 (by decide) (by decide) (by decide) <|
    EX0 arg2 harg2 arg3 harg3 arg4 harg4 arg5 harg5 x0 x1 x2 x3 hx _ 384 768 (spB arg12 harg12 xs1 hxs 768 (by decide)) (by decide) (by decide) 3 6 (by decide) (by decide) (by decide) <|
    EX1 arg2 harg2 arg3 harg3 arg4 harg4 arg5 harg5 x0 x1 x2 x3 hx _ 384 512 (spB arg12 harg12 xs1 hxs 512 (by decide)) (by decide) (by decide) 3 5 (by decide) (by decide) (by decide) <|
    EX0 arg2 harg2 arg3 harg3 arg4 harg4 arg5 harg5 x0 x1 x2 x3 hx _ 384 512 (spB arg12 harg12 xs1 hxs 512 (by decide)) (by decide) (by decide) 3 4 (by decide) (by decide) (by decide) <|
    EX1 arg2 harg2 arg3 harg3 arg4 harg4 arg5 harg5 x0 x1 x2 x3 hx _ 384 256 (spB arg12 harg12 xs1 hxs 256 (by decide)) (by decide) (by decide) 3 3 (by decide) (by decide) (by decide) <|
    EX0 arg2 harg2 arg3 harg3 arg4 harg4 arg5 harg5 x0 x1 x2 x3 hx _ 384 256 (spB arg12 harg12 xs1 hxs 256 (by decide)) (by decide) (by decide) 3 2 (by decide) (by decide) (by decide) <|
    EX1 arg2 harg2 arg3 harg3 arg4 harg4 arg5 harg5 x0 x1 x2 x3 hx _ 384 0 (spB arg12 harg12 xs1 hxs 0 (by decide)) (by decide) (by decide) 3 1 (by decide) (by decide) (by decide) <|
    EX0 arg2 harg2 arg3 harg3 arg4 harg4 arg5 harg5 x0 x1 x2 x3 hx _ 384 0 (spB arg12 harg12 xs1 hxs 0 (by decide)) (by decide) (by decide) 3 0 (by decide) (by decide) (by decide) <|
    Upto.zero (wI x0 x1 x2 x3) 3 _

include hx hxs in
theorem inv3_B : Rowv kinv (wI x0 x1 x2 x3) 3 (kernelRun0_B.sl.r_202 (F := Ideal) c arg2 harg2 arg3 harg3 arg4 harg4 arg5 harg5 arg12 harg12 x0 x1 x2 x3 xs1) :=
  VI_row (wI x0 x1 x2 x3) 3 _ (rmax3_B c arg2 harg2 arg3 harg3 arg4 harg4 arg5 harg5 arg12 harg12 x0 x1 x2 x3 xs1 hx hxs)

include hx hxs in
theorem scl3_B : Rowv kscl (wI x0 x1 x2 x3) 3 (kernelRun0_B.sl.r_201 (F := Ideal) c arg2 harg2 arg3 harg3 arg4 harg4 arg5 harg5 arg12 harg12 x0 x1 x2 x3 xs1) :=
  VS_row (wI x0 x1 x2 x3) 3 _ (rmax3_B c arg2 harg2 arg3 harg3 arg4 harg4 arg5 harg5 arg12 harg12 x0 x1 x2 x3 xs1 hx hxs)

include hx hxs in
theorem L5_ok_B (i : grid0.Coords) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (harg11 : arg11.IsWhole) (harg13 : arg13.IsWhole) (arg14 : Memref sig .tc .vmem S4x16x128 .f32) (harg14 : arg14.IsWhole) (harg15 : arg15.IsWhole) (hc0 : ¬ cond0_0 i) :
    Ok (e := .fp8e4m3) (qr (wI x0 x1 x2 x3)) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).2.1 :=
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 1792 3 (by decide) (inv3_B c arg2 harg2 arg3 harg3 arg4 harg4 arg5 harg5 arg12 harg12 x0 x1 x2 x3 xs1 hx hxs) (ld arg12 harg12 xs1 (Rect.unit (s := S128x2048) ![0, 1792] S128x256.size (by decide))) (spB arg12 harg12 xs1 hxs 1792 (by decide)) (by decide) ⟨_, List.mem_cons_self, by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 1536 3 (by decide) (inv3_B c arg2 harg2 arg3 harg3 arg4 harg4 arg5 harg5 arg12 harg12 x0 x1 x2 x3 xs1 hx hxs) (ld arg12 harg12 xs1 (Rect.unit (s := S128x2048) ![0, 1536] S128x256.size (by decide))) (spB arg12 harg12 xs1 hxs 1536 (by decide)) (by decide) ⟨_, (List.mem_cons_of_mem _ List.mem_cons_self), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 1280 3 (by decide) (inv3_B c arg2 harg2 arg3 harg3 arg4 harg4 arg5 harg5 arg12 harg12 x0 x1 x2 x3 xs1 hx hxs) (ld arg12 harg12 xs1 (Rect.unit (s := S128x2048) ![0, 1280] S128x256.size (by decide))) (spB arg12 harg12 xs1 hxs 1280 (by decide)) (by decide) ⟨_, (List.mem_cons_of_mem _ (List.mem_cons_of_mem _ List.mem_cons_self)), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 1024 3 (by decide) (inv3_B c arg2 harg2 arg3 harg3 arg4 harg4 arg5 harg5 arg12 harg12 x0 x1 x2 x3 xs1 hx hxs) (ld arg12 harg12 xs1 (Rect.unit (s := S128x2048) ![0, 1024] S128x256.size (by decide))) (spB arg12 harg12 xs1 hxs 1024 (by decide)) (by decide) ⟨_, (List.mem_cons_of_mem _ (List.mem_cons_of_mem _ (List.mem_cons_of_mem _ List.mem_cons_self))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 768 3 (by decide) (inv3_B c arg2 harg2 arg3 harg3 arg4 harg4 arg5 harg5 arg12 harg12 x0 x1 x2 x3 xs1 hx hxs) (ld arg12 harg12 xs1 (Rect.unit (s := S128x2048) ![0, 768] S128x256.size (by decide))) (spB arg12 harg12 xs1 hxs 768 (by decide)) (by decide) ⟨_, (List.mem_cons_of_mem _ (List.mem_cons_of_mem _ (List.mem_cons_of_mem _ (List.mem_cons_of_mem _ List.mem_cons_self)))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 512 3 (by decide) (inv3_B c arg2 harg2 arg3 harg3 arg4 harg4 arg5 harg5 arg12 harg12 x0 x1 x2 x3 xs1 hx hxs) (ld arg12 harg12 xs1 (Rect.unit (s := S128x2048) ![0, 512] S128x256.size (by decide))) (spB arg12 harg12 xs1 hxs 512 (by decide)) (by decide) ⟨_, (List.mem_cons_of_mem _ (List.mem_cons_of_mem _ (List.mem_cons_of_mem _ (List.mem_cons_of_mem _ (List.mem_cons_of_mem _ List.mem_cons_self))))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 256 3 (by decide) (inv3_B c arg2 harg2 arg3 harg3 arg4 harg4 arg5 harg5 arg12 harg12 x0 x1 x2 x3 xs1 hx hxs) (ld arg12 harg12 xs1 (Rect.unit (s := S128x2048) ![0, 256] S128x256.size (by decide))) (spB arg12 harg12 xs1 hxs 256 (by decide)) (by decide) ⟨_, (List.mem_cons_of_mem _ (List.mem_cons_of_mem _ (List.mem_cons_of_mem _ (List.mem_cons_of_mem _ (List.mem_cons_of_mem _ (List.mem_cons_of_mem _ List.mem_cons_self)))))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 0 3 (by decide) (inv3_B c arg2 harg2 arg3 harg3 arg4 harg4 arg5 harg5 arg12 harg12 x0 x1 x2 x3 xs1 hx hxs) (ld arg12 harg12 xs1 (Rect.unit (s := S128x2048) ![0, 0] S128x256.size (by decide))) (spB arg12 harg12 xs1 hxs 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ List.mem_cons_self))))))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 1792 2 (by decide) (inv2_B c arg2 harg2 arg3 harg3 arg4 harg4 arg5 harg5 arg12 harg12 x0 x1 x2 x3 xs1 hx hxs) (ld arg12 harg12 xs1 (Rect.unit (s := S128x2048) ![0, 1792] S128x256.size (by decide))) (spB arg12 harg12 xs1 hxs 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 1536 2 (by decide) (inv2_B c arg2 harg2 arg3 harg3 arg4 harg4 arg5 harg5 arg12 harg12 x0 x1 x2 x3 xs1 hx hxs) (ld arg12 harg12 xs1 (Rect.unit (s := S128x2048) ![0, 1536] S128x256.size (by decide))) (spB arg12 harg12 xs1 hxs 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 1280 2 (by decide) (inv2_B c arg2 harg2 arg3 harg3 arg4 harg4 arg5 harg5 arg12 harg12 x0 x1 x2 x3 xs1 hx hxs) (ld arg12 harg12 xs1 (Rect.unit (s := S128x2048) ![0, 1280] S128x256.size (by decide))) (spB arg12 harg12 xs1 hxs 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 1024 2 (by decide) (inv2_B c arg2 harg2 arg3 harg3 arg4 harg4 arg5 harg5 arg12 harg12 x0 x1 x2 x3 xs1 hx hxs) (ld arg12 harg12 xs1 (Rect.unit (s := S128x2048) ![0, 1024] S128x256.size (by decide))) (spB arg12 harg12 xs1 hxs 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 768 2 (by decide) (inv2_B c arg2 harg2 arg3 harg3 arg4 harg4 arg5 harg5 arg12 harg12 x0 x1 x2 x3 xs1 hx hxs) (ld arg12 harg12 xs1 (Rect.unit (s := S128x2048) ![0, 768] S128x256.size (by decide))) (spB arg12 harg12 xs1 hxs 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 512 2 (by decide) (inv2_B c arg2 harg2 arg3 harg3 arg4 harg4 arg5 harg5 arg12 harg12 x0 x1 x2 x3 xs1 hx hxs) (ld arg12 harg12 xs1 (Rect.unit (s := S128x2048) ![0, 512] S128x256.size (by decide))) (spB arg12 harg12 xs1 hxs 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 256 2 (by decide) (inv2_B c arg2 harg2 arg3 harg3 arg4 harg4 arg5 harg5 arg12 harg12 x0 x1 x2 x3 xs1 hx hxs) (ld arg12 harg12 xs1 (Rect.unit (s := S128x2048) ![0, 256] S128x256.size (by decide))) (spB arg12 harg12 xs1 hxs 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => RX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 0 2 (by decide) (inv2_B c arg2 harg2 arg3 harg3 arg4 harg4 arg5 harg5 arg12 harg12 x0 x1 x2 x3 xs1 hx hxs) (ld arg12 harg12 xs1 (Rect.unit (s := S128x2048) ![0, 0] S128x256.size (by decide))) (spB arg12 harg12 xs1 hxs 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.cons (fun x => RX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 1792 1 (by decide) (inv1_B c arg2 harg2 arg3 harg3 arg4 harg4 arg5 harg5 arg12 harg12 x0 x1 x2 x3 xs1 hx hxs) (ld arg12 harg12 xs1 (Rect.unit (s := S128x2048) ![0, 1792] S128x256.size (by decide))) (spB arg12 harg12 xs1 hxs 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => RX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 1536 1 (by decide) (inv1_B c arg2 harg2 arg3 harg3 arg4 harg4 arg5 harg5 arg12 harg12 x0 x1 x2 x3 xs1 hx hxs) (ld arg12 harg12 xs1 (Rect.unit (s := S128x2048) ![0, 1536] S128x256.size (by decide))) (spB arg12 harg12 xs1 hxs 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => RX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 1280 1 (by decide) (inv1_B c arg2 harg2 arg3 harg3 arg4 harg4 arg5 harg5 arg12 harg12 x0 x1 x2 x3 xs1 hx hxs) (ld arg12 harg12 xs1 (Rect.unit (s := S128x2048) ![0, 1280] S128x256.size (by decide))) (spB arg12 harg12 xs1 hxs 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => RX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 1024 1 (by decide) (inv1_B c arg2 harg2 arg3 harg3 arg4 harg4 arg5 harg5 arg12 harg12 x0 x1 x2 x3 xs1 hx hxs) (ld arg12 harg12 xs1 (Rect.unit (s := S128x2048) ![0, 1024] S128x256.size (by decide))) (spB arg12 harg12 xs1 hxs 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => RX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 768 1 (by decide) (inv1_B c arg2 harg2 arg3 harg3 arg4 harg4 arg5 harg5 arg12 harg12 x0 x1 x2 x3 xs1 hx hxs) (ld arg12 harg12 xs1 (Rect.unit (s := S128x2048) ![0, 768] S128x256.size (by decide))) (spB arg12 harg12 xs1 hxs 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => RX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 512 1 (by decide) (inv1_B c arg2 harg2 arg3 harg3 arg4 harg4 arg5 harg5 arg12 harg12 x0 x1 x2 x3 xs1 hx hxs) (ld arg12 harg12 xs1 (Rect.unit (s := S128x2048) ![0, 512] S128x256.size (by decide))) (spB arg12 harg12 xs1 hxs 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => RX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 256 1 (by decide) (inv1_B c arg2 harg2 arg3 harg3 arg4 harg4 arg5 harg5 arg12 harg12 x0 x1 x2 x3 xs1 hx hxs) (ld arg12 harg12 xs1 (Rect.unit (s := S128x2048) ![0, 256] S128x256.size (by decide))) (spB arg12 harg12 xs1 hxs 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => RX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 0 1 (by decide) (inv1_B c arg2 harg2 arg3 harg3 arg4 harg4 arg5 harg5 arg12 harg12 x0 x1 x2 x3 xs1 hx hxs) (ld arg12 harg12 xs1 (Rect.unit (s := S128x2048) ![0, 0] S128x256.size (by decide))) (spB arg12 harg12 xs1 hxs 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.cons (fun x => RX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 1792 0 (by decide) (inv0_B c arg2 harg2 arg3 harg3 arg4 harg4 arg5 harg5 arg12 harg12 x0 x1 x2 x3 xs1 hx hxs) (ld arg12 harg12 xs1 (Rect.unit (s := S128x2048) ![0, 1792] S128x256.size (by decide))) (spB arg12 harg12 xs1 hxs 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => RX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 1536 0 (by decide) (inv0_B c arg2 harg2 arg3 harg3 arg4 harg4 arg5 harg5 arg12 harg12 x0 x1 x2 x3 xs1 hx hxs) (ld arg12 harg12 xs1 (Rect.unit (s := S128x2048) ![0, 1536] S128x256.size (by decide))) (spB arg12 harg12 xs1 hxs 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => RX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 1280 0 (by decide) (inv0_B c arg2 harg2 arg3 harg3 arg4 harg4 arg5 harg5 arg12 harg12 x0 x1 x2 x3 xs1 hx hxs) (ld arg12 harg12 xs1 (Rect.unit (s := S128x2048) ![0, 1280] S128x256.size (by decide))) (spB arg12 harg12 xs1 hxs 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => RX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 1024 0 (by decide) (inv0_B c arg2 harg2 arg3 harg3 arg4 harg4 arg5 harg5 arg12 harg12 x0 x1 x2 x3 xs1 hx hxs) (ld arg12 harg12 xs1 (Rect.unit (s := S128x2048) ![0, 1024] S128x256.size (by decide))) (spB arg12 harg12 xs1 hxs 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => RX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 768 0 (by decide) (inv0_B c arg2 harg2 arg3 harg3 arg4 harg4 arg5 harg5 arg12 harg12 x0 x1 x2 x3 xs1 hx hxs) (ld arg12 harg12 xs1 (Rect.unit (s := S128x2048) ![0, 768] S128x256.size (by decide))) (spB arg12 harg12 xs1 hxs 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => RX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 512 0 (by decide) (inv0_B c arg2 harg2 arg3 harg3 arg4 harg4 arg5 harg5 arg12 harg12 x0 x1 x2 x3 xs1 hx hxs) (ld arg12 harg12 xs1 (Rect.unit (s := S128x2048) ![0, 512] S128x256.size (by decide))) (spB arg12 harg12 xs1 hxs 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => RX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 256 0 (by decide) (inv0_B c arg2 harg2 arg3 harg3 arg4 harg4 arg5 harg5 arg12 harg12 x0 x1 x2 x3 xs1 hx hxs) (ld arg12 harg12 xs1 (Rect.unit (s := S128x2048) ![0, 256] S128x256.size (by decide))) (spB arg12 harg12 xs1 hxs 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => RX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 0 0 (by decide) (inv0_B c arg2 harg2 arg3 harg3 arg4 harg4 arg5 harg5 arg12 harg12 x0 x1 x2 x3 xs1 hx hxs) (ld arg12 harg12 xs1 (Rect.unit (s := S128x2048) ![0, 0] S128x256.size (by decide))) (spB arg12 harg12 xs1 hxs 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.nil

include hx hxs in
theorem L4_ok_B (i : grid0.Coords) (arg6 : Memref sig .tc .vmem S512x2048 .bf16) (harg6 : arg6.IsWhole) (arg7 : Memref sig .tc .vmem S512x2048 .fp8e4m3) (harg7 : arg7.IsWhole) (arg8 : Memref sig .tc .vmem S1x16x512 .f32) (harg8 : arg8.IsWhole) (arg9 : Memref sig .tc .vmem S512x2048 .fp8e4m3) (harg9 : arg9.IsWhole) (arg10 : Memref sig .tc .vmem S1x44x2048 .f32) (harg10 : arg10.IsWhole) (harg11 : arg11.IsWhole) (harg13 : arg13.IsWhole) (arg14 : Memref sig .tc .vmem S4x16x128 .f32) (harg14 : arg14.IsWhole) (harg15 : arg15.IsWhole) (hc0 : ¬ cond0_0 i) :
    Ok (e := .bf16) (rr (wI x0 x1 x2 x3)) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 xs1).1 :=
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 1792 3 (by decide) (inv3_B c arg2 harg2 arg3 harg3 arg4 harg4 arg5 harg5 arg12 harg12 x0 x1 x2 x3 xs1 hx hxs) (scl3_B c arg2 harg2 arg3 harg3 arg4 harg4 arg5 harg5 arg12 harg12 x0 x1 x2 x3 xs1 hx hxs) (ld arg12 harg12 xs1 (Rect.unit (s := S128x2048) ![0, 1792] S128x256.size (by decide))) (spB arg12 harg12 xs1 hxs 1792 (by decide)) (by decide) ⟨_, List.mem_cons_self, by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 1536 3 (by decide) (inv3_B c arg2 harg2 arg3 harg3 arg4 harg4 arg5 harg5 arg12 harg12 x0 x1 x2 x3 xs1 hx hxs) (scl3_B c arg2 harg2 arg3 harg3 arg4 harg4 arg5 harg5 arg12 harg12 x0 x1 x2 x3 xs1 hx hxs) (ld arg12 harg12 xs1 (Rect.unit (s := S128x2048) ![0, 1536] S128x256.size (by decide))) (spB arg12 harg12 xs1 hxs 1536 (by decide)) (by decide) ⟨_, (List.mem_cons_of_mem _ List.mem_cons_self), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 1280 3 (by decide) (inv3_B c arg2 harg2 arg3 harg3 arg4 harg4 arg5 harg5 arg12 harg12 x0 x1 x2 x3 xs1 hx hxs) (scl3_B c arg2 harg2 arg3 harg3 arg4 harg4 arg5 harg5 arg12 harg12 x0 x1 x2 x3 xs1 hx hxs) (ld arg12 harg12 xs1 (Rect.unit (s := S128x2048) ![0, 1280] S128x256.size (by decide))) (spB arg12 harg12 xs1 hxs 1280 (by decide)) (by decide) ⟨_, (List.mem_cons_of_mem _ (List.mem_cons_of_mem _ List.mem_cons_self)), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 1024 3 (by decide) (inv3_B c arg2 harg2 arg3 harg3 arg4 harg4 arg5 harg5 arg12 harg12 x0 x1 x2 x3 xs1 hx hxs) (scl3_B c arg2 harg2 arg3 harg3 arg4 harg4 arg5 harg5 arg12 harg12 x0 x1 x2 x3 xs1 hx hxs) (ld arg12 harg12 xs1 (Rect.unit (s := S128x2048) ![0, 1024] S128x256.size (by decide))) (spB arg12 harg12 xs1 hxs 1024 (by decide)) (by decide) ⟨_, (List.mem_cons_of_mem _ (List.mem_cons_of_mem _ (List.mem_cons_of_mem _ List.mem_cons_self))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 768 3 (by decide) (inv3_B c arg2 harg2 arg3 harg3 arg4 harg4 arg5 harg5 arg12 harg12 x0 x1 x2 x3 xs1 hx hxs) (scl3_B c arg2 harg2 arg3 harg3 arg4 harg4 arg5 harg5 arg12 harg12 x0 x1 x2 x3 xs1 hx hxs) (ld arg12 harg12 xs1 (Rect.unit (s := S128x2048) ![0, 768] S128x256.size (by decide))) (spB arg12 harg12 xs1 hxs 768 (by decide)) (by decide) ⟨_, (List.mem_cons_of_mem _ (List.mem_cons_of_mem _ (List.mem_cons_of_mem _ (List.mem_cons_of_mem _ List.mem_cons_self)))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 512 3 (by decide) (inv3_B c arg2 harg2 arg3 harg3 arg4 harg4 arg5 harg5 arg12 harg12 x0 x1 x2 x3 xs1 hx hxs) (scl3_B c arg2 harg2 arg3 harg3 arg4 harg4 arg5 harg5 arg12 harg12 x0 x1 x2 x3 xs1 hx hxs) (ld arg12 harg12 xs1 (Rect.unit (s := S128x2048) ![0, 512] S128x256.size (by decide))) (spB arg12 harg12 xs1 hxs 512 (by decide)) (by decide) ⟨_, (List.mem_cons_of_mem _ (List.mem_cons_of_mem _ (List.mem_cons_of_mem _ (List.mem_cons_of_mem _ (List.mem_cons_of_mem _ List.mem_cons_self))))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 256 3 (by decide) (inv3_B c arg2 harg2 arg3 harg3 arg4 harg4 arg5 harg5 arg12 harg12 x0 x1 x2 x3 xs1 hx hxs) (scl3_B c arg2 harg2 arg3 harg3 arg4 harg4 arg5 harg5 arg12 harg12 x0 x1 x2 x3 xs1 hx hxs) (ld arg12 harg12 xs1 (Rect.unit (s := S128x2048) ![0, 256] S128x256.size (by decide))) (spB arg12 harg12 xs1 hxs 256 (by decide)) (by decide) ⟨_, (List.mem_cons_of_mem _ (List.mem_cons_of_mem _ (List.mem_cons_of_mem _ (List.mem_cons_of_mem _ (List.mem_cons_of_mem _ (List.mem_cons_of_mem _ List.mem_cons_self)))))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 384 0 3 (by decide) (inv3_B c arg2 harg2 arg3 harg3 arg4 harg4 arg5 harg5 arg12 harg12 x0 x1 x2 x3 xs1 hx hxs) (scl3_B c arg2 harg2 arg3 harg3 arg4 harg4 arg5 harg5 arg12 harg12 x0 x1 x2 x3 xs1 hx hxs) (ld arg12 harg12 xs1 (Rect.unit (s := S128x2048) ![0, 0] S128x256.size (by decide))) (spB arg12 harg12 xs1 hxs 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ List.mem_cons_self))))))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 1792 2 (by decide) (inv2_B c arg2 harg2 arg3 harg3 arg4 harg4 arg5 harg5 arg12 harg12 x0 x1 x2 x3 xs1 hx hxs) (scl2_B c arg2 harg2 arg3 harg3 arg4 harg4 arg5 harg5 arg12 harg12 x0 x1 x2 x3 xs1 hx hxs) (ld arg12 harg12 xs1 (Rect.unit (s := S128x2048) ![0, 1792] S128x256.size (by decide))) (spB arg12 harg12 xs1 hxs 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 1536 2 (by decide) (inv2_B c arg2 harg2 arg3 harg3 arg4 harg4 arg5 harg5 arg12 harg12 x0 x1 x2 x3 xs1 hx hxs) (scl2_B c arg2 harg2 arg3 harg3 arg4 harg4 arg5 harg5 arg12 harg12 x0 x1 x2 x3 xs1 hx hxs) (ld arg12 harg12 xs1 (Rect.unit (s := S128x2048) ![0, 1536] S128x256.size (by decide))) (spB arg12 harg12 xs1 hxs 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 1280 2 (by decide) (inv2_B c arg2 harg2 arg3 harg3 arg4 harg4 arg5 harg5 arg12 harg12 x0 x1 x2 x3 xs1 hx hxs) (scl2_B c arg2 harg2 arg3 harg3 arg4 harg4 arg5 harg5 arg12 harg12 x0 x1 x2 x3 xs1 hx hxs) (ld arg12 harg12 xs1 (Rect.unit (s := S128x2048) ![0, 1280] S128x256.size (by decide))) (spB arg12 harg12 xs1 hxs 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 1024 2 (by decide) (inv2_B c arg2 harg2 arg3 harg3 arg4 harg4 arg5 harg5 arg12 harg12 x0 x1 x2 x3 xs1 hx hxs) (scl2_B c arg2 harg2 arg3 harg3 arg4 harg4 arg5 harg5 arg12 harg12 x0 x1 x2 x3 xs1 hx hxs) (ld arg12 harg12 xs1 (Rect.unit (s := S128x2048) ![0, 1024] S128x256.size (by decide))) (spB arg12 harg12 xs1 hxs 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 768 2 (by decide) (inv2_B c arg2 harg2 arg3 harg3 arg4 harg4 arg5 harg5 arg12 harg12 x0 x1 x2 x3 xs1 hx hxs) (scl2_B c arg2 harg2 arg3 harg3 arg4 harg4 arg5 harg5 arg12 harg12 x0 x1 x2 x3 xs1 hx hxs) (ld arg12 harg12 xs1 (Rect.unit (s := S128x2048) ![0, 768] S128x256.size (by decide))) (spB arg12 harg12 xs1 hxs 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 512 2 (by decide) (inv2_B c arg2 harg2 arg3 harg3 arg4 harg4 arg5 harg5 arg12 harg12 x0 x1 x2 x3 xs1 hx hxs) (scl2_B c arg2 harg2 arg3 harg3 arg4 harg4 arg5 harg5 arg12 harg12 x0 x1 x2 x3 xs1 hx hxs) (ld arg12 harg12 xs1 (Rect.unit (s := S128x2048) ![0, 512] S128x256.size (by decide))) (spB arg12 harg12 xs1 hxs 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 256 2 (by decide) (inv2_B c arg2 harg2 arg3 harg3 arg4 harg4 arg5 harg5 arg12 harg12 x0 x1 x2 x3 xs1 hx hxs) (scl2_B c arg2 harg2 arg3 harg3 arg4 harg4 arg5 harg5 arg12 harg12 x0 x1 x2 x3 xs1 hx hxs) (ld arg12 harg12 xs1 (Rect.unit (s := S128x2048) ![0, 256] S128x256.size (by decide))) (spB arg12 harg12 xs1 hxs 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => DX arg11 (wI x0 x1 x2 x3) (kernelRun0_B.sl.HS0_32 (F := Ideal) c arg2 harg2 arg3 harg3 arg4 harg4 arg5 harg5 arg12 harg12 x0 x1 x2 x3 xs1) (HS0_32_ok_B c arg2 harg2 arg3 harg3 arg4 harg4 arg5 harg5 arg12 harg12 x0 x1 x2 x3 xs1 hx hxs) 256 0 2 (by decide) (inv2_B c arg2 harg2 arg3 harg3 arg4 harg4 arg5 harg5 arg12 harg12 x0 x1 x2 x3 xs1 hx hxs) (scl2_B c arg2 harg2 arg3 harg3 arg4 harg4 arg5 harg5 arg12 harg12 x0 x1 x2 x3 xs1 hx hxs) (ld arg12 harg12 xs1 (Rect.unit (s := S128x2048) ![0, 0] S128x256.size (by decide))) (spB arg12 harg12 xs1 hxs 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.cons (fun x => DX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 1792 1 (by decide) (inv1_B c arg2 harg2 arg3 harg3 arg4 harg4 arg5 harg5 arg12 harg12 x0 x1 x2 x3 xs1 hx hxs) (scl1_B c arg2 harg2 arg3 harg3 arg4 harg4 arg5 harg5 arg12 harg12 x0 x1 x2 x3 xs1 hx hxs) (ld arg12 harg12 xs1 (Rect.unit (s := S128x2048) ![0, 1792] S128x256.size (by decide))) (spB arg12 harg12 xs1 hxs 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => DX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 1536 1 (by decide) (inv1_B c arg2 harg2 arg3 harg3 arg4 harg4 arg5 harg5 arg12 harg12 x0 x1 x2 x3 xs1 hx hxs) (scl1_B c arg2 harg2 arg3 harg3 arg4 harg4 arg5 harg5 arg12 harg12 x0 x1 x2 x3 xs1 hx hxs) (ld arg12 harg12 xs1 (Rect.unit (s := S128x2048) ![0, 1536] S128x256.size (by decide))) (spB arg12 harg12 xs1 hxs 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => DX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 1280 1 (by decide) (inv1_B c arg2 harg2 arg3 harg3 arg4 harg4 arg5 harg5 arg12 harg12 x0 x1 x2 x3 xs1 hx hxs) (scl1_B c arg2 harg2 arg3 harg3 arg4 harg4 arg5 harg5 arg12 harg12 x0 x1 x2 x3 xs1 hx hxs) (ld arg12 harg12 xs1 (Rect.unit (s := S128x2048) ![0, 1280] S128x256.size (by decide))) (spB arg12 harg12 xs1 hxs 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => DX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 1024 1 (by decide) (inv1_B c arg2 harg2 arg3 harg3 arg4 harg4 arg5 harg5 arg12 harg12 x0 x1 x2 x3 xs1 hx hxs) (scl1_B c arg2 harg2 arg3 harg3 arg4 harg4 arg5 harg5 arg12 harg12 x0 x1 x2 x3 xs1 hx hxs) (ld arg12 harg12 xs1 (Rect.unit (s := S128x2048) ![0, 1024] S128x256.size (by decide))) (spB arg12 harg12 xs1 hxs 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => DX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 768 1 (by decide) (inv1_B c arg2 harg2 arg3 harg3 arg4 harg4 arg5 harg5 arg12 harg12 x0 x1 x2 x3 xs1 hx hxs) (scl1_B c arg2 harg2 arg3 harg3 arg4 harg4 arg5 harg5 arg12 harg12 x0 x1 x2 x3 xs1 hx hxs) (ld arg12 harg12 xs1 (Rect.unit (s := S128x2048) ![0, 768] S128x256.size (by decide))) (spB arg12 harg12 xs1 hxs 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => DX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 512 1 (by decide) (inv1_B c arg2 harg2 arg3 harg3 arg4 harg4 arg5 harg5 arg12 harg12 x0 x1 x2 x3 xs1 hx hxs) (scl1_B c arg2 harg2 arg3 harg3 arg4 harg4 arg5 harg5 arg12 harg12 x0 x1 x2 x3 xs1 hx hxs) (ld arg12 harg12 xs1 (Rect.unit (s := S128x2048) ![0, 512] S128x256.size (by decide))) (spB arg12 harg12 xs1 hxs 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => DX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 256 1 (by decide) (inv1_B c arg2 harg2 arg3 harg3 arg4 harg4 arg5 harg5 arg12 harg12 x0 x1 x2 x3 xs1 hx hxs) (scl1_B c arg2 harg2 arg3 harg3 arg4 harg4 arg5 harg5 arg12 harg12 x0 x1 x2 x3 xs1 hx hxs) (ld arg12 harg12 xs1 (Rect.unit (s := S128x2048) ![0, 256] S128x256.size (by decide))) (spB arg12 harg12 xs1 hxs 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => DX arg11 (wI x0 x1 x2 x3) (kernelRun0_B.sl.HS0_24 (F := Ideal) c arg2 harg2 arg3 harg3 arg4 harg4 arg5 harg5 arg12 harg12 x0 x1 x2 x3 xs1) (HS0_24_ok_B c arg2 harg2 arg3 harg3 arg4 harg4 arg5 harg5 arg12 harg12 x0 x1 x2 x3 xs1 hx hxs) 128 0 1 (by decide) (inv1_B c arg2 harg2 arg3 harg3 arg4 harg4 arg5 harg5 arg12 harg12 x0 x1 x2 x3 xs1 hx hxs) (scl1_B c arg2 harg2 arg3 harg3 arg4 harg4 arg5 harg5 arg12 harg12 x0 x1 x2 x3 xs1 hx hxs) (ld arg12 harg12 xs1 (Rect.unit (s := S128x2048) ![0, 0] S128x256.size (by decide))) (spB arg12 harg12 xs1 hxs 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.cons (fun x => DX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 1792 0 (by decide) (inv0_B c arg2 harg2 arg3 harg3 arg4 harg4 arg5 harg5 arg12 harg12 x0 x1 x2 x3 xs1 hx hxs) (scl0_B c arg2 harg2 arg3 harg3 arg4 harg4 arg5 harg5 arg12 harg12 x0 x1 x2 x3 xs1 hx hxs) (ld arg12 harg12 xs1 (Rect.unit (s := S128x2048) ![0, 1792] S128x256.size (by decide))) (spB arg12 harg12 xs1 hxs 1792 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), by decide, rfl⟩ x) <|
  Ok.cons (fun x => DX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 1536 0 (by decide) (inv0_B c arg2 harg2 arg3 harg3 arg4 harg4 arg5 harg5 arg12 harg12 x0 x1 x2 x3 xs1 hx hxs) (scl0_B c arg2 harg2 arg3 harg3 arg4 harg4 arg5 harg5 arg12 harg12 x0 x1 x2 x3 xs1 hx hxs) (ld arg12 harg12 xs1 (Rect.unit (s := S128x2048) ![0, 1536] S128x256.size (by decide))) (spB arg12 harg12 xs1 hxs 1536 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), by decide, rfl⟩ x) <|
  Ok.cons (fun x => DX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 1280 0 (by decide) (inv0_B c arg2 harg2 arg3 harg3 arg4 harg4 arg5 harg5 arg12 harg12 x0 x1 x2 x3 xs1 hx hxs) (scl0_B c arg2 harg2 arg3 harg3 arg4 harg4 arg5 harg5 arg12 harg12 x0 x1 x2 x3 xs1 hx hxs) (ld arg12 harg12 xs1 (Rect.unit (s := S128x2048) ![0, 1280] S128x256.size (by decide))) (spB arg12 harg12 xs1 hxs 1280 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), by decide, rfl⟩ x) <|
  Ok.cons (fun x => DX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 1024 0 (by decide) (inv0_B c arg2 harg2 arg3 harg3 arg4 harg4 arg5 harg5 arg12 harg12 x0 x1 x2 x3 xs1 hx hxs) (scl0_B c arg2 harg2 arg3 harg3 arg4 harg4 arg5 harg5 arg12 harg12 x0 x1 x2 x3 xs1 hx hxs) (ld arg12 harg12 xs1 (Rect.unit (s := S128x2048) ![0, 1024] S128x256.size (by decide))) (spB arg12 harg12 xs1 hxs 1024 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), by decide, rfl⟩ x) <|
  Ok.cons (fun x => DX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 768 0 (by decide) (inv0_B c arg2 harg2 arg3 harg3 arg4 harg4 arg5 harg5 arg12 harg12 x0 x1 x2 x3 xs1 hx hxs) (scl0_B c arg2 harg2 arg3 harg3 arg4 harg4 arg5 harg5 arg12 harg12 x0 x1 x2 x3 xs1 hx hxs) (ld arg12 harg12 xs1 (Rect.unit (s := S128x2048) ![0, 768] S128x256.size (by decide))) (spB arg12 harg12 xs1 hxs 768 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), by decide, rfl⟩ x) <|
  Ok.cons (fun x => DX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 512 0 (by decide) (inv0_B c arg2 harg2 arg3 harg3 arg4 harg4 arg5 harg5 arg12 harg12 x0 x1 x2 x3 xs1 hx hxs) (scl0_B c arg2 harg2 arg3 harg3 arg4 harg4 arg5 harg5 arg12 harg12 x0 x1 x2 x3 xs1 hx hxs) (ld arg12 harg12 xs1 (Rect.unit (s := S128x2048) ![0, 512] S128x256.size (by decide))) (spB arg12 harg12 xs1 hxs 512 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), by decide, rfl⟩ x) <|
  Ok.cons (fun x => DX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 256 0 (by decide) (inv0_B c arg2 harg2 arg3 harg3 arg4 harg4 arg5 harg5 arg12 harg12 x0 x1 x2 x3 xs1 hx hxs) (scl0_B c arg2 harg2 arg3 harg3 arg4 harg4 arg5 harg5 arg12 harg12 x0 x1 x2 x3 xs1 hx hxs) (ld arg12 harg12 xs1 (Rect.unit (s := S128x2048) ![0, 256] S128x256.size (by decide))) (spB arg12 harg12 xs1 hxs 256 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), by decide, rfl⟩ x) <|
  Ok.cons (fun x => DX arg11 (wI x0 x1 x2 x3) (kernelRun0_B.sl.HS0_16 (F := Ideal) c arg2 harg2 arg3 harg3 arg4 harg4 arg5 harg5 arg12 harg12 x0 x1 x2 x3 xs1) (HS0_16_ok_B c arg2 harg2 arg3 harg3 arg4 harg4 arg5 harg5 arg12 harg12 x0 x1 x2 x3 xs1 hx hxs) 0 0 0 (by decide) (inv0_B c arg2 harg2 arg3 harg3 arg4 harg4 arg5 harg5 arg12 harg12 x0 x1 x2 x3 xs1 hx hxs) (scl0_B c arg2 harg2 arg3 harg3 arg4 harg4 arg5 harg5 arg12 harg12 x0 x1 x2 x3 xs1 hx hxs) (ld arg12 harg12 xs1 (Rect.unit (s := S128x2048) ![0, 0] S128x256.size (by decide))) (spB arg12 harg12 xs1 hxs 0 (by decide)) (by decide) ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), by decide, rfl⟩ x) <|
  Ok.nil

end CaseB

end Cert.KernelIdeal.Run
-- ==== Proof.KValue.lean ====
module

public import proofs.«01_k».proof.Proof.KFrame
public import proofs.«01_k».proof.Proof.KRowA
public import proofs.«01_k».proof.Proof.KRowB
public import Idealize.ShloMosaic.Lib.Pipeline.Value

/-! The arrays of codes and residuals that the ideal kernel ends with, as functions of the arguments. -/

@[expose] public section

set_option maxRecDepth 16384

noncomputable section

open scoped BigOperators

namespace Cert.KernelIdeal.Run

open Cert.KernelIdeal Cert.KernelIdeal.Gen Idealize.ShloMosaic Idealize.ShloMosaic.ValueIdx Idealize.ShloMosaic.TcCoe Idealize.SL.Sem Cert.Quant
open Idealize.ShloMosaic.Pipeline (Dat)

/-- The weight of flat row `R` and column `C`. -/
def gW (a0 : Vec Ideal S3x5632x2048 .fp8e4m3) (a1 : Vec Ideal S3x5632x16 .f32) (a2 : Vec Ideal S3x5632x2048 .bf16) (a3 : Vec Ideal S3x5632x2048 .f32)
    (R : Fin 16896) (C : Fin 2048) : EReal :=
  a0 (ix3 (⟨R.val / 5632, by omega⟩ : Fin 3) (⟨R.val % 5632, by omega⟩ : Fin 5632) C)
    * a1 (ix3 (⟨R.val / 5632, by omega⟩ : Fin 3) (⟨R.val % 5632, by omega⟩ : Fin 5632) (grp C))
    + a2 (ix3 (⟨R.val / 5632, by omega⟩ : Fin 3) (⟨R.val % 5632, by omega⟩ : Fin 5632) C)
    + a3 (ix3 (⟨R.val / 5632, by omega⟩ : Fin 3) (⟨R.val % 5632, by omega⟩ : Fin 5632) C)

/-- The largest magnitude in the group of 128 rows `B` of column `C`. -/
def gM (W : Fin 16896 → Fin 2048 → EReal) (B : Fin 132) (C : Fin 2048) : EReal :=
  (Finset.univ : Finset (Fin 128)).fold max (Ideal.ofBits .f32 0xFF800000#32) fun k =>
    max (W ⟨128 * B.val + k.val, by omega⟩ C) (-(W ⟨128 * B.val + k.val, by omega⟩ C))

/-- The column codes. -/
def QC (W : Fin 16896 → Fin 2048 → EReal) (R : Fin 16896) (C : Fin 2048) : EReal :=
  min (Ideal.ofBits .f32 0x43E00000#32) (max (Ideal.ofBits .f32 0xC3E00000#32) (W R C * kinv (gM W ⟨R.val / 128, by omega⟩ C)))

theorem qc_eq (w : S512x2048.Idx → EReal) (W : Fin 16896 → Fin 2048 → EReal) (t : ℕ) (ht : t < 33)
    (h : ∀ (a : Fin 512) (c : Fin 2048), w (ix2 a c) = W ⟨512 * t + a.val, by omega⟩ c) (a : Fin 512) (c : Fin 2048) :
    qc w (ix2 a c) = QC W ⟨512 * t + a.val, by omega⟩ c := by
  unfold qc QC gi
  rw [h]
  congr 4
  unfold gm gM
  refine congrArg (fun f => (Finset.univ : Finset (Fin 128)).fold max (Ideal.ofBits .f32 0xFF800000#32) f) (funext fun k => ?_)
  rw [h]
  have e1 : (⟨512 * t + (128 * (a.val / 128) + k.val), by omega⟩ : Fin 16896) = ⟨128 * ((512 * t + a.val) / 128) + k.val, by omega⟩ :=
    Fin.ext (by show 512 * t + (128 * (a.val / 128) + k.val) = 128 * ((512 * t + a.val) / 128) + k.val; omega)
  have e2 : (⟨128 * (c.val / 128) + c.val % 128, by omega⟩ : Fin 2048) = c := Fin.ext (by show 128 * (c.val / 128) + c.val % 128 = c.val; omega)
  show max (W (⟨512 * t + (128 * (a.val / 128) + k.val), _⟩ : Fin 16896) (⟨128 * (c.val / 128) + c.val % 128, _⟩ : Fin 2048))
    (-(W (⟨512 * t + (128 * (a.val / 128) + k.val), _⟩ : Fin 16896) (⟨128 * (c.val / 128) + c.val % 128, _⟩ : Fin 2048))) = _
  rw [e1, e2]

/-- The largest magnitude in the group of 128 columns `g` of row `R`. -/
def gR (W : Fin 16896 → Fin 2048 → EReal) (R : Fin 16896) (g : Fin 16) : EReal :=
  (Finset.univ : Finset (Fin 128)).fold max (Ideal.ofBits .f32 0xFF800000#32) fun k =>
    max (W R ⟨128 * g.val + k.val, by omega⟩) (-(W R ⟨128 * g.val + k.val, by omega⟩))

/-- The row codes. -/
def QR (W : Fin 16896 → Fin 2048 → EReal) (R : Fin 16896) (C : Fin 2048) : EReal :=
  min (Ideal.ofBits .f32 0x43E00000#32) (max (Ideal.ofBits .f32 0xC3E00000#32) (W R C * kinv (gR W R (grp C))))

/-- The residuals. -/
def RN (W : Fin 16896 → Fin 2048 → EReal) (R : Fin 16896) (C : Fin 2048) : EReal :=
  W R C - QR W R C * kscl (gR W R (grp C))

section Block

variable (w : S512x2048.Idx → EReal) (W : Fin 16896 → Fin 2048 → EReal) (t : ℕ) (ht : t < 33)
  (h : ∀ (a : Fin 512) (c : Fin 2048), w (ix2 a c) = W ⟨512 * t + a.val, by omega⟩ c) (a : Fin 512) (c : Fin 2048)
include h

theorem rm_eq (g : Fin 16) : rm w a g = gR W ⟨512 * t + a.val, by omega⟩ g := by
  unfold rm gR
  refine congrArg (fun f => (Finset.univ : Finset (Fin 128)).fold max (Ideal.ofBits .f32 0xFF800000#32) f) (funext fun k => ?_)
  rw [h]

theorem qr_eq : qr w (ix2 a c) = QR W ⟨512 * t + a.val, by omega⟩ c := by
  show min (Ideal.ofBits .f32 0x43E00000#32) (max (Ideal.ofBits .f32 0xC3E00000#32) (w (ix2 a c) * kinv (rm w a (grp c)))) = _
  rw [h, rm_eq w W t ht h]
  rfl

theorem rr_eq : rr w (ix2 a c) = RN W ⟨512 * t + a.val, by omega⟩ c := by
  show w (ix2 a c) - qr w (ix2 a c) * kscl (rm w a (grp c)) = _
  rw [qr_eq w W t ht h, h, rm_eq w W t ht h]
  rfl

end Block

variable (m : (ℓ : Loc nD τ sig) → Buf (Elt Ideal) ℓ) (ρ : Dev nD → PrngReg)

theorem V_0 (c : Dev nD) : V m c main_v0 = shapeCast S16896x2048 (m ((c : Thread nD τ).loc main_arg0)) shapeCasts_S3x5632x2048_S16896x2048 := by
  unfold V hostOps0
  after_results
  rfl
theorem V_1 (c : Dev nD) : V m c main_v1 = transpose S3x16x5632 [0, 2, 1] (m ((c : Thread nD τ).loc main_arg1)) transposes_S3x5632x16_S3x16x5632_0_2_1 := by
  unfold V hostOps0
  after_results
theorem V_2 (c : Dev nD) : V m c main_v2 = shapeCast S16896x2048 (m ((c : Thread nD τ).loc main_arg2)) shapeCasts_S3x5632x2048_S16896x2048 := by
  unfold V hostOps0
  after_results
  rfl
theorem V_3 (c : Dev nD) : V m c main_v3 = shapeCast S16896x2048 (m ((c : Thread nD τ).loc main_arg3)) shapeCasts_S3x5632x2048_S16896x2048 := by
  unfold V hostOps0
  after_results
  rfl

/-- A flat row of an array of three batches. -/
theorem flat_apply {α : Type} (x : S3x5632x2048.Idx → α) (R : Fin 16896) (C : Fin 2048) :
    shapeCast S16896x2048 x shapeCasts_S3x5632x2048_S16896x2048 (ix2 R C)
      = x (ix3 (⟨R.val / 5632, by omega⟩ : Fin 3) (⟨R.val % 5632, by omega⟩ : Fin 5632) C) := by
  refine shapeCast_apply x _ _ _ ?_
  rw [show (S3x5632x2048.rowMajor (ix3 (⟨R.val / 5632, by omega⟩ : Fin 3) (⟨R.val % 5632, by omega⟩ : Fin 5632) C)).val = _ from Shape.rowMajor_val_three _,
    show (S16896x2048.rowMajor (ix2 R C)).val = _ from Shape.rowMajor_val_two _]
  show (R.val / 5632 * 5632 + R.val % 5632) * 2048 + C.val = R.val * 2048 + C.val
  omega

theorem swap_apply {α : Type} (x : S3x5632x16.Idx → α) (b : Fin 3) (g : Fin 16) (r : Fin 5632) :
    transpose S3x16x5632 [0, 2, 1] x transposes_S3x5632x16_S3x16x5632_0_2_1 (ix3 b g r) = x (ix3 b r g) := by
  refine transpose_apply _ x _ _ _ fun a => ?_
  match a with
  | ⟨0, _⟩ => rfl
  | ⟨1, _⟩ => rfl
  | ⟨2, _⟩ => rfl

theorem idxf0 : ∀ t : Fin cfg0.N, win0_0.index t (0 : Fin 2) = t.val ∧ win0_0.index t (1 : Fin 2) = 0 :=
  (by decide +kernel : ∀ t : Fin grid0.N, _)
theorem idxf1 : ∀ t : Fin cfg0.N, win0_1.index t (0 : Fin 3) = t.val / 11 ∧ win0_1.index t (1 : Fin 3) = 0 ∧ win0_1.index t (2 : Fin 3) = t.val % 11 :=
  (by decide +kernel : ∀ t : Fin grid0.N, _)
theorem idxf2 : ∀ t : Fin cfg0.N, win0_2.index t (0 : Fin 2) = t.val ∧ win0_2.index t (1 : Fin 2) = 0 :=
  (by decide +kernel : ∀ t : Fin grid0.N, _)
theorem idxf3 : ∀ t : Fin cfg0.N, win0_3.index t (0 : Fin 2) = t.val ∧ win0_3.index t (1 : Fin 2) = 0 :=
  (by decide +kernel : ∀ t : Fin grid0.N, _)
theorem idxf7 : ∀ t : Fin cfg0.N, (cfg0.win 7).flush t = true ∧ win0_7.index t (0 : Fin 2) = t.val ∧ win0_7.index t (1 : Fin 2) = 0 :=
  (by decide +kernel : ∀ t : Fin grid0.N, win0_7.flush t = true ∧ win0_7.index t (0 : Fin 2) = t.val ∧ win0_7.index t (1 : Fin 2) = 0)

theorem idxf4 : ∀ t : Fin cfg0.N, (cfg0.win 4).flush t = true ∧ win0_4.index t (0 : Fin 2) = t.val ∧ win0_4.index t (1 : Fin 2) = 0 :=
  (by decide +kernel : ∀ t : Fin grid0.N, win0_4.flush t = true ∧ win0_4.index t (0 : Fin 2) = t.val ∧ win0_4.index t (1 : Fin 2) = 0)

theorem idxf5 : ∀ t : Fin cfg0.N, (cfg0.win 5).flush t = true ∧ win0_5.index t (0 : Fin 2) = t.val ∧ win0_5.index t (1 : Fin 2) = 0 :=
  (by decide +kernel : ∀ t : Fin grid0.N, win0_5.flush t = true ∧ win0_5.index t (0 : Fin 2) = t.val ∧ win0_5.index t (1 : Fin 2) = 0)

theorem lt33 (t : Fin cfg0.N) : t.val < 33 := Nat.lt_of_lt_of_eq t.isLt N_0

theorem iblk_0 (c : Dev nD) (t : Fin cfg0.N) (a : Fin 512) (C : Fin 2048) :
    iblk m c 0 t (ix2 a C : S512x2048.Idx) = m ((c : Thread nD τ).loc main_arg0)
      (ix3 (⟨(512 * t.val + a.val) / 5632, by have := lt33 t; omega⟩ : Fin 3) (⟨(512 * t.val + a.val) % 5632, by omega⟩ : Fin 5632) C : S3x5632x2048.Idx) := by
  obtain ⟨e0, e1⟩ := idxf0 t
  have ht := lt33 t
  show V m c main_v0 (((cfg0.win 0).blk t).view.emb (ix2 a C : S512x2048.Idx)) = _
  have he : ((cfg0.win 0).blk t).view.emb (ix2 a C : S512x2048.Idx) = (ix2 (⟨512 * t.val + a.val, by omega⟩ : Fin 16896) C : S16896x2048.Idx) := by
    funext d; apply Fin.ext
    match d with
    | ⟨0, _⟩ => show win0_0.index t (0 : Fin 2) * 512 + 1 * a.val = 512 * t.val + a.val; omega
    | ⟨1, _⟩ => show win0_0.index t (1 : Fin 2) * 2048 + 1 * C.val = C.val; omega
  rw [he, V_0]
  exact flat_apply _ _ _

theorem iblk_2 (c : Dev nD) (t : Fin cfg0.N) (a : Fin 512) (C : Fin 2048) :
    iblk m c 2 t (ix2 a C : S512x2048.Idx) = m ((c : Thread nD τ).loc main_arg2)
      (ix3 (⟨(512 * t.val + a.val) / 5632, by have := lt33 t; omega⟩ : Fin 3) (⟨(512 * t.val + a.val) % 5632, by omega⟩ : Fin 5632) C : S3x5632x2048.Idx) := by
  obtain ⟨e0, e1⟩ := idxf2 t
  have ht := lt33 t
  show V m c main_v2 (((cfg0.win 2).blk t).view.emb (ix2 a C : S512x2048.Idx)) = _
  have he : ((cfg0.win 2).blk t).view.emb (ix2 a C : S512x2048.Idx) = (ix2 (⟨512 * t.val + a.val, by omega⟩ : Fin 16896) C : S16896x2048.Idx) := by
    funext d; apply Fin.ext
    match d with
    | ⟨0, _⟩ => show win0_2.index t (0 : Fin 2) * 512 + 1 * a.val = 512 * t.val + a.val; omega
    | ⟨1, _⟩ => show win0_2.index t (1 : Fin 2) * 2048 + 1 * C.val = C.val; omega
  rw [he, V_2]
  exact flat_apply _ _ _

theorem iblk_3 (c : Dev nD) (t : Fin cfg0.N) (a : Fin 512) (C : Fin 2048) :
    iblk m c 3 t (ix2 a C : S512x2048.Idx) = m ((c : Thread nD τ).loc main_arg3)
      (ix3 (⟨(512 * t.val + a.val) / 5632, by have := lt33 t; omega⟩ : Fin 3) (⟨(512 * t.val + a.val) % 5632, by omega⟩ : Fin 5632) C : S3x5632x2048.Idx) := by
  obtain ⟨e0, e1⟩ := idxf3 t
  have ht := lt33 t
  show V m c main_v3 (((cfg0.win 3).blk t).view.emb (ix2 a C : S512x2048.Idx)) = _
  have he : ((cfg0.win 3).blk t).view.emb (ix2 a C : S512x2048.Idx) = (ix2 (⟨512 * t.val + a.val, by omega⟩ : Fin 16896) C : S16896x2048.Idx) := by
    funext d; apply Fin.ext
    match d with
    | ⟨0, _⟩ => show win0_3.index t (0 : Fin 2) * 512 + 1 * a.val = 512 * t.val + a.val; omega
    | ⟨1, _⟩ => show win0_3.index t (1 : Fin 2) * 2048 + 1 * C.val = C.val; omega
  rw [he, V_3]
  exact flat_apply _ _ _

theorem iblk_1 (c : Dev nD) (t : Fin cfg0.N) (g : Fin 16) (a : Fin 512) :
    iblk m c 1 t (ix3 (0 : Fin 1) g a : S1x16x512.Idx) = m ((c : Thread nD τ).loc main_arg1)
      (ix3 (⟨(512 * t.val + a.val) / 5632, by have := lt33 t; omega⟩ : Fin 3) (⟨(512 * t.val + a.val) % 5632, by omega⟩ : Fin 5632) g : S3x5632x16.Idx) := by
  obtain ⟨e0, e1, e2⟩ := idxf1 t
  have ht := lt33 t
  show V m c main_v1 (((cfg0.win 1).blk t).view.emb (ix3 (0 : Fin 1) g a : S1x16x512.Idx)) = _
  have he : ((cfg0.win 1).blk t).view.emb (ix3 (0 : Fin 1) g a : S1x16x512.Idx)
      = (ix3 (⟨(512 * t.val + a.val) / 5632, by omega⟩ : Fin 3) g (⟨(512 * t.val + a.val) % 5632, by omega⟩ : Fin 5632) : S3x16x5632.Idx) := by
    funext d; apply Fin.ext
    match d with
    | ⟨0, _⟩ => show win0_1.index t (0 : Fin 3) * 1 + 1 * 0 = (512 * t.val + a.val) / 5632; omega
    | ⟨1, _⟩ => show win0_1.index t (1 : Fin 3) * 16 + 1 * g.val = g.val; omega
    | ⟨2, _⟩ => show win0_1.index t (2 : Fin 3) * 512 + 1 * a.val = (512 * t.val + a.val) % 5632; omega
  rw [he, V_1]
  exact swap_apply _ _ _ _

/-- The arguments of core `c` as launched. -/
abbrev A0 (c : Dev nD) : Vec Ideal S3x5632x2048 .fp8e4m3 := m ((c : Thread nD τ).loc main_arg0)
abbrev A1 (c : Dev nD) : Vec Ideal S3x5632x16 .f32 := m ((c : Thread nD τ).loc main_arg1)
abbrev A2 (c : Dev nD) : Vec Ideal S3x5632x2048 .bf16 := m ((c : Thread nD τ).loc main_arg2)
abbrev A3 (c : Dev nD) : Vec Ideal S3x5632x2048 .f32 := m ((c : Thread nD τ).loc main_arg3)

theorem wI_eq (c : Dev nD) (t : Fin cfg0.N) (a : Fin 512) (C : Fin 2048) :
    wI (iblk m c 0 t) (iblk m c 1 t) (iblk m c 2 t) (iblk m c 3 t) (ix2 a C)
      = gW (A0 m c) (A1 m c) (A2 m c) (A3 m c) ⟨512 * t.val + a.val, by have := lt33 t; omega⟩ C := by
  have h0 := iblk_0 m c t a C
  have h1 := iblk_1 m c t (grp C) a
  have h2 := iblk_2 m c t a C
  have h3 := iblk_3 m c t a C
  unfold wI gW
  exact congrArg₂ (α := EReal) (β := EReal) (γ := EReal) (· + ·) (congrArg₂ (α := EReal) (β := EReal) (γ := EReal) (· + ·)
    (congrArg₂ (α := EReal) (β := EReal) (γ := EReal) (· * ·) h0 h1) h2) h3

section Finite

variable (hs : ∀ (c : Dev nD) (i : S3x5632x16.Idx), A1 m c i ≠ ⊤ ∧ A1 m c i ≠ ⊥)
include hs

theorem iblk1_finite (c : Dev nD) (t : Fin cfg0.N) (i : S1x16x512.Idx) : iblk m c 1 t i ≠ (⊤ : EReal) ∧ iblk m c 1 t i ≠ (⊥ : EReal) := by
  obtain ⟨u, g, a, rfl⟩ : ∃ (u : Fin 1) (g : Fin 16) (a : Fin 512), i = ix3 u g a := ⟨i 0, i 1, i 2, eq_ix3 i⟩
  obtain rfl : u = 0 := by omega
  rw [iblk_1]
  exact hs c _

theorem o7_eq (c : Dev nD) (t : Fin cfg0.N) (y : S512x2048.Idx) :
    o7 m c t y = qc (wI (iblk m c 0 t) (iblk m c 1 t) (iblk m c 2 t) (iblk m c 3 t)) y := by
  have hx := iblk1_finite m hs c t
  by_cases h0 : t.val % 33 = 0
  · rw [o7_A m c t h0]
    unfold out0_A_7
    refine View.canon_apply_of_pieces (qc (wI (iblk m c 0 t) (iblk m c 1 t) (iblk m c 2 t) (iblk m c 3 t))) _ ?_ y (cover0_A_7 ..)
    show Ok (e := .fp8e4m3) (qc (wI (iblk m c 0 t) (iblk m c 1 t) (iblk m c 2 t) (iblk m c 3 t))) _
    apply L7_ok_A
    exact hx
  · rw [o7_B m c t h0]
    unfold out0_B_7
    refine View.canon_apply_of_pieces (qc (wI (iblk m c 0 t) (iblk m c 1 t) (iblk m c 2 t) (iblk m c 3 t))) _ ?_ y (cover0_B_7 ..)
    show Ok (e := .fp8e4m3) (qc (wI (iblk m c 0 t) (iblk m c 1 t) (iblk m c 2 t) (iblk m c 3 t))) _
    apply L7_ok_B
    · exact hx
    · exact fun k c => rfl

/-- The codes the kernel ends with. -/
def GK (c : Dev nD) : Buf (Elt Ideal) ((c : Thread nD τ).loc main_v4_3) := fun (i : S16896x2048.Idx) =>
  QC (gW (A0 m c) (A1 m c) (A2 m c) (A3 m c)) (i 0) (i 1)

theorem flushed7_eq (c : Dev nD) (t : Fin cfg0.N) (hf : (cfg0.win 7).flush t = true) :
    (dats m 0 c).flushed 7 t = ((cfg0.win 7).blk t).view.read (Elt Ideal) (GK m c) := by
  show (cfg0.win 7).cut (grid0.coords t) ((dats m 0 c).after 7 t) = _
  rw [after0_7]
  obtain ⟨-, e0, e1⟩ := idxf7 t
  have ht := lt33 t
  funext y
  obtain ⟨a, C, rfl⟩ : ∃ (a : Fin 512) (C : Fin 2048), y = (ix2 a C : S512x2048.Idx) := ⟨y 0, y 1, eq_ix2 y⟩
  have he : ((cfg0.win 7).blk t).view.emb (ix2 a C : S512x2048.Idx) = (ix2 (⟨512 * t.val + a.val, by omega⟩ : Fin 16896) C : S16896x2048.Idx) := by
    funext d; apply Fin.ext
    match d with
    | ⟨0, _⟩ => show win0_7.index t (0 : Fin 2) * 512 + 1 * a.val = 512 * t.val + a.val; omega
    | ⟨1, _⟩ => show win0_7.index t (1 : Fin 2) * 2048 + 1 * C.val = C.val; omega
  show o7 m c t (ix2 a C : S512x2048.Idx) = GK m c (((cfg0.win 7).blk t).view.emb (ix2 a C : S512x2048.Idx))
  rw [he, o7_eq m hs]
  exact qc_eq _ _ t.val ht (wI_eq m c t) a C

omit hs in
/-- An index of the array is in point `t`'s block iff each coordinate is in the block's range on its axis. -/
theorem mem_blk7 (t : Fin cfg0.N) (i : S16896x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v4_3).slice (win0_7.rect t)).set ↔ _
  rw [View.set_slice_whole, Rect.mem_set_unit]
  exact Iff.rfl

omit hs in
theorem covered7 (i : S16896x2048.Idx) : ∃ t : Fin cfg0.N, (cfg0.win 7).flush t = true ∧ i ∈ ((cfg0.win 7).blk t).view.set := by
  have hi0 : (i 0).val < 16896 := (i 0).isLt
  have hi1 : (i 1).val < 2048 := (i 1).isLt
  have hN : cfg0.N = 33 := N_0
  obtain ⟨t, ht⟩ : ∃ t : Fin cfg0.N, t.val = (i 0).val / 512 := ⟨⟨(i 0).val / 512, by omega⟩, rfl⟩
  obtain ⟨hf, q0, q1⟩ := idxf7 t
  refine ⟨t, hf, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 2048 ≤ (i 1).val ∧ (i 1).val < win0_7.index t (1 : Fin 2) * 2048 + 2048; omega

theorem final7 (c : Dev nD) : (dats m 0 c).arrAt 7 cfg0.N = GK m c :=
  (dats m 0 c).arrAt_eq_of_cover 7 (GK m c) (fun t hf => flushed7_eq m hs c t hf) covered7

theorem o4_eq (c : Dev nD) (t : Fin cfg0.N) (y : S512x2048.Idx) :
    o4 m c t y = rr (wI (iblk m c 0 t) (iblk m c 1 t) (iblk m c 2 t) (iblk m c 3 t)) y := by
  have hx := iblk1_finite m hs c t
  by_cases h0 : t.val % 33 = 0
  · rw [o4_A m c t h0]
    unfold out0_A_4
    refine View.canon_apply_of_pieces (rr (wI (iblk m c 0 t) (iblk m c 1 t) (iblk m c 2 t) (iblk m c 3 t))) _ ?_ y (cover0_A_4 ..)
    show Ok (e := .bf16) (rr (wI (iblk m c 0 t) (iblk m c 1 t) (iblk m c 2 t) (iblk m c 3 t))) _
    apply L4_ok_A
    exact hx
  · rw [o4_B m c t h0]
    unfold out0_B_4
    refine View.canon_apply_of_pieces (rr (wI (iblk m c 0 t) (iblk m c 1 t) (iblk m c 2 t) (iblk m c 3 t))) _ ?_ y (cover0_B_4 ..)
    show Ok (e := .bf16) (rr (wI (iblk m c 0 t) (iblk m c 1 t) (iblk m c 2 t) (iblk m c 3 t))) _
    apply L4_ok_B
    · exact hx
    · exact fun k c => rfl

/-- The residuals the kernel ends with. -/
def GK4 (c : Dev nD) : Buf (Elt Ideal) ((c : Thread nD τ).loc main_v4_0) := fun (i : S16896x2048.Idx) =>
  RN (gW (A0 m c) (A1 m c) (A2 m c) (A3 m c)) (i 0) (i 1)

theorem flushed4_eq (c : Dev nD) (t : Fin cfg0.N) (hf : (cfg0.win 4).flush t = true) :
    (dats m 0 c).flushed 4 t = ((cfg0.win 4).blk t).view.read (Elt Ideal) (GK4 m c) := by
  show (cfg0.win 4).cut (grid0.coords t) ((dats m 0 c).after 4 t) = _
  rw [after0_4]
  obtain ⟨-, e0, e1⟩ := idxf4 t
  have ht := lt33 t
  funext y
  obtain ⟨a, C, rfl⟩ : ∃ (a : Fin 512) (C : Fin 2048), y = (ix2 a C : S512x2048.Idx) := ⟨y 0, y 1, eq_ix2 y⟩
  have he : ((cfg0.win 4).blk t).view.emb (ix2 a C : S512x2048.Idx) = (ix2 (⟨512 * t.val + a.val, by omega⟩ : Fin 16896) C : S16896x2048.Idx) := by
    funext d; apply Fin.ext
    match d with
    | ⟨0, _⟩ => show win0_4.index t (0 : Fin 2) * 512 + 1 * a.val = 512 * t.val + a.val; omega
    | ⟨1, _⟩ => show win0_4.index t (1 : Fin 2) * 2048 + 1 * C.val = C.val; omega
  show o4 m c t (ix2 a C : S512x2048.Idx) = GK4 m c (((cfg0.win 4).blk t).view.emb (ix2 a C : S512x2048.Idx))
  rw [he, o4_eq m hs]
  exact rr_eq _ _ t.val ht (wI_eq m c t) a C

omit hs in
/-- An index of the array is in point `t`'s block iff each coordinate is in the block's range on its axis. -/
theorem mem_blk4 (t : Fin cfg0.N) (i : S16896x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v4_0).slice (win0_4.rect t)).set ↔ _
  rw [View.set_slice_whole, Rect.mem_set_unit]
  exact Iff.rfl

omit hs in
theorem covered4 (i : S16896x2048.Idx) : ∃ t : Fin cfg0.N, (cfg0.win 4).flush t = true ∧ i ∈ ((cfg0.win 4).blk t).view.set := by
  have hi0 : (i 0).val < 16896 := (i 0).isLt
  have hi1 : (i 1).val < 2048 := (i 1).isLt
  have hN : cfg0.N = 33 := N_0
  obtain ⟨t, ht⟩ : ∃ t : Fin cfg0.N, t.val = (i 0).val / 512 := ⟨⟨(i 0).val / 512, by omega⟩, rfl⟩
  obtain ⟨hf, q0, q1⟩ := idxf4 t
  refine ⟨t, hf, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

theorem final4 (c : Dev nD) : (dats m 0 c).arrAt 4 cfg0.N = GK4 m c :=
  (dats m 0 c).arrAt_eq_of_cover 4 (GK4 m c) (fun t hf => flushed4_eq m hs c t hf) covered4

theorem o5_eq (c : Dev nD) (t : Fin cfg0.N) (y : S512x2048.Idx) :
    o5 m c t y = qr (wI (iblk m c 0 t) (iblk m c 1 t) (iblk m c 2 t) (iblk m c 3 t)) y := by
  have hx := iblk1_finite m hs c t
  by_cases h0 : t.val % 33 = 0
  · rw [o5_A m c t h0]
    unfold out0_A_5
    refine View.canon_apply_of_pieces (qr (wI (iblk m c 0 t) (iblk m c 1 t) (iblk m c 2 t) (iblk m c 3 t))) _ ?_ y (cover0_A_5 ..)
    show Ok (e := .fp8e4m3) (qr (wI (iblk m c 0 t) (iblk m c 1 t) (iblk m c 2 t) (iblk m c 3 t))) _
    apply L5_ok_A
    exact hx
  · rw [o5_B m c t h0]
    unfold out0_B_5
    refine View.canon_apply_of_pieces (qr (wI (iblk m c 0 t) (iblk m c 1 t) (iblk m c 2 t) (iblk m c 3 t))) _ ?_ y (cover0_B_5 ..)
    show Ok (e := .fp8e4m3) (qr (wI (iblk m c 0 t) (iblk m c 1 t) (iblk m c 2 t) (iblk m c 3 t))) _
    apply L5_ok_B
    · exact hx
    · exact fun k c => rfl

/-- The row codes the kernel ends with. -/
def GK5 (c : Dev nD) : Buf (Elt Ideal) ((c : Thread nD τ).loc main_v4_1) := fun (i : S16896x2048.Idx) =>
  QR (gW (A0 m c) (A1 m c) (A2 m c) (A3 m c)) (i 0) (i 1)

theorem flushed5_eq (c : Dev nD) (t : Fin cfg0.N) (hf : (cfg0.win 5).flush t = true) :
    (dats m 0 c).flushed 5 t = ((cfg0.win 5).blk t).view.read (Elt Ideal) (GK5 m c) := by
  show (cfg0.win 5).cut (grid0.coords t) ((dats m 0 c).after 5 t) = _
  rw [after0_5]
  obtain ⟨-, e0, e1⟩ := idxf5 t
  have ht := lt33 t
  funext y
  obtain ⟨a, C, rfl⟩ : ∃ (a : Fin 512) (C : Fin 2048), y = (ix2 a C : S512x2048.Idx) := ⟨y 0, y 1, eq_ix2 y⟩
  have he : ((cfg0.win 5).blk t).view.emb (ix2 a C : S512x2048.Idx) = (ix2 (⟨512 * t.val + a.val, by omega⟩ : Fin 16896) C : S16896x2048.Idx) := by
    funext d; apply Fin.ext
    match d with
    | ⟨0, _⟩ => show win0_5.index t (0 : Fin 2) * 512 + 1 * a.val = 512 * t.val + a.val; omega
    | ⟨1, _⟩ => show win0_5.index t (1 : Fin 2) * 2048 + 1 * C.val = C.val; omega
  show o5 m c t (ix2 a C : S512x2048.Idx) = GK5 m c (((cfg0.win 5).blk t).view.emb (ix2 a C : S512x2048.Idx))
  rw [he, o5_eq m hs]
  exact qr_eq _ _ t.val ht (wI_eq m c t) a C

omit hs in
/-- An index of the array is in point `t`'s block iff each coordinate is in the block's range on its axis. -/
theorem mem_blk5 (t : Fin cfg0.N) (i : S16896x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v4_1).slice (win0_5.rect t)).set ↔ _
  rw [View.set_slice_whole, Rect.mem_set_unit]
  exact Iff.rfl

omit hs in
theorem covered5 (i : S16896x2048.Idx) : ∃ t : Fin cfg0.N, (cfg0.win 5).flush t = true ∧ i ∈ ((cfg0.win 5).blk t).view.set := by
  have hi0 : (i 0).val < 16896 := (i 0).isLt
  have hi1 : (i 1).val < 2048 := (i 1).isLt
  have hN : cfg0.N = 33 := N_0
  obtain ⟨t, ht⟩ : ∃ t : Fin cfg0.N, t.val = (i 0).val / 512 := ⟨⟨(i 0).val / 512, by omega⟩, rfl⟩
  obtain ⟨hf, q0, q1⟩ := idxf5 t
  refine ⟨t, hf, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

theorem final5 (c : Dev nD) : (dats m 0 c).arrAt 5 cfg0.N = GK5 m c :=
  (dats m 0 c).arrAt_eq_of_cover 5 (GK5 m c) (fun t hf => flushed5_eq m hs c t hf) covered5

/-- The run of the ideal kernel: the residuals, the row codes and the column codes at their functions of the arguments, the arguments unchanged. -/
theorem run : θ_run defs (onTc (τ := τ) (main (F := Ideal))) ⟨m, fun _ => 0, ρ⟩ (fun r => ∀ c : Dev nD,
      r.2.mem ((c.tc : Thread nD τ).loc main_v4_0) = GK4 m c
      ∧ r.2.mem ((c.tc : Thread nD τ).loc main_v4_1) = GK5 m c
      ∧ r.2.mem ((c.tc : Thread nD τ).loc main_v4_3) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(((dats m 0 c).toRForget_arrAt_iff (fgt := forgets0) (w := 4) rfl _ _).mp ((h c).1 4)).trans (final4 m hs c),
      (((dats m 0 c).toRForget_arrAt_iff (fgt := forgets0) (w := 5) rfl _ _).mp ((h c).1 5)).trans (final5 m hs c),
      (((dats m 0 c).toRForget_arrAt_iff (fgt := forgets0) (w := 7) rfl _ _).mp ((h c).1 7)).trans (final7 m hs c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Finite

end Cert.KernelIdeal.Run

end
-- ==== Proof.KPre.lean ====
module

public import proofs.«01_k».proof.Defs
public import proofs.«01_k».proof.Proof.KValue
public import Idealize.ShloMosaic.Lib.Pointwise.ElementwiseCore
public import Idealize.ShloMosaic.Lib.KernelVsHost

/-! The precondition, read: every scale is a real number. -/

@[expose] public section

noncomputable section

namespace Cert.Pre_finite_scales

open Idealize.ShloMosaic

/-- The side condition of the predicate's broadcast. -/
theorem facts : Facts := ⟨by decide⟩

/-- The word of the positive infinity. -/
theorem ofBits_top : Ideal.ofBits .f32 0x7F800000#32 = ⊤ := by
  simp [Ideal.ofBits, Ideal.ieee]

/-- A magnitude below a constant, at an index. -/
theorem lt_gen {s : Shape} (x : FVec Ideal s .f32) (w : BitVec 32) (h : S_.BroadcastsInDim s (![] : Fin 0 → Fin s.rank)) (i : s.Idx) :
    cmpf .olt (Host.absf x) (broadcastInDim s ![] h (constant S_ .f32 w)) i = Ideal.cmp .olt (max (x i) (-(x i)) : EReal) (Ideal.ofBits .f32 w) := rfl

/-- A magnitude below infinity is a real number's. -/
theorem real_of_lt {x : EReal} (h : Ideal.cmp .olt (max x (-x)) (⊤ : EReal) = 1#1) : x ≠ ⊤ ∧ x ≠ ⊥ := by
  constructor
  · rintro rfl
    simp [Ideal.cmp] at h
  · rintro rfl
    simp [Ideal.cmp] at h

/-- Where the predicate is all ones, every scale is a real number. -/
theorem real_scales [Facts] (a0 : FVec Ideal S3x5632x2048 .fp8e4m3) (a1 : FVec Ideal S3x5632x16 .f32) (a2 : FVec Ideal S3x5632x2048 .bf16) (a3 : FVec Ideal S3x5632x2048 .f32)
    (h : fn (F := Ideal) a0 a1 a2 a3 = fun _ => 1#1) (i : S3x5632x16.Idx) : (a1 i : EReal) ≠ ⊤ ∧ (a1 i : EReal) ≠ ⊥ := by
  refine real_of_lt ?_
  rw [← ofBits_top, ← lt_gen a1 _ Facts.bcast_S_S3x5632x16 i]
  exact congrFun h i

end Cert.Pre_finite_scales

end
-- ==== Proof.KQuantL.lean ====
module

public import proofs.«01_k».proof.Proof.KQuant
public import Idealize.ShloMosaic.Lib.ValueIdx
public import Idealize.ShloMosaic.Lib.IdealHost

/-! The scalar arithmetic of the quantiser at the ideal values: the greedy search over exponent bits finds the
    same power of two as counting the powers of two that do not exceed the argument. -/

@[expose] public section

noncomputable section

open scoped BigOperators

namespace Cert.Quant

open Idealize.ShloMosaic

theorem ieee_pow (w : BitVec 32) (B : ℕ) (h1 : (w.extractLsb' 23 8).toNat = B) (h2 : (w.extractLsb' 0 23).toNat = 0)
    (h3 : (w.extractLsb' (8 + 23) 1 == 1#1) = false) :
    Ideal.ieee 8 23 w = if B = 255 then ⊤ else if B = 0 then 0 else (((2 : ℝ) ^ ((B : ℤ) - 127) : ℝ) : EReal) := by
  simp only [Ideal.ieee, h1, h2, h3]
  by_cases h255 : B = 255
  · subst h255
    simp
  · by_cases h0 : B = 0
    · subst h0
      simp
    · have e1 : ¬ B = 2 ^ 8 - 1 := by norm_num; exact h255
      rw [if_neg e1, if_neg h0, if_neg h255, if_neg h0]
      refine congrArg (fun r : ℝ => (r : EReal)) ?_
      have e2 : ((2 ^ 23 + 0 : ℕ) : ℝ) = (2 : ℝ) ^ (23 : ℤ) := by push_cast; norm_num
      have e3 : ((B : ℤ) - (2 ^ (8 - 1) - 1) - (23 : ℕ)) = ((B : ℤ) - 127) - 23 := by norm_num
      rw [e2, e3, zpow_sub₀ (by norm_num : (2 : ℝ) ≠ 0) ((B : ℤ) - 127) 23, if_neg (by decide), one_mul]
      exact mul_div_cancel₀ _ (zpow_ne_zero _ (by norm_num))

theorem pw_eq (B : ℕ) (hB : B < 256) : pw B = if B = 255 then ⊤ else if B = 0 then 0 else (((2 : ℝ) ^ ((B : ℤ) - 127) : ℝ) : EReal) := by
  have hp : (8388608 : ℕ) = 2 ^ 23 := by norm_num
  have hlt : B * 8388608 < 2 ^ 31 := lt_of_le_of_lt (Nat.mul_le_mul_right 8388608 (by omega : B ≤ 255)) (by norm_num)
  have hlt' : B * 8388608 < 2 ^ 32 := lt_trans hlt (by norm_num)
  have h0 : (BitVec.ofNat 32 (B * 8388608)).toNat = B * 8388608 := by
    rw [BitVec.toNat_ofNat, Nat.mod_eq_of_lt hlt']
  unfold pw
  generalize BitVec.ofNat 32 (B * 8388608) = w at h0
  refine ieee_pow w B ?_ ?_ ?_
  · rw [BitVec.extractLsb'_toNat, Nat.shiftRight_eq_div_pow, h0, hp, Nat.mul_div_cancel _ (Nat.two_pow_pos 23), Nat.mod_eq_of_lt]
    exact hB
  · rw [BitVec.extractLsb'_toNat, Nat.shiftRight_zero, h0, hp]
    exact Nat.mul_mod_left _ _
  · have h4 : (w.extractLsb' (8 + 23) 1).toNat = 0 := by
      rw [BitVec.extractLsb'_toNat, Nat.shiftRight_eq_div_pow, h0, Nat.div_eq_of_lt hlt, Nat.zero_mod]
    have h5 : w.extractLsb' (8 + 23) 1 = 0#1 := BitVec.eq_of_toNat_eq h4
    rw [h5]; rfl

theorem pw_mono {A B : ℕ} (h : A ≤ B) (hB : B < 256) : pw A ≤ pw B := by
  rw [pw_eq A (by omega), pw_eq B hB]
  by_cases h255 : B = 255
  · simp [h255]
  · by_cases h0 : A = 0
    · by_cases hb0 : B = 0
      · simp [h0, hb0]
      · simp only [h0, h255, hb0, if_false, if_true]
        rw [← EReal.coe_zero]
        exact EReal.coe_le_coe_iff.mpr (zpow_nonneg (by norm_num) _)
    · have : A ≠ 255 := by omega
      have hb0 : B ≠ 0 := by omega
      simp only [h255, h0, this, hb0, if_false]
      exact EReal.coe_le_coe_iff.mpr (zpow_le_zpow_right₀ (by norm_num) (by omega))

theorem step_inv {x : EReal} {d b : ℕ} (hd : 0 < d) (h : Inv x (2 * d) b) : Inv x d (step x d b) := by
  obtain ⟨h1, h2, h3⟩ := h
  unfold step
  split_ifs with hc
  · exact ⟨hc, by omega, fun hh => by rw [show b + d + d = b + 2 * d by omega] at *; exact h3 hh⟩
  · exact ⟨h1, by omega, fun _ => hc⟩

theorem expo_inv {x : EReal} (hx : 0 ≤ x) : Inv x 1 (expo x) := by
  have h0 : Inv x 256 0 := ⟨by rw [pw_eq 0 (by norm_num)]; simpa using hx, by norm_num, fun h => absurd h (by norm_num)⟩
  unfold expo
  exact step_inv (by norm_num) (step_inv (by norm_num) (step_inv (by norm_num) (step_inv (by norm_num)
    (step_inv (by norm_num) (step_inv (by norm_num) (step_inv (by norm_num) (step_inv (by norm_num) h0)))))))

theorem pw_le_iff {x : EReal} (hx : 0 ≤ x) {B : ℕ} (hB : B < 256) : pw B ≤ x ↔ B ≤ expo x := by
  obtain ⟨h1, h2, h3⟩ := expo_inv hx
  constructor
  · intro h
    by_contra hc
    exact h3 (by omega) ((pw_mono (by omega) hB).trans h)
  · intro h
    exact (pw_mono h (by omega)).trans h1

theorem bstep_eq (x : EReal) (d b : ℕ) : bstep x (BitVec.ofNat 32 (d * 8388608)) (BitVec.ofNat 32 (b * 8388608)) = BitVec.ofNat 32 (step x d b * 8388608) := by
  unfold bstep step
  have : BitVec.ofNat 32 (b * 8388608) + BitVec.ofNat 32 (d * 8388608) = BitVec.ofNat 32 ((b + d) * 8388608) := by
    rw [← BitVec.ofNat_add, Nat.add_mul]
  rw [this]
  change Scalar.select (BitVec.ofBool (decide (pw (b + d) ≤ x))) _ _ = _
  by_cases h : pw (b + d) ≤ x <;> simp [h, Scalar.select]

theorem kbits_eq (x : EReal) : kbits x = BitVec.ofNat 32 (expo x * 8388608) := by
  unfold kbits expo
  rw [show (0#32 : BitVec 32) = BitVec.ofNat 32 (0 * 8388608) from congrArg (BitVec.ofNat 32) (by norm_num)]
  rw [show (8388608#32 : BitVec 32) = BitVec.ofNat 32 (1 * 8388608) from congrArg (BitVec.ofNat 32) (by norm_num)]
  rw [show (16777216#32 : BitVec 32) = BitVec.ofNat 32 (2 * 8388608) from congrArg (BitVec.ofNat 32) (by norm_num)]
  rw [show (33554432#32 : BitVec 32) = BitVec.ofNat 32 (4 * 8388608) from congrArg (BitVec.ofNat 32) (by norm_num)]
  rw [show (67108864#32 : BitVec 32) = BitVec.ofNat 32 (8 * 8388608) from congrArg (BitVec.ofNat 32) (by norm_num)]
  rw [show (134217728#32 : BitVec 32) = BitVec.ofNat 32 (16 * 8388608) from congrArg (BitVec.ofNat 32) (by norm_num)]
  rw [show (268435456#32 : BitVec 32) = BitVec.ofNat 32 (32 * 8388608) from congrArg (BitVec.ofNat 32) (by norm_num)]
  rw [show (536870912#32 : BitVec 32) = BitVec.ofNat 32 (64 * 8388608) from congrArg (BitVec.ofNat 32) (by norm_num)]
  rw [show (1073741824#32 : BitVec 32) = BitVec.ofNat 32 (128 * 8388608) from congrArg (BitVec.ofNat 32) (by norm_num)]
  simp only [bstep_eq]

theorem exp2_pw (k : ℕ) (hk : k < 246) : Ideal.exp2 (((k : ℝ) : EReal) - ((126 : ℝ) : EReal)) = pw (k + 1) := by
  rw [pw_eq (k+1) (by omega), ← EReal.coe_sub]
  have h1 : k + 1 ≠ 255 := by omega
  simp only [h1, if_false, Nat.succ_ne_zero]
  show ((Real.rpow 2 ((k : ℝ) - 126) : ℝ) : EReal) = _
  congr 1
  show (2 : ℝ) ^ ((k : ℝ) - 126) = _
  rw [← Real.rpow_intCast]
  congr 1
  push_cast; ring

theorem count_eq {x : EReal} (hx : 0 ≤ x) (h246 : expo x ≤ 246) :
    (∑ k : Fin 246, Scalar.select (Ideal.cmp .ole (Ideal.exp2 (((k.val : ℝ) : EReal) - ((126 : ℝ) : EReal))) x) (1 : EReal) 0)
      = ((expo x : ℝ) : EReal) := by
  have h : ∀ k : Fin 246, Scalar.select (Ideal.cmp .ole (Ideal.exp2 (((k.val : ℝ) : EReal) - ((126 : ℝ) : EReal))) x) (1 : EReal) 0
      = (((if k.val < expo x then 1 else 0 : ℝ)) : EReal) := by
    intro k
    rw [exp2_pw k.val k.isLt]
    change Scalar.select (BitVec.ofBool (decide (pw (k.val + 1) ≤ x))) _ _ = _
    by_cases hc : pw (k.val + 1) ≤ x
    · have := (pw_le_iff hx (by omega)).mp hc
      have h2 : k.val < expo x := by omega
      simp [hc, h2, Scalar.select]
    · have : ¬ k.val < expo x := fun hh => hc ((pw_le_iff hx (by omega)).mpr hh)
      simp [hc, this, Scalar.select]
  rw [Finset.sum_congr rfl (fun k _ => h k)]
  have hs : ∀ (s : Finset (Fin 246)) (f : Fin 246 → ℝ), (∑ k ∈ s, (f k : EReal)) = ((∑ k ∈ s, f k : ℝ) : EReal) := by
    intro s f
    induction s using Finset.cons_induction with
    | empty => simp
    | cons a s ha ih => rw [Finset.sum_cons, Finset.sum_cons, ih, EReal.coe_add]
  rw [hs]
  congr 1
  rw [Fin.sum_univ_eq_sum_range (fun k => if k < expo x then (1 : ℝ) else 0) 246, Finset.sum_ite]
  simp only [Finset.sum_const, Finset.sum_const_zero, nsmul_eq_mul, mul_one, mul_zero, add_zero]
  congr 1
  rw [show (Finset.range 246).filter (fun k => k < expo x) = Finset.range (expo x) by
    ext k; simp only [Finset.mem_filter, Finset.mem_range]; omega]
  exact Finset.card_range _

theorem sel_keep (w : BitVec 32) (h0 : w ≠ 0#32) (h1 : w ≠ 2139095040#32) :
    Scalar.select (IntOp.ori (IntOp.cmpi .eq w 0#32) (IntOp.cmpi .eq w 2139095040#32)) 1056964608#32 w = w := by
  have e0 : IntOp.cmpi .eq w 0#32 = 0#1 := by
    show BitVec.ofBool (w == 0#32) = 0#1
    rw [beq_false_of_ne h0]; rfl
  have e1 : IntOp.cmpi .eq w 2139095040#32 = 0#1 := by
    show BitVec.ofBool (w == 2139095040#32) = 0#1
    rw [beq_false_of_ne h1]; rfl
  rw [e0, e1]; rfl

theorem sel_high : Scalar.select (IntOp.ori (IntOp.cmpi .eq (2139095040#32 : BitVec 32) 0#32) (IntOp.cmpi .eq (2139095040#32 : BitVec 32) 2139095040#32))
    1056964608#32 (2139095040#32 : BitVec 32) = BitVec.ofNat 32 (126 * 8388608) := by
  have e1 : IntOp.cmpi .eq (2139095040#32 : BitVec 32) 2139095040#32 = 1#1 := by
    show BitVec.ofBool (_ == _) = 1#1
    rw [beq_self_eq_true]; rfl
  rw [e1]
  have e2 : ∀ b : BitVec 1, IntOp.ori b 1#1 = 1#1 := by decide
  rw [e2, ValueIdx.select_one]

theorem sel_low (B : ℕ) (hB : B < 247) :
    Scalar.select (IntOp.ori (IntOp.cmpi .eq (BitVec.ofNat 32 (B * 8388608)) 0#32) (IntOp.cmpi .eq (BitVec.ofNat 32 (B * 8388608)) 2139095040#32))
      1056964608#32 (BitVec.ofNat 32 (B * 8388608)) = BitVec.ofNat 32 ((if B = 0 then 126 else B) * 8388608) := by
  have hle : B * 8388608 ≤ 246 * 8388608 := Nat.mul_le_mul_right 8388608 (by omega : B ≤ 246)
  have h0 : (BitVec.ofNat 32 (B * 8388608)).toNat = B * 8388608 := by
    rw [BitVec.toNat_ofNat, Nat.mod_eq_of_lt (lt_of_le_of_lt hle (by norm_num))]
  by_cases h : B = 0
  · rw [if_pos h]
    subst h
    have e0 : IntOp.cmpi .eq (BitVec.ofNat 32 (0 * 8388608)) 0#32 = 1#1 := by
      rw [Nat.zero_mul]
      show BitVec.ofBool (_ == _) = 1#1
      rw [beq_self_eq_true]; rfl
    have e2 : ∀ b : BitVec 1, IntOp.ori 1#1 b = 1#1 := by decide
    rw [e0, e2, ValueIdx.select_one]
  · rw [if_neg h]
    generalize BitVec.ofNat 32 (B * 8388608) = w at h0
    refine sel_keep w (fun hw => ?_) (fun hw => ?_)
    · rw [hw] at h0
      have h1 : (0#32 : BitVec 32).toNat = 0 := rfl
      rw [h1] at h0
      rcases Nat.mul_eq_zero.mp h0.symm with h2 | h2
      · exact h h2
      · exact absurd h2 (by norm_num)
    · rw [hw] at h0
      have h1 : (2139095040#32 : BitVec 32).toNat = 255 * 8388608 := by rw [BitVec.toNat_ofNat]
      rw [h1] at h0
      have h2 := Nat.eq_of_mul_eq_mul_right (by norm_num : 0 < 8388608) h0
      omega

theorem kbits2_eq (x : EReal) (ha : 0 ≤ x) : kbits2 x = BitVec.ofNat 32 ((if expo x = 0 ∨ 247 ≤ expo x then 126 else expo x) * 8388608) := by
  have e247 : Ideal.ofBits .f32 0x7B800000#32 = pw 247 := by unfold pw; norm_num
  have h247' : x < pw 247 ↔ expo x < 247 := by rw [← not_le, pw_le_iff ha (by norm_num)]; omega
  unfold kbits2
  rw [e247, kbits_eq]
  by_cases hb : x < pw 247
  · have hb' := h247'.mp hb
    have hc : Ideal.cmp .olt x (pw 247) = 1#1 := by
      show BitVec.ofBool (decide (x < pw 247)) = 1#1
      rw [decide_eq_true hb]; rfl
    have hB : ¬ 247 ≤ expo x := by omega
    rw [hc, ValueIdx.select_one, sel_low _ hb']
    simp only [hB, or_false]
  · have hb' : 247 ≤ expo x := by rw [h247'] at hb; omega
    have hc : Ideal.cmp .olt x (pw 247) = 0#1 := by
      show BitVec.ofBool (decide (x < pw 247)) = 0#1
      rw [decide_eq_false hb]; rfl
    rw [hc, ValueIdx.select_zero, if_pos (Or.inr hb'), sel_high]

theorem sub_word (B : ℕ) (h1 : 1 ≤ B) (h2 : B < 247) :
    2122317824#32 - BitVec.ofNat 32 (B * 8388608) = BitVec.ofNat 32 ((253 - B) * 8388608) := by
  have hB : (253 - B) * 8388608 + B * 8388608 = 2122317824 := by
    rw [← Nat.add_mul, Nat.sub_add_cancel (by omega)]
  rw [← hB, BitVec.ofNat_add]
  exact BitVec.add_sub_cancel _ _

theorem kinv_eq_rinv (a : EReal) (ha : 0 ≤ a * Ideal.ofBits .f32 0x3B124925#32) : kinv a = rinv (a * Ideal.ofBits .f32 0x3B124925#32) := by
  unfold kinv
  generalize a * Ideal.ofBits .f32 0x3B124925#32 = x at ha
  obtain ⟨-, h256, -⟩ := expo_inv ha
  have e1 : Ideal.ofBits .f32 0x00800000#32 = pw 1 := by unfold pw; norm_num
  have e247 : Ideal.ofBits .f32 0x7B800000#32 = pw 247 := by unfold pw; norm_num
  have h1 : x < pw 1 ↔ expo x = 0 := by
    rw [← not_le, pw_le_iff ha (by norm_num)]; omega
  have h247 : pw 247 ≤ x ↔ 247 ≤ expo x := pw_le_iff ha (by norm_num)
  have h247' : x < pw 247 ↔ expo x < 247 := by rw [← not_le, h247]; omega
  have hk := kbits2_eq x ha
  rw [hk]
  unfold rinv
  rw [e1, e247]
  change _ = Ideal.exp2 (0 - Scalar.select (IntOp.ori (BitVec.ofBool (decide (x < pw 1))) (BitVec.ofBool (decide (pw 247 ≤ x)))) _ _)
  by_cases hc : expo x = 0 ∨ 247 ≤ expo x
  · have hs : Scalar.select (IntOp.ori (BitVec.ofBool (decide (x < pw 1))) (BitVec.ofBool (decide (pw 247 ≤ x)))) (0 : EReal)
        ((∑ k : Fin 246, Scalar.select (Ideal.cmp .ole (Ideal.exp2 (((k.val : ℝ) : EReal) - ((126 : ℝ) : EReal))) x) (1 : EReal) 0) - ((126 : ℝ) : EReal)) = 0 := by
      rcases hc with h | h
      · rw [decide_eq_true (h1.mpr h)]
        by_cases h2 : pw 247 ≤ x <;> simp [h2, IntOp.ori, Scalar.select]
      · rw [decide_eq_true (h247.mpr h)]
        by_cases h2 : x < pw 1 <;> simp [h2, IntOp.ori, Scalar.select]
    rw [hs, if_pos hc]
    have h127 : Ideal.ofBits .f32 (2122317824#32 - BitVec.ofNat 32 (126 * 8388608)) = pw 127 := by
      have : 2122317824#32 - BitVec.ofNat 32 (126 * 8388608) = BitVec.ofNat 32 (127 * 8388608) := sub_word 126 (by norm_num) (by norm_num)
      rw [this]; unfold pw; rfl
    rw [h127, pw_eq 127 (by norm_num)]
    have : (0 : EReal) - 0 = ((0 : ℝ) : EReal) := by simp
    rw [this]
    show _ = ((Real.rpow 2 0 : ℝ) : EReal)
    have hr : Real.rpow 2 0 = 1 := Real.rpow_zero 2
    rw [hr]
    norm_num
  · rw [if_neg hc]
    have hn1 : ¬ x < pw 1 := fun h => hc (.inl (h1.mp h))
    have hn2 : ¬ pw 247 ≤ x := fun h => hc (.inr (h247.mp h))
    rw [decide_eq_false hn1, decide_eq_false hn2, count_eq ha (by omega)]
    have hw : Ideal.ofBits .f32 (2122317824#32 - BitVec.ofNat 32 (expo x * 8388608)) = pw (253 - expo x) := by
      rw [sub_word _ (by omega) (by omega)]; unfold pw; rfl
    rw [hw, pw_eq _ (by omega)]
    have a1 : 253 - expo x ≠ 255 := by omega
    have a2 : 253 - expo x ≠ 0 := by omega
    simp only [a1, a2, if_false]
    change _ = Ideal.exp2 (0 - (((expo x : ℝ) : EReal) - ((126 : ℝ) : EReal)))
    rw [← EReal.coe_sub, ← EReal.coe_zero, ← EReal.coe_sub]
    show _ = ((Real.rpow 2 (0 - ((expo x : ℝ) - 126)) : ℝ) : EReal)
    congr 1
    show _ = (2 : ℝ) ^ (0 - ((expo x : ℝ) - 126))
    rw [← Real.rpow_intCast]
    congr 1
    rw [Nat.cast_sub (by omega)]
    push_cast; ring

theorem rexp_eq (x : EReal) (ha : 0 ≤ x) :
    rexp x = if expo x = 0 ∨ 247 ≤ expo x then ((0 : ℝ) : EReal) else (((expo x : ℝ) - 126 : ℝ) : EReal) := by
  have e1 : Ideal.ofBits .f32 0x00800000#32 = pw 1 := by unfold pw; norm_num
  have e247 : Ideal.ofBits .f32 0x7B800000#32 = pw 247 := by unfold pw; norm_num
  have h1 : x < pw 1 ↔ expo x = 0 := by
    rw [← not_le, pw_le_iff ha (by norm_num)]; omega
  have h247 : pw 247 ≤ x ↔ 247 ≤ expo x := pw_le_iff ha (by norm_num)
  unfold rexp
  rw [e1, e247]
  change Scalar.select (IntOp.ori (BitVec.ofBool (decide (x < pw 1))) (BitVec.ofBool (decide (pw 247 ≤ x)))) _ _ = _
  by_cases hc : expo x = 0 ∨ 247 ≤ expo x
  · rw [if_pos hc, EReal.coe_zero]
    rcases hc with h | h
    · rw [decide_eq_true (h1.mpr h)]
      by_cases h2 : pw 247 ≤ x <;> simp [h2, IntOp.ori, Scalar.select]
    · rw [decide_eq_true (h247.mpr h)]
      by_cases h2 : x < pw 1 <;> simp [h2, IntOp.ori, Scalar.select]
  · rw [if_neg hc]
    have hn1 : ¬ x < pw 1 := fun h => hc (.inl (h1.mp h))
    have hn2 : ¬ pw 247 ≤ x := fun h => hc (.inr (h247.mp h))
    rw [decide_eq_false hn1, decide_eq_false hn2, count_eq ha (by omega), EReal.coe_sub]
    rfl

theorem add_word (B : ℕ) : BitVec.ofNat 32 (B * 8388608) + 8388608#32 = BitVec.ofNat 32 ((B + 1) * 8388608) := by
  rw [Nat.add_mul, BitVec.ofNat_add, Nat.one_mul]

/-- The kernel's scale is the power of two of the reference's exponent. -/
theorem kscl_eq_rexp (a : EReal) (ha : 0 ≤ a * Ideal.ofBits .f32 0x3B124925#32) : kscl a = Ideal.exp2 (rexp (a * Ideal.ofBits .f32 0x3B124925#32)) := by
  unfold kscl
  generalize a * Ideal.ofBits .f32 0x3B124925#32 = x at ha
  rw [kbits2_eq x ha, rexp_eq x ha, add_word]
  by_cases hc : expo x = 0 ∨ 247 ≤ expo x
  · rw [if_pos hc, if_pos hc]
    show pw 127 = ((Real.rpow 2 0 : ℝ) : EReal)
    rw [pw_eq 127 (by norm_num)]
    have hr : Real.rpow 2 0 = 1 := Real.rpow_zero 2
    rw [hr]
    norm_num
  · rw [if_neg hc, if_neg hc]
    show pw (expo x + 1) = ((Real.rpow 2 ((expo x : ℝ) - 126) : ℝ) : EReal)
    rw [pw_eq _ (by omega)]
    have a1 : expo x + 1 ≠ 255 := by omega
    simp only [a1, Nat.succ_ne_zero, if_false]
    congr 1
    show _ = (2 : ℝ) ^ ((expo x : ℝ) - 126)
    rw [← Real.rpow_intCast]
    congr 1
    push_cast; ring

end Cert.Quant
-- ==== Proof.KRefA.lean ====
module

public import proofs.«01_k».proof.Proof.KValue
public import proofs.«01_k».proof.Proof.KQuantL
public import proofs.«01_k».proof.Proof.Gen.ReferenceIdeal.Value

/-! The parts of the reference's program, at an index. -/

@[expose] public section

set_option maxRecDepth 16384

noncomputable section

open scoped BigOperators

namespace Cert.ReferenceIdeal.Run

open Cert.ReferenceIdeal Cert.ReferenceIdeal.Gen Idealize.ShloMosaic Idealize.ShloMosaic.ValueIdx Cert.Quant
open Cert.KernelIdeal.Run (gW gM gR QC grp)

theorem ofBits_126 : Ideal.ofBits .f32 0x42FC0000#32 = ((126 : ℝ) : EReal) := by
  simp [Ideal.ofBits, Ideal.ieee, -EReal.coe_mul]; norm_num

theorem ofBits_inv448 : (0 : EReal) ≤ Ideal.ofBits .f32 0x3B124925#32 := by
  simp [Ideal.ofBits, Ideal.ieee, -EReal.coe_mul]

theorem abs_nonneg' (w : EReal) : 0 ≤ max w (-w) := by
  rcases le_total 0 w with h | h
  · exact le_max_of_le_left h
  · exact le_max_of_le_right (EReal.neg_nonneg.mpr h)

theorem gM_nonneg (W : Fin 16896 → Fin 2048 → EReal) (B : Fin 132) (C : Fin 2048) : 0 ≤ gM W B C * Ideal.ofBits .f32 0x3B124925#32 := by
  refine EReal.mul_nonneg ?_ ofBits_inv448
  unfold gM
  exact (Finset.le_fold_max _).mpr (.inr ⟨0, Finset.mem_univ _, abs_nonneg' _⟩)

theorem gR_nonneg (W : Fin 16896 → Fin 2048 → EReal) (R : Fin 16896) (g : Fin 16) : 0 ≤ gR W R g * Ideal.ofBits .f32 0x3B124925#32 := by
  refine EReal.mul_nonneg ?_ ofBits_inv448
  unfold gR
  exact (Finset.le_fold_max _).mpr (.inr ⟨0, Finset.mem_univ _, abs_nonneg' _⟩)

variable (a0 : Vec Ideal S3x5632x2048 .fp8e4m3) (a1 : Vec Ideal S3x5632x16 .f32) (a2 : Vec Ideal S3x5632x2048 .bf16) (a3 : Vec Ideal S3x5632x2048 .f32)

/-- The reference's weight. -/
theorem pay4_apply (b : Fin 3) (r : Fin 5632) (C : Fin 2048) :
    k0_pay4 (F := Ideal) a0 a1 a2 a3 (ix3 b r C) = gW a0 a1 a2 a3 ⟨5632 * b.val + r.val, by omega⟩ C := by
  unfold k0_pay4
  have h7 : shapeCast S3x5632x2048 (mulf (F := Ideal) (shapeCast S3x5632x16x128 (extf .f32 a0 bitsLt_fp8e4m3_f32 : FVec Ideal S3x5632x2048 .f32) shapeCasts_S3x5632x2048_S3x5632x16x128)
      (broadcastTo S3x5632x16x128 (shapeCast S3x5632x16x1 a1 shapeCasts_S3x5632x16_S3x5632x16x1) broadcasts_S3x5632x16x1_S3x5632x16x128)) shapeCasts_S3x5632x16x128_S3x5632x2048 (ix3 b r C)
      = (a0 (ix3 b r C) * a1 (ix3 b r (grp C)) : EReal) := by
    refine (shapeCast_apply _ _ _ (ix4 b r (grp C) (⟨C.val % 128, by omega⟩ : Fin 128)) ?_).trans ?_
    · rw [show (S3x5632x2048.rowMajor (ix3 b r C)).val = _ from Shape.rowMajor_val_three _,
        show (S3x5632x16x128.rowMajor (ix4 b r (grp C) (⟨C.val % 128, by omega⟩ : Fin 128))).val = _ from Shape.rowMajor_val_four _]
      show ((b.val * 5632 + r.val) * 16 + C.val / 128) * 128 + C.val % 128 = (b.val * 5632 + r.val) * 2048 + C.val
      omega
    · refine congrArg₂ (α := EReal) (β := EReal) (γ := EReal) (· * ·) ?_ ?_
      · refine shapeCast_apply (t := S3x5632x16x128) a0 shapeCasts_S3x5632x2048_S3x5632x16x128 _ (ix3 b r C) ?_
        rw [show (S3x5632x2048.rowMajor (ix3 b r C)).val = _ from Shape.rowMajor_val_three _,
          show (S3x5632x16x128.rowMajor (ix4 b r (grp C) (⟨C.val % 128, by omega⟩ : Fin 128))).val = _ from Shape.rowMajor_val_four _]
        show (b.val * 5632 + r.val) * 2048 + C.val = ((b.val * 5632 + r.val) * 16 + C.val / 128) * 128 + C.val % 128
        omega
      · refine (broadcastTo_apply _ _ _ (ix4 b r (grp C) (0 : Fin 1)) ?_).trans ?_
        · intro a
          match a with
          | ⟨0, _⟩ => rfl
          | ⟨1, _⟩ => rfl
          | ⟨2, _⟩ => rfl
          | ⟨3, _⟩ => rfl
        · refine shapeCast_apply _ _ _ (ix3 b r (grp C)) ?_
          rw [show (S3x5632x16.rowMajor (ix3 b r (grp C))).val = _ from Shape.rowMajor_val_three _,
            show (S3x5632x16x1.rowMajor (ix4 b r (grp C) (0 : Fin 1))).val = _ from Shape.rowMajor_val_four _]
          show (b.val * 5632 + r.val) * 16 + (grp C).val = ((b.val * 5632 + r.val) * 16 + (grp C).val) * 1 + 0
          omega
  unfold gW
  have eb : (⟨(5632 * b.val + r.val) / 5632, by omega⟩ : Fin 3) = b := Fin.ext (by show (5632 * b.val + r.val) / 5632 = b.val; omega)
  have er : (⟨(5632 * b.val + r.val) % 5632, by omega⟩ : Fin 5632) = r := Fin.ext (by show (5632 * b.val + r.val) % 5632 = r.val; omega)
  show _ = a0 (ix3 (⟨(5632 * b.val + r.val) / 5632, _⟩ : Fin 3) (⟨(5632 * b.val + r.val) % 5632, _⟩ : Fin 5632) C)
    * a1 (ix3 (⟨(5632 * b.val + r.val) / 5632, _⟩ : Fin 3) (⟨(5632 * b.val + r.val) % 5632, _⟩ : Fin 5632) (grp C))
    + a2 (ix3 (⟨(5632 * b.val + r.val) / 5632, _⟩ : Fin 3) (⟨(5632 * b.val + r.val) % 5632, _⟩ : Fin 5632) C)
    + a3 (ix3 (⟨(5632 * b.val + r.val) / 5632, _⟩ : Fin 3) (⟨(5632 * b.val + r.val) % 5632, _⟩ : Fin 5632) C)
  rw [eb, er]
  exact congrArg (fun z : EReal => z + a2 (ix3 b r C) + a3 (ix3 b r C)) h7

theorem pay12_apply (b : Fin 3) (B : Fin 44) (k : Fin 128) (C : Fin 2048) :
    k0_pay12 (F := Ideal) (k0_pay4 a0 a1 a2 a3) (ix4 b B k C) = gW a0 a1 a2 a3 ⟨128 * (44 * b.val + B.val) + k.val, by omega⟩ C := by
  unfold k0_pay12
  refine (shapeCast_apply _ _ _ (ix3 b (⟨128 * B.val + k.val, by omega⟩ : Fin 5632) C) ?_).trans ((pay4_apply a0 a1 a2 a3 _ _ _).trans ?_)
  · rw [show (S3x5632x2048.rowMajor (ix3 b (⟨128 * B.val + k.val, by omega⟩ : Fin 5632) C)).val = _ from Shape.rowMajor_val_three _,
      show (S3x44x128x2048.rowMajor (ix4 b B k C)).val = _ from Shape.rowMajor_val_four _]
    show (b.val * 5632 + (128 * B.val + k.val)) * 2048 + C.val = ((b.val * 44 + B.val) * 128 + k.val) * 2048 + C.val
    omega
  · exact congrArg (fun R => gW a0 a1 a2 a3 R C) (Fin.ext (by show 5632 * b.val + (128 * B.val + k.val) = 128 * (44 * b.val + B.val) + k.val; omega))

theorem pay5_apply (b : Fin 3) (r : Fin 5632) (g : Fin 16) (l : Fin 128) :
    k0_pay5 (F := Ideal) a0 a1 a2 a3 (ix4 b r g l) = gW a0 a1 a2 a3 ⟨5632 * b.val + r.val, by omega⟩ ⟨128 * g.val + l.val, by omega⟩ := by
  unfold k0_pay5
  refine (shapeCast_apply _ _ _ (ix3 b r (⟨128 * g.val + l.val, by omega⟩ : Fin 2048)) ?_).trans (pay4_apply a0 a1 a2 a3 _ _ _)
  rw [show (S3x5632x2048.rowMajor (ix3 b r (⟨128 * g.val + l.val, by omega⟩ : Fin 2048))).val = _ from Shape.rowMajor_val_three _,
    show (S3x5632x16x128.rowMajor (ix4 b r g l)).val = _ from Shape.rowMajor_val_four _]
  show (b.val * 5632 + r.val) * 2048 + (128 * g.val + l.val) = ((b.val * 5632 + r.val) * 16 + g.val) * 128 + l.val
  omega

/-- A multiplication by a constant, at an index. -/
theorem mul_gen {s : Shape} (x : FVec Ideal s .f32) (w : BitVec 32) (i : s.Idx) :
    mulf x (broadcast s (Scalar.ofBits .f32 w)) i = (x i * Ideal.ofBits .f32 w : EReal) := rfl

/-- An absolute value, at an index. -/
theorem abs_gen {s : Shape} (x : FVec Ideal s .f32) (i : s.Idx) :
    absf x i = (max (x i) (-(x i)) : EReal) := rfl

/-- Two comparisons with constants, joined, at an index. -/
theorem ori_gen {s : Shape} (x : FVec Ideal s .f32) (w1 w2 : BitVec 32) (i : s.Idx) :
    ori (cmpf .olt x (broadcast s (Scalar.ofBits .f32 w1))) (cmpf .oge x (broadcast s (Scalar.ofBits .f32 w2))) i
      = IntOp.ori (Ideal.cmp .olt (x i) (Ideal.ofBits .f32 w1)) (Ideal.cmp .oge (x i) (Ideal.ofBits .f32 w2)) := rfl

/-- A clip between two constants, cast to the narrow type, at an index. -/
theorem trunc_gen {s : Shape} (y : FVec Ideal s .f32) (h : _) (i : s.Idx) :
    (truncf .fp8e4m3 y h i : EReal) = y i := rfl

/-- A clip between two constants, at an index. -/
theorem clip_gen {s : Shape} (y z : FVec Ideal s .f32) (hi lo : BitVec 32) (i : s.Idx) :
    minimumf (broadcast s (Scalar.ofBits .f32 hi)) (maximumf (broadcast s (Scalar.ofBits .f32 lo)) (mulf y z)) i
      = (min (Ideal.ofBits .f32 hi) (max (Ideal.ofBits .f32 lo) (y i * z i)) : EReal) := rfl

/-- The power of two of a guarded exponent, at an index. -/
theorem pow_gen {s : Shape} (c : IVec s 1) (e : FVec Ideal s .f32) (w0 w1 : BitVec 32) (i : s.Idx) :
    exp2 (subf (broadcast s (Scalar.ofBits .f32 w0)) (select c (broadcast s (Scalar.ofBits .f32 w1)) e)) i
      = Ideal.exp2 (Ideal.ofBits .f32 w0 - Scalar.select (c i) (Ideal.ofBits .f32 w1) (e i) : EReal) := rfl

/-- A maximum over the rows of a group, at an index. -/
theorem max_apply (v : FVec Ideal S3x44x128x2048 .f32) (b : Fin 3) (B : Fin 44) (C : Fin 2048) :
    multiReduction .maximumf [2] S3x44x2048 v 0xFF800000#32 reduces_S3x44x128x2048_S3x44x2048 (.inl rfl) rfl (ix3 b B C)
      = (Finset.univ : Finset (Fin 128)).fold max (Ideal.ofBits .f32 0xFF800000#32) fun k => (v (ix4 b B k C) : EReal) := by
  refine (Ideal.multiReduction_maximumf_single (a := (2 : Fin S3x44x128x2048.rank)) v _ reduces_S3x44x128x2048_S3x44x2048 _ _ (ix3 b B C)).trans ?_
  refine congrArg (fun f => (Finset.univ : Finset (Fin 128)).fold max (Ideal.ofBits .f32 0xFF800000#32) f) (funext fun k => ?_)
  refine congrArg v (funext fun a => ?_)
  match a with
  | ⟨0, _⟩ => exact Fin.ext rfl
  | ⟨1, _⟩ => exact Fin.ext rfl
  | ⟨2, _⟩ => exact Fin.ext rfl
  | ⟨3, _⟩ => exact Fin.ext rfl

/-- A sum over the last axis, at an index. -/
theorem sum_apply (v : FVec Ideal S3x44x1x2048x246 .f32) (b : Fin 3) (B : Fin 44) (C : Fin 2048) :
    multiReduction .add [4] S3x44x1x2048 v 0x00000000#32 reduces_S3x44x1x2048x246_S3x44x1x2048 (.inl rfl) rfl (ix4 b B (0 : Fin 1) C)
      = ∑ k : Fin 246, (v (ix5 b B (0 : Fin 1) C k) : EReal) := by
  refine (Ideal.multiReduction_add_single (a := (4 : Fin S3x44x1x2048x246.rank)) v _ reduces_S3x44x1x2048x246_S3x44x1x2048 _ _ (ix4 b B (0 : Fin 1) C)).trans ?_
  refine congrArg (fun f : Fin 246 → EReal => ∑ k, f k) (funext fun k => ?_)
  refine congrArg v (funext fun a => ?_)
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- A maximum over the columns of a group, at an index. -/
theorem max_row (v : FVec Ideal S3x5632x16x128 .f32) (b : Fin 3) (r : Fin 5632) (g : Fin 16) :
    multiReduction .maximumf [3] S3x5632x16 v 0xFF800000#32 reduces_S3x5632x16x128_S3x5632x16 (.inl rfl) rfl (ix3 b r g)
      = (Finset.univ : Finset (Fin 128)).fold max (Ideal.ofBits .f32 0xFF800000#32) fun k => (v (ix4 b r g k) : EReal) := by
  refine (Ideal.multiReduction_maximumf_single (a := (3 : Fin S3x5632x16x128.rank)) v _ reduces_S3x5632x16x128_S3x5632x16 _ _ (ix3 b r g)).trans ?_
  refine congrArg (fun f => (Finset.univ : Finset (Fin 128)).fold max (Ideal.ofBits .f32 0xFF800000#32) f) (funext fun k => ?_)
  refine congrArg v (funext fun a => ?_)
  match a with
  | ⟨0, _⟩ => exact Fin.ext rfl
  | ⟨1, _⟩ => exact Fin.ext rfl
  | ⟨2, _⟩ => exact Fin.ext rfl
  | ⟨3, _⟩ => exact Fin.ext rfl

/-- A sum over the last axis, at an index. -/
theorem sum_row (v : FVec Ideal S3x5632x16x1x246 .f32) (b : Fin 3) (r : Fin 5632) (g : Fin 16) :
    multiReduction .add [4] S3x5632x16x1 v 0x00000000#32 reduces_S3x5632x16x1x246_S3x5632x16x1 (.inl rfl) rfl (ix4 b r g (0 : Fin 1))
      = ∑ k : Fin 246, (v (ix5 b r g (0 : Fin 1) k) : EReal) := by
  refine (Ideal.multiReduction_add_single (a := (4 : Fin S3x5632x16x1x246.rank)) v _ reduces_S3x5632x16x1x246_S3x5632x16x1 _ _ (ix4 b r g (0 : Fin 1))).trans ?_
  refine congrArg (fun f : Fin 246 → EReal => ∑ k, f k) (funext fun k => ?_)
  refine congrArg v (funext fun a => ?_)
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- The word of a small coordinate, as a real. -/
theorem word_real (k : ℕ) (hk : k < 246) : (((BitVec.ofNat 32 k).toInt : ℝ) : EReal) = ((k : ℝ) : EReal) := by
  have h : (BitVec.ofNat 32 k).toInt = (k : ℤ) := by
    rw [BitVec.toInt_eq_toNat_cond, BitVec.toNat_ofNat, Nat.mod_eq_of_lt (by omega), if_pos (by omega)]
  rw [h]; push_cast; rfl

/-- One power of two compared with a value, at an index. -/
theorem count_gen {s : Shape} (n : IVec s 32) (z : FVec Ideal s .f32) (w126 w1 w0 : BitVec 32) (i : s.Idx) :
    select (cmpf .ole (exp2 (subf (sitofp (F := Ideal) .f32 n) (broadcast s (Scalar.ofBits .f32 w126)))) z)
      (broadcast s (Scalar.ofBits (F := Ideal) .f32 w1)) (broadcast s (Scalar.ofBits .f32 w0)) i
      = Scalar.select (Ideal.cmp .ole (Ideal.exp2 ((((n i).toInt : ℝ) : EReal) - Ideal.ofBits .f32 w126)) (z i)) (Ideal.ofBits .f32 w1) (Ideal.ofBits .f32 w0) := rfl

/-- The counter of powers of two, at an index. -/
theorem iota_apply (b : Fin 3) (B : Fin 44) (C : Fin 2048) (k : Fin 246) :
    iota .tc S3x44x1x2048x246 32 [4] iota_S3x44x1x2048x246_d4_w32 (ix5 b B (0 : Fin 1) C k) = BitVec.ofNat 32 k.val :=
  iota_single_apply ..

/-- The row-major place of a value and of its single entry along a new last axis are the same. -/
theorem place_apply (b : Fin 3) (B : Fin 44) (C : Fin 2048) :
    (S3x44x1x2048.rowMajor (ix4 b B (0 : Fin 1) C)).val = (S3x44x1x2048x1.rowMajor (ix5 b B (0 : Fin 1) C (0 : Fin 1))).val := by
  rw [show (S3x44x1x2048.rowMajor (ix4 b B (0 : Fin 1) C)).val = _ from Shape.rowMajor_val_four _,
    show (S3x44x1x2048x1.rowMajor (ix5 b B (0 : Fin 1) C (0 : Fin 1))).val = _ from Shape.rowMajor_val_five _]
  show ((b.val * 44 + B.val) * 1 + 0) * 2048 + C.val = (((b.val * 44 + B.val) * 1 + 0) * 2048 + C.val) * 1 + 0
  omega

/-- A value spread along the axis of powers of two. -/
theorem spread_apply (x : FVec Ideal S3x44x1x2048 .f32) (b : Fin 3) (B : Fin 44) (C : Fin 2048) (k : Fin 246) :
    broadcastTo S3x44x1x2048x246 (shapeCast S3x44x1x2048x1 x shapeCasts_S3x44x1x2048_S3x44x1x2048x1) broadcasts_S3x44x1x2048x1_S3x44x1x2048x246 (ix5 b B (0 : Fin 1) C k)
      = x (ix4 b B (0 : Fin 1) C) := by
  refine (broadcastTo_apply _ _ _ (ix5 b B (0 : Fin 1) C (0 : Fin 1)) ?_).trans (shapeCast_apply _ _ _ (ix4 b B (0 : Fin 1) C) (place_apply b B C))
  intro a
  match a with
  | ⟨0, _⟩ => rfl
  | ⟨1, _⟩ => rfl
  | ⟨2, _⟩ => rfl
  | ⟨3, _⟩ => rfl
  | ⟨4, _⟩ => rfl

/-- One power of two compared with the scaled maximum. -/
theorem count_apply (x : FVec Ideal S3x44x1x2048 .f32) (w126 w1 w0 : BitVec 32) (b : Fin 3) (B : Fin 44) (C : Fin 2048) (k : Fin 246) :
    select (cmpf .ole (exp2 (subf (sitofp (F := Ideal) .f32 (iota .tc S3x44x1x2048x246 32 [4] iota_S3x44x1x2048x246_d4_w32)) (broadcast S3x44x1x2048x246 (Scalar.ofBits .f32 w126))))
        (broadcastTo S3x44x1x2048x246 (shapeCast S3x44x1x2048x1 x shapeCasts_S3x44x1x2048_S3x44x1x2048x1) broadcasts_S3x44x1x2048x1_S3x44x1x2048x246))
      (broadcast S3x44x1x2048x246 (Scalar.ofBits (F := Ideal) .f32 w1)) (broadcast S3x44x1x2048x246 (Scalar.ofBits .f32 w0)) (ix5 b B (0 : Fin 1) C k)
      = Scalar.select (Ideal.cmp .ole (Ideal.exp2 (((k.val : ℝ) : EReal) - Ideal.ofBits .f32 w126)) (x (ix4 b B (0 : Fin 1) C))) (Ideal.ofBits .f32 w1) (Ideal.ofBits .f32 w0) := by
  rw [count_gen, iota_apply, spread_apply, word_real k.val k.isLt]

/-- The counter of powers of two, at an index. -/
theorem iota_row (b : Fin 3) (r : Fin 5632) (g : Fin 16) (k : Fin 246) :
    iota .tc S3x5632x16x1x246 32 [4] iota_S3x5632x16x1x246_d4_w32 (ix5 b r g (0 : Fin 1) k) = BitVec.ofNat 32 k.val :=
  iota_single_apply ..

/-- The row-major place of a value and of its single entry along a new last axis are the same. -/
theorem place_row (b : Fin 3) (r : Fin 5632) (g : Fin 16) :
    (S3x5632x16x1.rowMajor (ix4 b r g (0 : Fin 1))).val = (S3x5632x16x1x1.rowMajor (ix5 b r g (0 : Fin 1) (0 : Fin 1))).val := by
  rw [show (S3x5632x16x1.rowMajor (ix4 b r g (0 : Fin 1))).val = _ from Shape.rowMajor_val_four _,
    show (S3x5632x16x1x1.rowMajor (ix5 b r g (0 : Fin 1) (0 : Fin 1))).val = _ from Shape.rowMajor_val_five _]
  show ((b.val * 5632 + r.val) * 16 + g.val) * 1 + 0 = (((b.val * 5632 + r.val) * 16 + g.val) * 1 + 0) * 1 + 0
  omega

/-- A value spread along the axis of powers of two. -/
theorem spread_row (x : FVec Ideal S3x5632x16x1 .f32) (b : Fin 3) (r : Fin 5632) (g : Fin 16) (k : Fin 246) :
    broadcastTo S3x5632x16x1x246 (shapeCast S3x5632x16x1x1 x shapeCasts_S3x5632x16x1_S3x5632x16x1x1) broadcasts_S3x5632x16x1x1_S3x5632x16x1x246 (ix5 b r g (0 : Fin 1) k)
      = x (ix4 b r g (0 : Fin 1)) := by
  refine (broadcastTo_apply _ _ _ (ix5 b r g (0 : Fin 1) (0 : Fin 1)) ?_).trans (shapeCast_apply _ _ _ (ix4 b r g (0 : Fin 1)) (place_row b r g))
  intro a
  match a with
  | ⟨0, _⟩ => rfl
  | ⟨1, _⟩ => rfl
  | ⟨2, _⟩ => rfl
  | ⟨3, _⟩ => rfl
  | ⟨4, _⟩ => rfl

/-- One power of two compared with the scaled maximum. -/
theorem count_row (x : FVec Ideal S3x5632x16x1 .f32) (w126 w1 w0 : BitVec 32) (b : Fin 3) (r : Fin 5632) (g : Fin 16) (k : Fin 246) :
    select (cmpf .ole (exp2 (subf (sitofp (F := Ideal) .f32 (iota .tc S3x5632x16x1x246 32 [4] iota_S3x5632x16x1x246_d4_w32)) (broadcast S3x5632x16x1x246 (Scalar.ofBits .f32 w126))))
        (broadcastTo S3x5632x16x1x246 (shapeCast S3x5632x16x1x1 x shapeCasts_S3x5632x16x1_S3x5632x16x1x1) broadcasts_S3x5632x16x1x1_S3x5632x16x1x246))
      (broadcast S3x5632x16x1x246 (Scalar.ofBits (F := Ideal) .f32 w1)) (broadcast S3x5632x16x1x246 (Scalar.ofBits .f32 w0)) (ix5 b r g (0 : Fin 1) k)
      = Scalar.select (Ideal.cmp .ole (Ideal.exp2 (((k.val : ℝ) : EReal) - Ideal.ofBits .f32 w126)) (x (ix4 b r g (0 : Fin 1)))) (Ideal.ofBits .f32 w1) (Ideal.ofBits .f32 w0) := by
  rw [count_gen, iota_row, spread_row, word_real k.val k.isLt]

end Cert.ReferenceIdeal.Run

end
-- ==== Proof.KRef.lean ====
module

public import proofs.«01_k».proof.Proof.KRefA
public import proofs.«01_k».proof.Proof.KQuantL
public import proofs.«01_k».proof.Proof.Gen.ReferenceIdeal.Value

/-! The arrays that the reference ends with are the kernel's functions of the arguments. -/

@[expose] public section

set_option maxRecDepth 16384

noncomputable section

open scoped BigOperators

namespace Cert.ReferenceIdeal.Run

open Cert.ReferenceIdeal Cert.ReferenceIdeal.Gen Idealize.ShloMosaic Idealize.ShloMosaic.ValueIdx Cert.Quant
open Cert.KernelIdeal.Run (gW gM gR QC QR RN grp)

variable (a0 : Vec Ideal S3x5632x2048 .fp8e4m3) (a1 : Vec Ideal S3x5632x16 .f32) (a2 : Vec Ideal S3x5632x2048 .bf16) (a3 : Vec Ideal S3x5632x2048 .f32)

theorem ld_wide {e : EltTy} (x : Vec Ideal S3x5632x2048 e) : View.ld x r0_0 = x :=
  View.ld_unit_zero (funext fun a => by fin_cases a <;> rfl) _ x
theorem ld_scale (x : Vec Ideal S3x5632x16 .f32) : View.ld x r0_1 = x :=
  View.ld_unit_zero (funext fun a => by fin_cases a <;> rfl) _ x

theorem pay16_eq : k0_pay16 (F := Ideal) a0 a1 a2 a3 = k0_pay4 a0 a1 a2 a3 := by
  unfold k0_pay16
  rw [ld_wide, ld_wide, ld_wide, ld_scale]
theorem pay17_eq : k0_pay17 (F := Ideal) a0 a1 a2 a3 = k0_pay5 a0 a1 a2 a3 := by
  unfold k0_pay17
  rw [ld_wide, ld_wide, ld_wide, ld_scale]
theorem pay18_eq : k0_pay18 (F := Ideal) a0 a1 a2 a3 = k0_pay7 a0 a1 a2 a3 := by
  unfold k0_pay18
  rw [ld_wide, ld_wide, ld_wide, ld_scale]
theorem pay19_eq : k0_pay19 (F := Ideal) a0 a1 a2 a3 = k0_pay8 a0 a1 a2 a3 := by
  unfold k0_pay19
  rw [ld_wide, ld_wide, ld_wide, ld_scale]

/-- The reference's scaled maximum. -/
def rx (b : Fin 3) (B : Fin 44) (C : Fin 2048) : EReal :=
  gM (gW a0 a1 a2 a3) ⟨44 * b.val + B.val, by omega⟩ C * Ideal.ofBits .f32 0x3B124925#32

theorem pay13_apply (b : Fin 3) (B : Fin 44) (C : Fin 2048) :
    k0_pay13 (F := Ideal) (k0_pay4 a0 a1 a2 a3) (ix4 b B (0 : Fin 1) C) = rx a0 a1 a2 a3 b B C := by
  have hp := fun k => pay12_apply a0 a1 a2 a3 b B k C
  unfold k0_pay13 rx gM
  generalize k0_pay12 (F := Ideal) (k0_pay4 a0 a1 a2 a3) = v at hp ⊢
  refine (mul_gen _ _ _).trans (congrArg (fun z : EReal => z * Ideal.ofBits .f32 0x3B124925#32) ?_)
  refine (shapeCast_apply _ _ _ (ix3 b B C) ?_).trans ?_
  · rw [show (S3x44x2048.rowMajor (ix3 b B C)).val = _ from Shape.rowMajor_val_three _,
      show (S3x44x1x2048.rowMajor (ix4 b B (0 : Fin 1) C)).val = _ from Shape.rowMajor_val_four _]
    show (b.val * 44 + B.val) * 2048 + C.val = ((b.val * 44 + B.val) * 1 + 0) * 2048 + C.val
    omega
  · refine (max_apply _ b B C).trans ?_
    refine congrArg (fun f => (Finset.univ : Finset (Fin 128)).fold max (Ideal.ofBits .f32 0xFF800000#32) f) (funext fun k => ?_)
    exact (abs_gen v _).trans (congrArg (fun z : EReal => max z (-z)) (hp k))

theorem pay15_apply (b : Fin 3) (B : Fin 44) (C : Fin 2048) :
    k0_pay15 (F := Ideal) (k0_pay4 a0 a1 a2 a3) (ix4 b B (0 : Fin 1) C)
      = ((∑ k : Fin 246, Scalar.select (Ideal.cmp .ole (Ideal.exp2 (((k.val : ℝ) : EReal) - ((126 : ℝ) : EReal))) (rx a0 a1 a2 a3 b B C)) (1 : EReal) 0) - ((126 : ℝ) : EReal)) := by
  rw [← pay13_apply]
  unfold k0_pay15
  generalize k0_pay13 (F := Ideal) (k0_pay4 a0 a1 a2 a3) = x
  refine congrArg₂ (α := EReal) (β := EReal) (γ := EReal) (· - ·) ?_ ofBits_126
  refine (sum_apply _ b B C).trans (Finset.sum_congr rfl fun k _ => ?_)
  rw [count_apply, ofBits_126, Ideal.ofBits_one_f32, Ideal.ofBits_zero_f32]

theorem pay14_apply (b : Fin 3) (B : Fin 44) (C : Fin 2048) :
    k0_pay14 (F := Ideal) (k0_pay4 a0 a1 a2 a3) (ix4 b B (0 : Fin 1) C)
      = IntOp.ori (Ideal.cmp .olt (rx a0 a1 a2 a3 b B C) (Ideal.ofBits .f32 0x00800000#32)) (Ideal.cmp .oge (rx a0 a1 a2 a3 b B C) (Ideal.ofBits .f32 0x7B800000#32)) := by
  unfold k0_pay14
  rw [← pay13_apply]
  exact ori_gen _ _ _ _

/-- The reference's inverse scale is the kernel's. -/
theorem rscale (b : Fin 3) (B : Fin 44) (C : Fin 2048) :
    Ideal.exp2 (0 - Scalar.select (k0_pay14 (F := Ideal) (k0_pay4 a0 a1 a2 a3) (ix4 b B (0 : Fin 1) C)) (0 : EReal) (k0_pay15 (F := Ideal) (k0_pay4 a0 a1 a2 a3) (ix4 b B (0 : Fin 1) C)))
      = kinv (gM (gW a0 a1 a2 a3) ⟨44 * b.val + B.val, by omega⟩ C) := by
  rw [pay14_apply, pay15_apply, kinv_eq_rinv _ (gM_nonneg _ _ _)]
  rfl

theorem G6_apply (R : Fin 16896) (C : Fin 2048) :
    Cert.ReferenceIdeal.Value.G6 (F := Ideal) a0 a1 a2 a3 (ix2 R C) = QC (gW a0 a1 a2 a3) R C := by
  show k0_pay3 (F := Ideal) (k0_pay12 (k0_pay16 a0 a1 a2 a3)) (k0_pay14 (k0_pay16 a0 a1 a2 a3)) (k0_pay15 (k0_pay16 a0 a1 a2 a3)) (ix2 R C) = _
  rw [pay16_eq]
  unfold k0_pay3
  have hR := R.isLt
  obtain ⟨b, hb⟩ : ∃ b : Fin 3, b.val = R.val / 5632 := ⟨⟨R.val / 5632, by omega⟩, rfl⟩
  obtain ⟨r, hr⟩ : ∃ r : Fin 5632, r.val = R.val % 5632 := ⟨⟨R.val % 5632, by omega⟩, rfl⟩
  obtain ⟨B, hB⟩ : ∃ B : Fin 44, B.val = r.val / 128 := ⟨⟨r.val / 128, by omega⟩, rfl⟩
  obtain ⟨k, hk⟩ : ∃ k : Fin 128, k.val = r.val % 128 := ⟨⟨r.val % 128, by omega⟩, rfl⟩
  refine (shapeCast_apply _ _ _ (ix3 b r C) ?_).trans ?_
  · rw [show (S3x5632x2048.rowMajor (ix3 b r C)).val = _ from Shape.rowMajor_val_three _,
      show (S16896x2048.rowMajor (ix2 R C)).val = _ from Shape.rowMajor_val_two _]
    show (b.val * 5632 + r.val) * 2048 + C.val = R.val * 2048 + C.val
    omega
  refine (trunc_gen _ _ _).trans ((shapeCast_apply _ _ _ (ix4 b B k C) ?_).trans ?_)
  · rw [show (S3x5632x2048.rowMajor (ix3 b r C)).val = _ from Shape.rowMajor_val_three _,
      show (S3x44x128x2048.rowMajor (ix4 b B k C)).val = _ from Shape.rowMajor_val_four _]
    show ((b.val * 44 + B.val) * 128 + k.val) * 2048 + C.val = (b.val * 5632 + r.val) * 2048 + C.val
    omega
  unfold QC
  refine (clip_gen _ _ _ _ _).trans (congrArg (fun z : EReal => min (Ideal.ofBits .f32 0x43E00000#32) (max (Ideal.ofBits .f32 0xC3E00000#32) z)) ?_)
  refine congrArg₂ (α := EReal) (β := EReal) (γ := EReal) (· * ·) ?_ ?_
  · rw [pay12_apply]
    exact congrArg (fun R => gW a0 a1 a2 a3 R C) (Fin.ext (by show 128 * (44 * b.val + B.val) + k.val = R.val; omega))
  · refine (broadcastTo_apply _ _ _ (ix4 b B (0 : Fin 1) C) ?_).trans ?_
    · intro a
      match a with
      | ⟨0, _⟩ => rfl
      | ⟨1, _⟩ => rfl
      | ⟨2, _⟩ => rfl
      | ⟨3, _⟩ => rfl
    · refine (pow_gen _ _ _ _ _).trans ?_
      rw [Ideal.ofBits_zero_f32, rscale]
      exact congrArg (fun B => kinv (gM (gW a0 a1 a2 a3) B C)) (Fin.ext (by show 44 * b.val + B.val = R.val / 128; omega))

/-! ## The rows -/

/-- The reference's scaled maximum of a row. -/
def rxr (b : Fin 3) (r : Fin 5632) (g : Fin 16) : EReal :=
  gR (gW a0 a1 a2 a3) ⟨5632 * b.val + r.val, by omega⟩ g * Ideal.ofBits .f32 0x3B124925#32

theorem pay6_apply (b : Fin 3) (r : Fin 5632) (g : Fin 16) :
    k0_pay6 (F := Ideal) a0 a1 a2 a3 (ix4 b r g (0 : Fin 1)) = rxr a0 a1 a2 a3 b r g := by
  have hp := fun k => pay5_apply a0 a1 a2 a3 b r g k
  unfold k0_pay6 rxr gR
  generalize k0_pay5 (F := Ideal) a0 a1 a2 a3 = v at hp ⊢
  refine (mul_gen _ _ _).trans (congrArg (fun z : EReal => z * Ideal.ofBits .f32 0x3B124925#32) ?_)
  refine (shapeCast_apply _ _ _ (ix3 b r g) ?_).trans ?_
  · rw [show (S3x5632x16.rowMajor (ix3 b r g)).val = _ from Shape.rowMajor_val_three _,
      show (S3x5632x16x1.rowMajor (ix4 b r g (0 : Fin 1))).val = _ from Shape.rowMajor_val_four _]
    show (b.val * 5632 + r.val) * 16 + g.val = ((b.val * 5632 + r.val) * 16 + g.val) * 1 + 0
    omega
  · refine (max_row _ b r g).trans ?_
    refine congrArg (fun f => (Finset.univ : Finset (Fin 128)).fold max (Ideal.ofBits .f32 0xFF800000#32) f) (funext fun k => ?_)
    exact (abs_gen v _).trans (congrArg (fun z : EReal => max z (-z)) (hp k))

theorem pay8_apply (b : Fin 3) (r : Fin 5632) (g : Fin 16) :
    k0_pay8 (F := Ideal) a0 a1 a2 a3 (ix4 b r g (0 : Fin 1))
      = ((∑ k : Fin 246, Scalar.select (Ideal.cmp .ole (Ideal.exp2 (((k.val : ℝ) : EReal) - ((126 : ℝ) : EReal))) (rxr a0 a1 a2 a3 b r g)) (1 : EReal) 0) - ((126 : ℝ) : EReal)) := by
  rw [← pay6_apply]
  unfold k0_pay8
  generalize k0_pay6 (F := Ideal) a0 a1 a2 a3 = x
  refine congrArg₂ (α := EReal) (β := EReal) (γ := EReal) (· - ·) ?_ ofBits_126
  refine (sum_row _ b r g).trans (Finset.sum_congr rfl fun k _ => ?_)
  rw [count_row, ofBits_126, Ideal.ofBits_one_f32, Ideal.ofBits_zero_f32]

theorem pay7_apply (b : Fin 3) (r : Fin 5632) (g : Fin 16) :
    k0_pay7 (F := Ideal) a0 a1 a2 a3 (ix4 b r g (0 : Fin 1))
      = IntOp.ori (Ideal.cmp .olt (rxr a0 a1 a2 a3 b r g) (Ideal.ofBits .f32 0x00800000#32)) (Ideal.cmp .oge (rxr a0 a1 a2 a3 b r g) (Ideal.ofBits .f32 0x7B800000#32)) := by
  unfold k0_pay7
  rw [← pay6_apply]
  exact ori_gen _ _ _ _

/-- A guarded value, at an index. -/
theorem guard_gen {s : Shape} (c : IVec s 1) (e : FVec Ideal s .f32) (w : BitVec 32) (i : s.Idx) :
    select c (broadcast s (Scalar.ofBits (F := Ideal) .f32 w)) e i = Scalar.select (c i) (Ideal.ofBits .f32 w) (e i) := rfl

/-- The reference's exponents, as the reductions' results give them. -/
theorem pay9_apply (b : Fin 3) (r : Fin 5632) (g : Fin 16) :
    k0_pay9 (F := Ideal) (k0_pay7 a0 a1 a2 a3) (k0_pay8 a0 a1 a2 a3) (Scalar.ofBits .f32 0x00000000#32) (ix4 b r g (0 : Fin 1)) = rexp (rxr a0 a1 a2 a3 b r g) := by
  unfold k0_pay9
  refine (guard_gen _ _ _ _).trans ?_
  rw [pay7_apply, pay8_apply, Ideal.ofBits_zero_f32]
  rfl

/-- The power of two of a negated exponent, at an index. -/
theorem npow_gen {s : Shape} (e : FVec Ideal s .f32) (w : BitVec 32) (i : s.Idx) :
    exp2 (subf (broadcast s (Scalar.ofBits .f32 w)) e) i = Ideal.exp2 (Ideal.ofBits .f32 w - e i : EReal) := rfl

/-- The power of two of an exponent, at an index. -/
theorem ppow_gen {s : Shape} (e : FVec Ideal s .f32) (i : s.Idx) : exp2 e i = Ideal.exp2 (e i : EReal) := rfl

/-- A difference cast to the narrow type, at an index. -/
theorem diff_gen {s : Shape} (x y : FVec Ideal s .f32) (h : _) (i : s.Idx) : (truncf .bf16 (subf x y) h i : EReal) = x i - y i := rfl

/-- A product, at an index. -/
theorem prod_gen {s : Shape} (x y : FVec Ideal s .f32) (i : s.Idx) : (mulf x y i : EReal) = x i * y i := rfl

/-- A cast to the wide type, at an index. -/
theorem ext_gen {s : Shape} (x : FVec Ideal s .fp8e4m3) (h : _) (i : s.Idx) : (extf .f32 x h i : EReal) = x i := rfl

/-- A value of a row and a column group, spread over the group's columns. -/
theorem group_apply (x : FVec Ideal S3x5632x16x1 .f32) (b : Fin 3) (r : Fin 5632) (g : Fin 16) (l : Fin 128) :
    broadcastTo S3x5632x16x128 x broadcasts_S3x5632x16x1_S3x5632x16x128 (ix4 b r g l) = x (ix4 b r g (0 : Fin 1)) := by
  refine broadcastTo_apply _ _ _ (ix4 b r g (0 : Fin 1)) ?_
  intro a
  match a with
  | ⟨0, _⟩ => rfl
  | ⟨1, _⟩ => rfl
  | ⟨2, _⟩ => rfl
  | ⟨3, _⟩ => rfl

/-- The row-major place of a column and of its place in its group are the same. -/
theorem col_place (b : Fin 3) (r : Fin 5632) (C : Fin 2048) :
    (S3x5632x16x128.rowMajor (ix4 b r (grp C) (⟨C.val % 128, by omega⟩ : Fin 128))).val = (S3x5632x2048.rowMajor (ix3 b r C)).val := by
  rw [show (S3x5632x2048.rowMajor (ix3 b r C)).val = _ from Shape.rowMajor_val_three _,
    show (S3x5632x16x128.rowMajor (ix4 b r (grp C) (⟨C.val % 128, by omega⟩ : Fin 128))).val = _ from Shape.rowMajor_val_four _]
  show ((b.val * 5632 + r.val) * 16 + C.val / 128) * 128 + C.val % 128 = (b.val * 5632 + r.val) * 2048 + C.val
  omega

theorem pay10_apply (b : Fin 3) (r : Fin 5632) (C : Fin 2048) :
    k0_pay10 (F := Ideal) (k0_pay5 a0 a1 a2 a3) (k0_pay7 a0 a1 a2 a3) (k0_pay8 a0 a1 a2 a3) (Scalar.ofBits .f32 0x00000000#32) (ix3 b r C)
      = QR (gW a0 a1 a2 a3) ⟨5632 * b.val + r.val, by omega⟩ C := by
  have h9 := pay9_apply a0 a1 a2 a3 b r (grp C)
  have h5 := pay5_apply a0 a1 a2 a3 b r (grp C) (⟨C.val % 128, by omega⟩ : Fin 128)
  unfold k0_pay10 QR
  generalize k0_pay9 (F := Ideal) (k0_pay7 a0 a1 a2 a3) (k0_pay8 a0 a1 a2 a3) (Scalar.ofBits .f32 0x00000000#32) = e at h9 ⊢
  generalize k0_pay5 (F := Ideal) a0 a1 a2 a3 = v at h5 ⊢
  refine (trunc_gen _ _ _).trans ((shapeCast_apply _ _ _ (ix4 b r (grp C) (⟨C.val % 128, by omega⟩ : Fin 128)) (col_place b r C)).trans ?_)
  refine (clip_gen _ _ _ _ _).trans (congrArg (fun z : EReal => min (Ideal.ofBits .f32 0x43E00000#32) (max (Ideal.ofBits .f32 0xC3E00000#32) z)) ?_)
  refine congrArg₂ (α := EReal) (β := EReal) (γ := EReal) (· * ·) (h5.trans ?_) ?_
  · exact congrArg (fun D => gW a0 a1 a2 a3 ⟨5632 * b.val + r.val, by omega⟩ D) (Fin.ext (by show 128 * (C.val / 128) + C.val % 128 = C.val; omega))
  · refine (group_apply _ b r (grp C) _).trans ((npow_gen _ _ _).trans ?_)
    rw [Ideal.ofBits_zero_f32, h9, kinv_eq_rinv _ (gR_nonneg _ _ _)]
    rfl

theorem pay11_apply (b : Fin 3) (r : Fin 5632) (C : Fin 2048) :
    k0_pay11 (F := Ideal) (k0_pay4 a0 a1 a2 a3) (k0_pay5 a0 a1 a2 a3) (k0_pay7 a0 a1 a2 a3) (k0_pay8 a0 a1 a2 a3) (Scalar.ofBits .f32 0x00000000#32) (ix3 b r C)
      = RN (gW a0 a1 a2 a3) ⟨5632 * b.val + r.val, by omega⟩ C := by
  have h9 := pay9_apply a0 a1 a2 a3 b r (grp C)
  have h10 := pay10_apply a0 a1 a2 a3 b r C
  have h4 := pay4_apply a0 a1 a2 a3 b r C
  unfold k0_pay11 RN
  generalize k0_pay10 (F := Ideal) (k0_pay5 a0 a1 a2 a3) (k0_pay7 a0 a1 a2 a3) (k0_pay8 a0 a1 a2 a3) (Scalar.ofBits .f32 0x00000000#32) = q at h10 ⊢
  generalize k0_pay9 (F := Ideal) (k0_pay7 a0 a1 a2 a3) (k0_pay8 a0 a1 a2 a3) (Scalar.ofBits .f32 0x00000000#32) = e at h9 ⊢
  generalize k0_pay4 (F := Ideal) a0 a1 a2 a3 = v at h4 ⊢
  refine (diff_gen _ _ _ _).trans (congrArg₂ (α := EReal) (β := EReal) (γ := EReal) (· - ·) h4 ?_)
  refine (shapeCast_apply _ _ _ (ix4 b r (grp C) (⟨C.val % 128, by omega⟩ : Fin 128)) (col_place b r C)).trans ?_
  refine (prod_gen _ _ _).trans (congrArg₂ (α := EReal) (β := EReal) (γ := EReal) (· * ·) ?_ ?_)
  · exact (shapeCast_apply _ _ _ (ix3 b r C) (col_place b r C).symm).trans ((ext_gen _ _ _).trans h10)
  · refine (group_apply _ b r (grp C) _).trans ?_
    have hp : (S3x5632x16.rowMajor (ix3 b r (grp C))).val = (S3x5632x16x1.rowMajor (ix4 b r (grp C) (0 : Fin 1))).val := by
      rw [show (S3x5632x16.rowMajor (ix3 b r (grp C))).val = _ from Shape.rowMajor_val_three _,
        show (S3x5632x16x1.rowMajor (ix4 b r (grp C) (0 : Fin 1))).val = _ from Shape.rowMajor_val_four _]
      show (b.val * 5632 + r.val) * 16 + (grp C).val = ((b.val * 5632 + r.val) * 16 + (grp C).val) * 1 + 0
      omega
    refine (shapeCast_apply _ _ _ (ix3 b r (grp C)) hp).trans ((shapeCast_apply _ _ _ (ix4 b r (grp C) (0 : Fin 1)) hp.symm).trans ?_)
    refine (ppow_gen _ _).trans ?_
    rw [h9, kscl_eq_rexp _ (gR_nonneg _ _ _)]
    rfl

/-- A flat row of a batched array. -/
theorem flat_row {α : Type} (x : S3x5632x2048.Idx → α) (R : Fin 16896) (C : Fin 2048) :
    shapeCast S16896x2048 x shapeCasts_S3x5632x2048_S16896x2048 (ix2 R C)
      = x (ix3 (⟨R.val / 5632, by omega⟩ : Fin 3) (⟨R.val % 5632, by omega⟩ : Fin 5632) C) := by
  refine shapeCast_apply x _ _ _ ?_
  rw [show (S3x5632x2048.rowMajor (ix3 (⟨R.val / 5632, by omega⟩ : Fin 3) (⟨R.val % 5632, by omega⟩ : Fin 5632) C)).val = _ from Shape.rowMajor_val_three _,
    show (S16896x2048.rowMajor (ix2 R C)).val = _ from Shape.rowMajor_val_two _]
  show (R.val / 5632 * 5632 + R.val % 5632) * 2048 + C.val = R.val * 2048 + C.val
  omega

theorem G4_apply (R : Fin 16896) (C : Fin 2048) :
    Cert.ReferenceIdeal.Value.G4 (F := Ideal) a0 a1 a2 a3 (ix2 R C) = RN (gW a0 a1 a2 a3) R C := by
  show k0_pay1 (F := Ideal) (k0_pay11 (k0_pay16 a0 a1 a2 a3) (k0_pay17 a0 a1 a2 a3) (k0_pay18 a0 a1 a2 a3) (k0_pay19 a0 a1 a2 a3) (Scalar.ofBits .f32 0x00000000#32)) (ix2 R C) = _
  rw [pay16_eq, pay17_eq, pay18_eq, pay19_eq]
  unfold k0_pay1
  refine (flat_row _ R C).trans ((pay11_apply a0 a1 a2 a3 _ _ C).trans ?_)
  exact congrArg (fun R => RN (gW a0 a1 a2 a3) R C) (Fin.ext (by show 5632 * (R.val / 5632) + R.val % 5632 = R.val; omega))

theorem G5_apply (R : Fin 16896) (C : Fin 2048) :
    Cert.ReferenceIdeal.Value.G5 (F := Ideal) a0 a1 a2 a3 (ix2 R C) = QR (gW a0 a1 a2 a3) R C := by
  show k0_pay2 (F := Ideal) (k0_pay10 (k0_pay17 a0 a1 a2 a3) (k0_pay18 a0 a1 a2 a3) (k0_pay19 a0 a1 a2 a3) (Scalar.ofBits .f32 0x00000000#32)) (ix2 R C) = _
  rw [pay17_eq, pay18_eq, pay19_eq]
  unfold k0_pay2
  refine (flat_row _ R C).trans ((pay10_apply a0 a1 a2 a3 _ _ C).trans ?_)
  exact congrArg (fun R => QR (gW a0 a1 a2 a3) R C) (Fin.ext (by show 5632 * (R.val / 5632) + R.val % 5632 = R.val; omega))

end Cert.ReferenceIdeal.Run

end
-- ==== Proof.lean ====
module

public import proofs.«01_k».proof.Defs
public import proofs.«01_k».proof.Proof.FFrame
public import proofs.«01_k».proof.Proof.Gen.ReferenceIdeal.Frame
public import proofs.«01_k».proof.Proof.Gen.ReferenceIdeal.Value
public import proofs.«01_k».proof.Proof.KFrame
public import proofs.«01_k».proof.Proof.KPre
public import proofs.«01_k».proof.Proof.KRef

@[expose] public section

noncomputable section

namespace Cert.Proof

open Idealize.ShloMosaic Idealize.ShloMosaic.ValueIdx

/-- The reference's residuals are the kernel's function of the same arguments. -/
theorem residuals_eq (m : (ℓ : Loc Cert.KernelIdeal.nD Cert.KernelIdeal.τ Cert.KernelIdeal.sig) → Buf (Elt Ideal) ℓ) (c : Dev Cert.KernelIdeal.nD) :
    Cert.ReferenceIdeal.Value.G4 (F := Ideal) (Cert.KernelIdeal.Run.A0 m c) (Cert.KernelIdeal.Run.A1 m c) (Cert.KernelIdeal.Run.A2 m c) (Cert.KernelIdeal.Run.A3 m c)
      = Cert.KernelIdeal.Run.GK4 m c := by
  funext i
  rw [eq_ix2 i]
  exact Cert.ReferenceIdeal.Run.G4_apply _ _ _ _ (i 0) (i 1)

/-- The reference's row codes are the kernel's function of the same arguments. -/
theorem row_codes_eq (m : (ℓ : Loc Cert.KernelIdeal.nD Cert.KernelIdeal.τ Cert.KernelIdeal.sig) → Buf (Elt Ideal) ℓ) (c : Dev Cert.KernelIdeal.nD) :
    Cert.ReferenceIdeal.Value.G5 (F := Ideal) (Cert.KernelIdeal.Run.A0 m c) (Cert.KernelIdeal.Run.A1 m c) (Cert.KernelIdeal.Run.A2 m c) (Cert.KernelIdeal.Run.A3 m c)
      = Cert.KernelIdeal.Run.GK5 m c := by
  funext i
  rw [eq_ix2 i]
  exact Cert.ReferenceIdeal.Run.G5_apply _ _ _ _ (i 0) (i 1)

/-- The reference's column codes are the kernel's function of the same arguments. -/
theorem col_codes_eq (m : (ℓ : Loc Cert.KernelIdeal.nD Cert.KernelIdeal.τ Cert.KernelIdeal.sig) → Buf (Elt Ideal) ℓ) (c : Dev Cert.KernelIdeal.nD) :
    Cert.ReferenceIdeal.Value.G6 (F := Ideal) (Cert.KernelIdeal.Run.A0 m c) (Cert.KernelIdeal.Run.A1 m c) (Cert.KernelIdeal.Run.A2 m c) (Cert.KernelIdeal.Run.A3 m c)
      = Cert.KernelIdeal.Run.GK m c := by
  funext i
  rw [eq_ix2 i]
  exact Cert.ReferenceIdeal.Run.G6_apply _ _ _ _ (i 0) (i 1)

/-- The ideal kernel and the ideal reference end with equal residuals, row codes and column codes. -/
theorem algebraic : Cert.algebraic_KernelIdeal_ReferenceIdeal_pre_finite_scales (hKernelIdeal := Cert.KernelIdeal.Gen.facts)
    (hReferenceIdeal := Cert.ReferenceIdeal.Gen.facts) (hPre_finite_scales := Cert.Pre_finite_scales.facts) := by
  intro m g m' g' hpre hargs
  letI := Cert.Pre_finite_scales.facts
  refine ⟨fun c => Cert.KernelIdeal.Run.GK4 m c, fun c => Cert.KernelIdeal.Run.GK5 m c, fun c => Cert.KernelIdeal.Run.GK m c,
    Cert.KernelIdeal.Run.run m g (fun c i => Cert.Pre_finite_scales.real_scales _ _ _ _ (hpre c) i), ?_⟩
  refine (θ_run Cert.ReferenceIdeal.defs _ _).mono (fun r h c => ?_) (Cert.ReferenceIdeal.Value.run (F := Ideal) m' g')
  obtain ⟨h0, h1, h2, h⟩ := h c
  obtain ⟨e0, e1, e2, e3⟩ := hargs c
  rw [e0, e1, e2, e3] at h0 h1 h2
  exact ⟨h0.trans (residuals_eq m c), h1.trans (row_codes_eq m c), h2.trans (col_codes_eq m c), h⟩

/-- The frames of the kernel, of the ideal kernel and of the ideal reference, that the ideal kernel is the kernel, and that
    the ideal kernel and the ideal reference end with equal residuals, row codes and column codes. -/
theorem claim : Cert.Claim :=
  ⟨Cert.Kernel.Gen.facts, Cert.KernelIdeal.Gen.facts, Cert.ReferenceIdeal.Gen.facts, Cert.Pre_finite_scales.facts,
    fun m ρ _ => Cert.Kernel.Run.frame m ρ, fun m ρ _ => Cert.KernelIdeal.Run.frame m ρ, fun m ρ _ => Cert.KernelIdeal.Run.frame m ρ,
    fun m ρ _ => Cert.ReferenceIdeal.Gen.frame m ρ, fun m ρ _ => Cert.ReferenceIdeal.Gen.frame m ρ, trivial, algebraic⟩

end Cert.Proof

end
